-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_down_experts_in_range : Cert.Pre_down_experts_in_range.Facts] (m : (ℓ : Loc Cert.Kernel2.nD Cert.Kernel2.τ Cert.Kernel2.sig) → Buf (Elt Bits) ℓ) : Prop :=
  ∀ c : Dev Cert.Kernel2.nD,
    (Cert.Pre_down_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_down_experts_in_range : Cert.Pre_down_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_down_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal [hPre_down_experts_in_range : Cert.Pre_down_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_down_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 [hPre_up_experts_in_range : Cert.Pre_up_experts_in_range.Facts] (m : (ℓ : Loc Cert.Kernel3.nD Cert.Kernel3.τ Cert.Kernel3.sig) → Buf (Elt Bits) ℓ) : Prop :=
  ∀ c : Dev Cert.Kernel3.nD,
    (Cert.Pre_up_experts_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_up_experts_in_range : Cert.Pre_up_experts_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_up_experts_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal [hPre_up_experts_in_range : Cert.Pre_up_experts_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_up_experts_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_down_experts_in_range : Cert.Pre_down_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_down_experts_in_range : Cert.Pre_down_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] [hPre_down_experts_in_range : Cert.Pre_down_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_up_experts_in_range : Cert.Pre_up_experts_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_up_experts_in_range : Cert.Pre_up_experts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] [hPre_up_experts_in_range : Cert.Pre_up_experts_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] [hPre_down_experts_in_range : Cert.Pre_down_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_up_experts_in_range : Cert.Pre_up_experts_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)) (v1 : (c : Dev Cert.Kernel5Ideal.nD) → Buf (Elt Ideal) ((c.tc : Thread Cert.Kernel5Ideal.nD Cert.Kernel5Ideal.τ).loc Cert.Kernel5Ideal.main_v3)) (v2 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_v3) = v1 c
          ∧ r.2.mem ((c.tc : Thread Cert.Kernel5Ideal.nD Cert.Kernel5Ideal.τ).loc Cert.Kernel5Ideal.main_v5) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_v9) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v19) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_down_experts_in_range : Cert.Pre_down_experts_in_range.Facts) (hPre_up_experts_in_range : Cert.Pre_up_experts_in_range.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_down_experts_in_range := hPre_down_experts_in_range)
    ∧ quiescent_Kernel2Ideal (hKernel2Ideal := hKernel2Ideal) (hPre_down_experts_in_range := hPre_down_experts_in_range)
    ∧ quiescent_Reference2Ideal (hReference2Ideal := hReference2Ideal) (hPre_down_experts_in_range := hPre_down_experts_in_range)
    ∧ quiescent_Kernel3 (hKernel3 := hKernel3) (hPre_up_experts_in_range := hPre_up_experts_in_range)
    ∧ quiescent_Kernel3Ideal (hKernel3Ideal := hKernel3Ideal) (hPre_up_experts_in_range := hPre_up_experts_in_range)
    ∧ quiescent_Reference3Ideal (hReference3Ideal := hReference3Ideal) (hPre_up_experts_in_range := hPre_up_experts_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_down_experts_in_range := hPre_down_experts_in_range)
    ∧ preserves_Kernel3_Kernel3Ideal
    ∧ algebraic_Kernel3Ideal_Reference3Ideal (hKernel3Ideal := hKernel3Ideal) (hReference3Ideal := hReference3Ideal) (hPre_up_experts_in_range := hPre_up_experts_in_range)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_down_experts_in_range.lean ====
abbrev S57344x2048 : Shape := ⟨2, ![57344, 2048]⟩
abbrev S32x2048x2048 : Shape := ⟨3, ![32, 2048, 2048]⟩
abbrev S32x2048 : Shape := ⟨2, ![32, 2048]⟩
abbrev S224 : Shape := ⟨1, ![224]⟩
abbrev S1 : Shape := ⟨1, ![1]⟩
abbrev S_ : Shape := ⟨0, ![]⟩

class Facts : Prop where
  bcast_S_S224 : S_.BroadcastsInDim S224 (![] : Fin 0 → Fin S224.rank)
  reducesTo_S224_S_d0 : S224.ReducesTo [0] S_
  h_S_ : 0 < S_.numel

variable [Facts]

def fn {F : FTy → Type} [FloatOps F] (main_arg0 : FVec F S57344x2048 .bf16) (main_arg1 : FVec F S32x2048x2048 .f32) (main_arg2 : FVec F S32x2048 .f32) (main_arg3 : IVec S224 32) (main_arg4 : IVec S1 32) : IVec S_ 1 :=
  let main_c : IVec S_ 32 := constantI S_ 32 0#32
  let main_v0 : IVec S224 32 := broadcastInDim S224 ![] bcast_S_S224 main_c
  let main_v1 : IVec S224 1 := cmpi .sge main_arg3 main_v0
  let main_c_0 : IVec S_ 32 := constantI S_ 32 32#32
  let main_v2 : IVec S224 32 := broadcastInDim S224 ![] bcast_S_S224 main_c_0
  let main_v3 : IVec S224 1 := cmpi .slt main_arg3 main_v2
  let main_v4 : IVec S224 1 := andi main_v1 main_v3
  let main_c_1 : IVec S_ 1 := constantI S_ 1 1#1
  let main_v5 : IVec S_ 1 := (fun x v => Host.reduce IntOp.andi x v reducesTo_S224_S_d0 h_S_) main_v4 main_c_1
  main_v5
-- ==== Pre_up_experts_in_range.lean ====
abbrev S57344x2048 : Shape := ⟨2, ![57344, 2048]⟩
abbrev S32x2048x4096 : Shape := ⟨3, ![32, 2048, 4096]⟩
abbrev S32x4096 : Shape := ⟨2, ![32, 4096]⟩
abbrev S224 : Shape := ⟨1, ![224]⟩
abbrev S1 : Shape := ⟨1, ![1]⟩
abbrev S_ : Shape := ⟨0, ![]⟩

class Facts : Prop where
  bcast_S_S224 : S_.BroadcastsInDim S224 (![] : Fin 0 → Fin S224.rank)
  reducesTo_S224_S_d0 : S224.ReducesTo [0] S_
  h_S_ : 0 < S_.numel

variable [Facts]

def fn {F : FTy → Type} [FloatOps F] (main_arg0 : FVec F S57344x2048 .bf16) (main_arg1 : FVec F S32x2048x4096 .f32) (main_arg2 : FVec F S32x4096 .f32) (main_arg3 : IVec S224 32) (main_arg4 : IVec S1 32) : IVec S_ 1 :=
  let main_c : IVec S_ 32 := constantI S_ 32 0#32
  let main_v0 : IVec S224 32 := broadcastInDim S224 ![] bcast_S_S224 main_c
  let main_v1 : IVec S224 1 := cmpi .sge main_arg3 main_v0
  let main_c_0 : IVec S_ 32 := constantI S_ 32 32#32
  let main_v2 : IVec S224 32 := broadcastInDim S224 ![] bcast_S_S224 main_c_0
  let main_v3 : IVec S224 1 := cmpi .slt main_arg3 main_v2
  let main_v4 : IVec S224 1 := andi main_v1 main_v3
  let main_c_1 : IVec S_ 1 := constantI S_ 1 1#1
  let main_v5 : IVec S_ 1 := (fun x v => Host.reduce IntOp.andi x v reducesTo_S224_S_d0 h_S_) main_v4 main_c_1
  main_v5
-- ==== Kernel.lean ====
abbrev S12288x3072 : Shape := ⟨2, ![12288, 3072]⟩
abbrev S64 : Shape := ⟨1, ![64]⟩
abbrev S128 : Shape := ⟨1, ![128]⟩
abbrev S_ : Shape := ⟨0, ![]⟩
abbrev S1 : Shape := ⟨1, ![1]⟩
abbrev S1x128 : Shape := ⟨2, ![1, 128]⟩
abbrev S8192x1024 : Shape := ⟨2, ![8192, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 20
  | .vmem => 9
  | .smem => 1
  | _ => 0

abbrev bufTy : (tb : Table) → Fin (tcTables nBuf tb) → BufTy
  | .hbm, ⟨0, _⟩ => ⟨S12288x3072, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S1x128, .f32⟩
  | .hbm, ⟨19, _⟩ => ⟨S8192x1024, .bf16⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S256x128, .bf16⟩
  | .local _ .vmem, ⟨8, _⟩ => ⟨S256x128, .bf16⟩
  | .local _ .smem, ⟨0, _⟩ => ⟨S1, .f32⟩
  | _, _ => ⟨S12288x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S12288x3072 : Shape := ⟨2, ![12288, 3072]⟩
abbrev S64 : Shape := ⟨1, ![64]⟩
abbrev S128 : Shape := ⟨1, ![128]⟩
abbrev S_ : Shape := ⟨0, ![]⟩
abbrev S8192x3072 : Shape := ⟨2, ![8192, 3072]⟩
abbrev S32x256x3072 : Shape := ⟨3, ![32, 256, 3072]⟩
abbrev S32x256x1024 : Shape := ⟨3, ![32, 256, 1024]⟩
abbrev S32x256x8x2x64 : Shape := ⟨5, ![32, 256, 8, 2, 64]⟩
abbrev S32x256x8x128 : Shape := ⟨4, ![32, 256, 8, 128]⟩
abbrev S32x8x2x256x256 : Shape := ⟨5, ![32, 8, 2, 256, 256]⟩
abbrev S32x8x2x256 : Shape := ⟨4, ![32, 8, 2, 256]⟩
abbrev S32x8x2x256x1 : Shape := ⟨5, ![32, 8, 2, 256, 1]⟩
abbrev S32x8x1x256x256 : Shape := ⟨5, ![32, 8, 1, 256, 256]⟩
abbrev S32x8x256x256 : Shape := ⟨4, ![32, 8, 256, 256]⟩
abbrev S32x8x128x256 : Shape := ⟨4, ![32, 8, 128, 256]⟩
abbrev S32x256x8 : Shape := ⟨3, ![32, 256, 8]⟩
abbrev S32x256x8x1 : Shape := ⟨4, ![32, 256, 8, 1]⟩
abbrev S1x1x1x128 : Shape := ⟨4, ![1, 1, 1, 128]⟩
abbrev S8192x1024 : Shape := ⟨2, ![8192, 1024]⟩

abbrev nBuf : Space → Nat
  | .hbm => 73
  | .vmem => 0
  | .smem => 0
  | _ => 0

abbrev bufTy : (tb : Table) → Fin (tcTables nBuf tb) → BufTy
  | .hbm, ⟨0, _⟩ => ⟨S12288x3072, .f32⟩
  | .hbm, ⟨1, _⟩ => ⟨S64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S128, .f32⟩
  | .hbm, ⟨6, _⟩ => ⟨S64, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x3072, .f32⟩
  | .hbm, ⟨18, _⟩ => ⟨S32x256x3072, .f32⟩
  | .hbm, ⟨19, _⟩ => ⟨S32x256x1024, .f32⟩
  | .hbm, ⟨20, _⟩ => ⟨S32x256x1024, .f32⟩
  | .hbm, ⟨21, _⟩ => ⟨S32x256x1024, .f32⟩
  | .hbm, ⟨22, _⟩ => ⟨S32x256x8x2x64, .f32⟩
  | .hbm, ⟨23, _⟩ => ⟨S32x256x8x2x64, .f32⟩
  | .hbm, ⟨24, _⟩ => ⟨S32x256x8x128, .f32⟩
  | .hbm, ⟨25, _⟩ => ⟨S32x8x2x256x256, .f32⟩
  | .hbm, ⟨26, _⟩ => ⟨S_, .f32⟩
  | .hbm, ⟨27, _⟩ => ⟨S32x8x2x256x256, .f32⟩
  | .hbm, ⟨28, _⟩ => ⟨S32x8x2x256x256, .f32⟩
  | .hbm, ⟨29, _⟩ => ⟨S_, .f32⟩
  | .hbm, ⟨30, _⟩ => ⟨S32x8x2x256, .f32⟩
  | .hbm, ⟨31, _⟩ => ⟨S_, .f32⟩
  | .hbm, ⟨32, _⟩ => ⟨S32x8x2x256, .f32⟩
  | .hbm, ⟨33, _⟩ => ⟨S32x8x2x256, .f32⟩
  | .hbm, ⟨34, _⟩ => ⟨S32x8x2x256x1, .f32⟩
  | .hbm, ⟨35, _⟩ => ⟨S32x8x2x256x256, .f32⟩
  | .hbm, ⟨36, _⟩ => ⟨S32x8x2x256x256, .f32⟩
  | .hbm, ⟨37, _⟩ => ⟨S32x8x2x256x256, .f32⟩
  | .hbm, ⟨38, _⟩ => ⟨S_, .f32⟩
  | .hbm, ⟨39, _⟩ => ⟨S32x8x2x256, .f32⟩
  | .hbm, ⟨40, _⟩ => ⟨S32x8x2x256x1, .f32⟩
  | .hbm, ⟨41, _⟩ => ⟨S32x8x2x256x256, .f32⟩
  | .hbm, ⟨42, _⟩ => ⟨S32x8x2x256x256, .f32⟩
  | .hbm, ⟨43, _⟩ => ⟨S32x8x1x256x256, .f32⟩
  | .hbm, ⟨44, _⟩ => ⟨S32x8x256x256, .f32⟩
  | .hbm, ⟨45, _⟩ => ⟨S32x8x1x256x256, .f32⟩
  | .hbm, ⟨46, _⟩ => ⟨S32x8x256x256, .f32⟩
  | .hbm, ⟨47, _⟩ => ⟨S32x8x256x256, .f32⟩
  | .hbm, ⟨48, _⟩ => ⟨S32x8x256x256, .f32⟩
  | .hbm, ⟨49, _⟩ => ⟨S32x8x256x256, .f32⟩
  | .hbm, ⟨50, _⟩ => ⟨S32x8x128x256, .f32⟩
  | .hbm, ⟨51, _⟩ => ⟨S32x256x8x128, .f32⟩
  | .hbm, ⟨52, _⟩ => ⟨S32x256x8x128, .f32⟩
  | .hbm, ⟨53, _⟩ => ⟨S_, .f32⟩
  | .hbm, ⟨54, _⟩ => ⟨S32x256x8, .f32⟩
  | .hbm, ⟨55, _⟩ => ⟨S32x256x8x1, .f32⟩
  | .hbm, ⟨56, _⟩ => ⟨S_, .f32⟩
  | .hbm, ⟨57, _⟩ => ⟨S32x256x8x1, .f32⟩
  | .hbm, ⟨58, _⟩ => ⟨S32x256x8x1, .f32⟩
  | .hbm, ⟨59, _⟩ => ⟨S_, .f32⟩
  | .hbm, ⟨60, _⟩ => ⟨S32x256x8x1, .f32⟩
  | .hbm, ⟨61, _⟩ => ⟨S32x256x8x1, .f32⟩
  | .hbm, ⟨62, _⟩ => ⟨S32x256x8x1, .f32⟩
  | .hbm, ⟨63, _⟩ => ⟨S32x256x8x128, .f32⟩
  | .hbm, ⟨64, _⟩ => ⟨S32x256x8x128, .f32⟩
  | .hbm, ⟨65, _⟩ => ⟨S1x1x1x128, .f32⟩
  | .hbm, ⟨66, _⟩ => ⟨S32x256x8x128, .f32⟩
  | .hbm, ⟨67, _⟩ => ⟨S32x256x8x128, .f32⟩
  | .hbm, ⟨68, _⟩ => ⟨S_, .f32⟩
  | .hbm, ⟨69, _⟩ => ⟨S32x256x8x128, .f32⟩
  | .hbm, ⟨70, _⟩ => ⟨S32x256x8x128, .f32⟩
  | .hbm, ⟨71, _⟩ => ⟨S8192x1024, .f32⟩
  | .hbm, ⟨72, _⟩ => ⟨S8192x1024, .bf16⟩
  | _, _ => ⟨S12288x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Kernel2.lean ====
abbrev S57344x2048 : Shape := ⟨2, ![57344, 2048]⟩
abbrev S32x2048x2048 : Shape := ⟨3, ![32, 2048, 2048]⟩
abbrev S32x2048 : Shape := ⟨2, ![32, 2048]⟩
abbrev S224 : Shape := ⟨1, ![224]⟩
abbrev S1 : Shape := ⟨1, ![1]⟩
abbrev S32x1x2048 : Shape := ⟨3, ![32, 1, 2048]⟩
abbrev S256x2048 : Shape := ⟨2, ![256, 2048]⟩
abbrev S1x2048x1024 : Shape := ⟨3, ![1, 2048, 1024]⟩
abbrev S1x1x1024 : Shape := ⟨3, ![1, 1, 1024]⟩
abbrev S256x1024 : Shape := ⟨2, ![256, 1024]⟩
abbrev S2048x1024 : Shape := ⟨2, ![2048, 1024]⟩
abbrev S1x1024 : Shape := ⟨2, ![1, 1024]⟩

abbrev nBuf : Space → Nat
  | .hbm => 5
  | .vmem => 9
  | .smem => 2
  | _ => 0

abbrev bufTy : (tb : Table) → Fin (tcTables nBuf tb) → BufTy
  | .hbm, ⟨0, _⟩ => ⟨S57344x2048, .bf16⟩
  | .hbm, ⟨1, _⟩ => ⟨S32x2048x2048, .f32⟩
  | .hbm, ⟨2, _⟩ => ⟨S32x2048, .f32⟩
  | .hbm, ⟨3, _⟩ => ⟨S32x1x2048, .f32⟩
  | .hbm, ⟨4, _⟩ => ⟨S57344x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1x1024, .f32⟩
  | .local _ .vmem, ⟨5, _⟩ => ⟨S1x1x1024, .f32⟩
  | .local _ .vmem, ⟨6, _⟩ => ⟨S256x1024, .f32⟩
  | .local _ .vmem, ⟨7, _⟩ => ⟨S256x1024, .f32⟩
  | .local _ .vmem, ⟨8, _⟩ => ⟨S2048x1024, .bf16⟩
  | .local _ .smem, ⟨0, _⟩ => ⟨S224, .i32⟩
  | .local _ .smem, ⟨1, _⟩ => ⟨S1, .i32⟩
  | _, _ => ⟨S57344x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 224], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S224.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S224) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S224.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S224) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S57344x2048 : Shape := ⟨2, ![57344, 2048]⟩
abbrev S32x2048x2048 : Shape := ⟨3, ![32, 2048, 2048]⟩
abbrev S32x2048 : Shape := ⟨2, ![32, 2048]⟩
abbrev S224 : Shape := ⟨1, ![224]⟩
abbrev S1 : Shape := ⟨1, ![1]⟩
abbrev S224x256x2048 : Shape := ⟨3, ![224, 256, 2048]⟩
abbrev S_ : Shape := ⟨0, ![]⟩
abbrev S224x1 : Shape := ⟨2, ![224, 1]⟩
abbrev S224x2048x2048 : Shape := ⟨3, ![224, 2048, 2048]⟩
abbrev S224x2048 : Shape := ⟨2, ![224, 2048]⟩
abbrev S224x1x2048 : Shape := ⟨3, ![224, 1, 2048]⟩
abbrev S224x1x1 : Shape := ⟨3, ![224, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S57344x2048, .bf16⟩
  | .hbm, ⟨1, _⟩ => ⟨S32x2048x2048, .f32⟩
  | .hbm, ⟨2, _⟩ => ⟨S32x2048, .f32⟩
  | .hbm, ⟨3, _⟩ => ⟨S224, .i32⟩
  | .hbm, ⟨4, _⟩ => ⟨S1, .i32⟩
  | .hbm, ⟨5, _⟩ => ⟨S57344x2048, .f32⟩
  | .hbm, ⟨6, _⟩ => ⟨S224x256x2048, .f32⟩
  | .hbm, ⟨7, _⟩ => ⟨S_, .i32⟩
  | .hbm, ⟨8, _⟩ => ⟨S224, .i32⟩
  | .hbm, ⟨9, _⟩ => ⟨S224, .i1⟩
  | .hbm, ⟨10, _⟩ => ⟨S_, .i32⟩
  | .hbm, ⟨11, _⟩ => ⟨S224, .i32⟩
  | .hbm, ⟨12, _⟩ => ⟨S224, .i32⟩
  | .hbm, ⟨13, _⟩ => ⟨S224, .i32⟩
  | .hbm, ⟨14, _⟩ => ⟨S224x1, .i32⟩
  | .hbm, ⟨15, _⟩ => ⟨S224x2048x2048, .f32⟩
  | .hbm, ⟨16, _⟩ => ⟨S224x256x2048, .f32⟩
  | .hbm, ⟨17, _⟩ => ⟨S_, .i32⟩
  | .hbm, ⟨18, _⟩ => ⟨S224, .i32⟩
  | .hbm, ⟨19, _⟩ => ⟨S224, .i1⟩
  | .hbm, ⟨20, _⟩ => ⟨S_, .i32⟩
  | .hbm, ⟨21, _⟩ => ⟨S224, .i32⟩
  | .hbm, ⟨22, _⟩ => ⟨S224, .i32⟩
  | .hbm, ⟨23, _⟩ => ⟨S224, .i32⟩
  | .hbm, ⟨24, _⟩ => ⟨S224x1, .i32⟩
  | .hbm, ⟨25, _⟩ => ⟨S224x2048, .f32⟩
  | .hbm, ⟨26, _⟩ => ⟨S224x1x2048, .f32⟩
  | .hbm, ⟨27, _⟩ => ⟨S224x256x2048, .f32⟩
  | .hbm, ⟨28, _⟩ => ⟨S224x256x2048, .f32⟩
  | .hbm, ⟨29, _⟩ => ⟨S224, .i32⟩
  | .hbm, ⟨30, _⟩ => ⟨S_, .i32⟩
  | .hbm, ⟨31, _⟩ => ⟨S224, .i32⟩
  | .hbm, ⟨32, _⟩ => ⟨S224, .i1⟩
  | .hbm, ⟨33, _⟩ => ⟨S224x1x1, .i1⟩
  | .hbm, ⟨34, _⟩ => ⟨S_, .f32⟩
  | .hbm, ⟨35, _⟩ => ⟨S_, .f32⟩
  | .hbm, ⟨36, _⟩ => ⟨S224x256x2048, .i1⟩
  | .hbm, ⟨37, _⟩ => ⟨S224x256x2048, .f32⟩
  | .hbm, ⟨38, _⟩ => ⟨S224x256x2048, .f32⟩
  | .hbm, ⟨39, _⟩ => ⟨S57344x2048, .f32⟩
  | _, _ => ⟨S57344x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel3.lean ====
abbrev S57344x2048 : Shape := ⟨2, ![57344, 2048]⟩
abbrev S32x2048x4096 : Shape := ⟨3, ![32, 2048, 4096]⟩
abbrev S32x4096 : Shape := ⟨2, ![32, 4096]⟩
abbrev S224 : Shape := ⟨1, ![224]⟩
abbrev S1 : Shape := ⟨1, ![1]⟩
abbrev S32x1x4096 : Shape := ⟨3, ![32, 1, 4096]⟩
abbrev S256x128 : Shape := ⟨2, ![256, 128]⟩
abbrev S_ : Shape := ⟨0, ![]⟩
abbrev S256x2048 : Shape := ⟨2, ![256, 2048]⟩
abbrev S1x2048x1024 : Shape := ⟨3, ![1, 2048, 1024]⟩
abbrev S1x1x1024 : Shape := ⟨3, ![1, 1, 1024]⟩
abbrev S256x512 : Shape := ⟨2, ![256, 512]⟩
abbrev S2048x1024 : Shape := ⟨2, ![2048, 1024]⟩
abbrev S256x256 : Shape := ⟨2, ![256, 256]⟩
abbrev S2048x256 : Shape := ⟨2, ![2048, 256]⟩
abbrev S1x1x256 : Shape := ⟨3, ![1, 1, 256]⟩
abbrev S1x256 : Shape := ⟨2, ![1, 256]⟩

abbrev nBuf : Space → Nat
  | .hbm => 16
  | .vmem => 10
  | .smem => 2
  | _ => 0

abbrev bufTy : (tb : Table) → Fin (tcTables nBuf tb) → BufTy
  | .hbm, ⟨0, _⟩ => ⟨S57344x2048, .bf16⟩
  | .hbm, ⟨1, _⟩ => ⟨S32x2048x4096, .f32⟩
  | .hbm, ⟨2, _⟩ => ⟨S32x4096, .f32⟩
  | .hbm, ⟨3, _⟩ => ⟨S32x1x4096, .f32⟩
  | .hbm, ⟨4, _⟩ => ⟨S256x128, .i32⟩
  | .hbm, ⟨5, _⟩ => ⟨S256x128, .i32⟩
  | .hbm, ⟨6, _⟩ => ⟨S_, .i32⟩
  | .hbm, ⟨7, _⟩ => ⟨S256x128, .i32⟩
  | .hbm, ⟨8, _⟩ => ⟨S256x128, .i32⟩
  | .hbm, ⟨9, _⟩ => ⟨S256x128, .i1⟩
  | .hbm, ⟨10, _⟩ => ⟨S_, .bf16⟩
  | .hbm, ⟨11, _⟩ => ⟨S256x128, .bf16⟩
  | .hbm, ⟨12, _⟩ => ⟨S_, .bf16⟩
  | .hbm, ⟨13, _⟩ => ⟨S256x128, .bf16⟩
  | .hbm, ⟨14, _⟩ => ⟨S256x128, .bf16⟩
  | .hbm, ⟨15, _⟩ => ⟨S57344x2048, .bf16⟩
  | .local _ .vmem, ⟨0, _⟩ => ⟨S256x2048, .bf16⟩
  | .local _ .vmem, ⟨1, _⟩ => ⟨S256x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1x1024, .f32⟩
  | .local _ .vmem, ⟨5, _⟩ => ⟨S1x1x1024, .f32⟩
  | .local _ .vmem, ⟨6, _⟩ => ⟨S256x128, .bf16⟩
  | .local _ .vmem, ⟨7, _⟩ => ⟨S256x512, .bf16⟩
  | .local _ .vmem, ⟨8, _⟩ => ⟨S256x512, .bf16⟩
  | .local _ .vmem, ⟨9, _⟩ => ⟨S2048x1024, .bf16⟩
  | .local _ .smem, ⟨0, _⟩ => ⟨S224, .i32⟩
  | .local _ .smem, ⟨1, _⟩ => ⟨S1, .i32⟩
  | _, _ => ⟨S57344x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 224], ![false, false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg1 : BitVec 32 := BitVec.ofNat 32 (i 1).val
  let v12 : BitVec 1 := Scalar.cmpi .slt arg1 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg1 : BitVec 32 := BitVec.ofNat 32 (i 1).val
  let v16 : BitVec 1 := Scalar.cmpi .sge arg1 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S224.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S224) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S224.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S224) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S57344x2048 : Shape := ⟨2, ![57344, 2048]⟩
abbrev S32x2048x4096 : Shape := ⟨3, ![32, 2048, 4096]⟩
abbrev S32x4096 : Shape := ⟨2, ![32, 4096]⟩
abbrev S224 : Shape := ⟨1, ![224]⟩
abbrev S1 : Shape := ⟨1, ![1]⟩
abbrev S224x256x2048 : Shape := ⟨3, ![224, 256, 2048]⟩
abbrev S_ : Shape := ⟨0, ![]⟩
abbrev S224x1 : Shape := ⟨2, ![224, 1]⟩
abbrev S224x2048x4096 : Shape := ⟨3, ![224, 2048, 4096]⟩
abbrev S224x256x4096 : Shape := ⟨3, ![224, 256, 4096]⟩
abbrev S224x4096 : Shape := ⟨2, ![224, 4096]⟩
abbrev S224x1x4096 : Shape := ⟨3, ![224, 1, 4096]⟩
abbrev S224x1x1 : Shape := ⟨3, ![224, 1, 1]⟩

abbrev nBuf : Space → Nat
  | .hbm => 70
  | .vmem => 0
  | .smem => 0
  | _ => 0

abbrev bufTy : (tb : Table) → Fin (tcTables nBuf tb) → BufTy
  | .hbm, ⟨0, _⟩ => ⟨S57344x2048, .bf16⟩
  | .hbm, ⟨1, _⟩ => ⟨S32x2048x4096, .f32⟩
  | .hbm, ⟨2, _⟩ => ⟨S32x4096, .f32⟩
  | .hbm, ⟨3, _⟩ => ⟨S224, .i32⟩
  | .hbm, ⟨4, _⟩ => ⟨S1, .i32⟩
  | .hbm, ⟨5, _⟩ => ⟨S57344x2048, .f32⟩
  | .hbm, ⟨6, _⟩ => ⟨S224x256x2048, .f32⟩
  | .hbm, ⟨7, _⟩ => ⟨S_, .i32⟩
  | .hbm, ⟨8, _⟩ => ⟨S224, .i32⟩
  | .hbm, ⟨9, _⟩ => ⟨S224, .i1⟩
  | .hbm, ⟨10, _⟩ => ⟨S_, .i32⟩
  | .hbm, ⟨11, _⟩ => ⟨S224, .i32⟩
  | .hbm, ⟨12, _⟩ => ⟨S224, .i32⟩
  | .hbm, ⟨13, _⟩ => ⟨S224, .i32⟩
  | .hbm, ⟨14, _⟩ => ⟨S224x1, .i32⟩
  | .hbm, ⟨15, _⟩ => ⟨S224x2048x4096, .f32⟩
  | .hbm, ⟨16, _⟩ => ⟨S224x256x4096, .f32⟩
  | .hbm, ⟨17, _⟩ => ⟨S_, .i32⟩
  | .hbm, ⟨18, _⟩ => ⟨S224, .i32⟩
  | .hbm, ⟨19, _⟩ => ⟨S224, .i1⟩
  | .hbm, ⟨20, _⟩ => ⟨S_, .i32⟩
  | .hbm, ⟨21, _⟩ => ⟨S224, .i32⟩
  | .hbm, ⟨22, _⟩ => ⟨S224, .i32⟩
  | .hbm, ⟨23, _⟩ => ⟨S224, .i32⟩
  | .hbm, ⟨24, _⟩ => ⟨S224x1, .i32⟩
  | .hbm, ⟨25, _⟩ => ⟨S224x4096, .f32⟩
  | .hbm, ⟨26, _⟩ => ⟨S224x1x4096, .f32⟩
  | .hbm, ⟨27, _⟩ => ⟨S224x256x4096, .f32⟩
  | .hbm, ⟨28, _⟩ => ⟨S224x256x4096, .f32⟩
  | .hbm, ⟨29, _⟩ => ⟨S224x256x2048, .f32⟩
  | .hbm, ⟨30, _⟩ => ⟨S_, .f32⟩
  | .hbm, ⟨31, _⟩ => ⟨S224x256x2048, .f32⟩
  | .hbm, ⟨32, _⟩ => ⟨S224x256x2048, .f32⟩
  | .hbm, ⟨33, _⟩ => ⟨S224x256x2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S224x256x2048, .f32⟩
  | .hbm, ⟨38, _⟩ => ⟨S224x256x2048, .f32⟩
  | .hbm, ⟨39, _⟩ => ⟨S_, .f32⟩
  | .hbm, ⟨40, _⟩ => ⟨S224x256x2048, .f32⟩
  | .hbm, ⟨41, _⟩ => ⟨S224x256x2048, .f32⟩
  | .hbm, ⟨42, _⟩ => ⟨S_, .f32⟩
  | .hbm, ⟨43, _⟩ => ⟨S224x256x2048, .f32⟩
  | .hbm, ⟨44, _⟩ => ⟨S224x256x2048, .f32⟩
  | .hbm, ⟨45, _⟩ => ⟨S_, .f32⟩
  | .hbm, ⟨46, _⟩ => ⟨S224x256x2048, .f32⟩
  | .hbm, ⟨47, _⟩ => ⟨S224x256x2048, .f32⟩
  | .hbm, ⟨48, _⟩ => ⟨S224x256x2048, .f32⟩
  | .hbm, ⟨49, _⟩ => ⟨S224x256x2048, .f32⟩
  | .hbm, ⟨50, _⟩ => ⟨S_, .f32⟩
  | .hbm, ⟨51, _⟩ => ⟨S224x256x2048, .f32⟩
  | .hbm, ⟨52, _⟩ => ⟨S224x256x2048, .f32⟩
  | .hbm, ⟨53, _⟩ => ⟨S_, .f32⟩
  | .hbm, ⟨54, _⟩ => ⟨S224x256x2048, .f32⟩
  | .hbm, ⟨55, _⟩ => ⟨S224x256x2048, .f32⟩
  | .hbm, ⟨56, _⟩ => ⟨S224x256x2048, .f32⟩
  | .hbm, ⟨57, _⟩ => ⟨S224x256x2048, .f32⟩
  | .hbm, ⟨58, _⟩ => ⟨S224, .i32⟩
  | .hbm, ⟨59, _⟩ => ⟨S_, .i32⟩
  | .hbm, ⟨60, _⟩ => ⟨S224, .i32⟩
  | .hbm, ⟨61, _⟩ => ⟨S224, .i1⟩
  | .hbm, ⟨62, _⟩ => ⟨S224x1x1, .i1⟩
  | .hbm, ⟨63, _⟩ => ⟨S_, .f32⟩
  | .hbm, ⟨64, _⟩ => ⟨S_, .f32⟩
  | .hbm, ⟨65, _⟩ => ⟨S224x256x2048, .i1⟩
  | .hbm, ⟨66, _⟩ => ⟨S224x256x2048, .f32⟩
  | .hbm, ⟨67, _⟩ => ⟨S224x256x2048, .f32⟩
  | .hbm, ⟨68, _⟩ => ⟨S57344x2048, .f32⟩
  | .hbm, ⟨69, _⟩ => ⟨S57344x2048, .bf16⟩
  | _, _ => ⟨S57344x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_9 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩

abbrev nD : Nat := 1
abbrev τ : Topo := Topo.v7x

variable {F : FTy → Type} [FloatOps F]
-- ==== Kernel4.lean ====
abbrev S12288x2048 : Shape := ⟨2, ![12288, 2048]⟩
abbrev S2048x6144 : Shape := ⟨2, ![2048, 6144]⟩
abbrev S6144 : Shape := ⟨1, ![6144]⟩
abbrev S1x6144 : Shape := ⟨2, ![1, 6144]⟩
abbrev S12288x6144 : Shape := ⟨2, ![12288, 6144]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩

abbrev nBuf : Space → Nat
  | .hbm => 5
  | .vmem => 9
  | .smem => 0
  | _ => 0

abbrev bufTy : (tb : Table) → Fin (tcTables nBuf tb) → BufTy
  | .hbm, ⟨0, _⟩ => ⟨S12288x2048, .bf16⟩
  | .hbm, ⟨1, _⟩ => ⟨S2048x6144, .f32⟩
  | .hbm, ⟨2, _⟩ => ⟨S6144, .f32⟩
  | .hbm, ⟨3, _⟩ => ⟨S1x6144, .f32⟩
  | .hbm, ⟨4, _⟩ => ⟨S12288x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S2048x512, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![12, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S12288x2048 : Shape := ⟨2, ![12288, 2048]⟩
abbrev S2048x6144 : Shape := ⟨2, ![2048, 6144]⟩
abbrev S6144 : Shape := ⟨1, ![6144]⟩
abbrev S12288x6144 : Shape := ⟨2, ![12288, 6144]⟩
abbrev S1x6144 : Shape := ⟨2, ![1, 6144]⟩

abbrev nBuf : Space → Nat
  | .hbm => 8
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S2048x6144, .f32⟩
  | .hbm, ⟨2, _⟩ => ⟨S6144, .f32⟩
  | .hbm, ⟨3, _⟩ => ⟨S12288x2048, .f32⟩
  | .hbm, ⟨4, _⟩ => ⟨S12288x6144, .f32⟩
  | .hbm, ⟨5, _⟩ => ⟨S1x6144, .f32⟩
  | .hbm, ⟨6, _⟩ => ⟨S12288x6144, .f32⟩
  | .hbm, ⟨7, _⟩ => ⟨S12288x6144, .f32⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S12288x2048 : Shape := ⟨2, ![12288, 2048]⟩
abbrev S2048x5664 : Shape := ⟨2, ![2048, 5664]⟩
abbrev S2048x3072 : Shape := ⟨2, ![2048, 3072]⟩
abbrev S12288x3072 : Shape := ⟨2, ![12288, 3072]⟩
abbrev S1024x2048 : Shape := ⟨2, ![1024, 2048]⟩
abbrev S2048x512 : Shape := ⟨2, ![2048, 512]⟩
abbrev S1024x512 : Shape := ⟨2, ![1024, 512]⟩
abbrev S8192x1024 : Shape := ⟨2, ![8192, 1024]⟩
abbrev S32x256x8x128 : Shape := ⟨4, ![32, 256, 8, 128]⟩

abbrev nBuf : Space → Nat
  | .hbm => 8
  | .vmem => 7
  | .smem => 0
  | _ => 0

abbrev bufTy : (tb : Table) → Fin (tcTables nBuf tb) → BufTy
  | .hbm, ⟨0, _⟩ => ⟨S12288x2048, .bf16⟩
  | .hbm, ⟨1, _⟩ => ⟨S2048x5664, .f32⟩
  | .hbm, ⟨2, _⟩ => ⟨S2048x3072, .f32⟩
  | .hbm, ⟨3, _⟩ => ⟨S12288x3072, .f32⟩
  | .hbm, ⟨4, _⟩ => ⟨S8192x1024, .f32⟩
  | .hbm, ⟨5, _⟩ => ⟨S32x256x8x128, .f32⟩
  | .hbm, ⟨6, _⟩ => ⟨S8192x1024, .f32⟩
  | .hbm, ⟨7, _⟩ => ⟨S32x256x8x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S12288x2048 : Shape := ⟨2, ![12288, 2048]⟩
abbrev S2048x5664 : Shape := ⟨2, ![2048, 5664]⟩
abbrev S12288x5664 : Shape := ⟨2, ![12288, 5664]⟩
abbrev S12288x3072 : Shape := ⟨2, ![12288, 3072]⟩
abbrev S12288x1024 : Shape := ⟨2, ![12288, 1024]⟩
abbrev S8192x1024 : Shape := ⟨2, ![8192, 1024]⟩
abbrev S32x256x8x128 : Shape := ⟨4, ![32, 256, 8, 128]⟩

abbrev nBuf : Space → Nat
  | .hbm => 12
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S2048x5664, .f32⟩
  | .hbm, ⟨2, _⟩ => ⟨S12288x2048, .f32⟩
  | .hbm, ⟨3, _⟩ => ⟨S12288x5664, .f32⟩
  | .hbm, ⟨4, _⟩ => ⟨S12288x3072, .f32⟩
  | .hbm, ⟨5, _⟩ => ⟨S12288x1024, .f32⟩
  | .hbm, ⟨6, _⟩ => ⟨S12288x1024, .f32⟩
  | .hbm, ⟨7, _⟩ => ⟨S12288x1024, .f32⟩
  | .hbm, ⟨8, _⟩ => ⟨S8192x1024, .f32⟩
  | .hbm, ⟨9, _⟩ => ⟨S32x256x8x128, .f32⟩
  | .hbm, ⟨10, _⟩ => ⟨S8192x1024, .f32⟩
  | .hbm, ⟨11, _⟩ => ⟨S32x256x8x128, .f32⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel6.lean ====
abbrev S12288x2048 : Shape := ⟨2, ![12288, 2048]⟩
abbrev S2048 : Shape := ⟨1, ![2048]⟩
abbrev S1x2048 : Shape := ⟨2, ![1, 2048]⟩
abbrev S8192x2048 : Shape := ⟨2, ![8192, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S1x2048, .f32⟩
  | .hbm, ⟨3, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S12288x2048 : Shape := ⟨2, ![12288, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel7.lean ====
abbrev S12288x2048 : Shape := ⟨2, ![12288, 2048]⟩
abbrev S2048 : Shape := ⟨1, ![2048]⟩
abbrev S1x2048 : Shape := ⟨2, ![1, 2048]⟩
abbrev S4096x2048 : Shape := ⟨2, ![4096, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S1x2048, .f32⟩
  | .hbm, ⟨3, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | _, _ => ⟨S12288x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S12288x2048 : Shape := ⟨2, ![12288, 2048]⟩
abbrev S2048 : Shape := ⟨1, ![2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S12288x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | _, _ => ⟨S12288x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel8.lean ====
abbrev S12288x2048 : Shape := ⟨2, ![12288, 2048]⟩
abbrev S2048x5664 : Shape := ⟨2, ![2048, 5664]⟩
abbrev S12288x2560 : Shape := ⟨2, ![12288, 2560]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S12288x2048, .bf16⟩
  | .hbm, ⟨1, _⟩ => ⟨S2048x5664, .f32⟩
  | .hbm, ⟨2, _⟩ => ⟨S12288x2560, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S2048x512, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S12288x2048 : Shape := ⟨2, ![12288, 2048]⟩
abbrev S2048x5664 : Shape := ⟨2, ![2048, 5664]⟩
abbrev S12288x5664 : Shape := ⟨2, ![12288, 5664]⟩
abbrev S12288x2560 : Shape := ⟨2, ![12288, 2560]⟩

abbrev nBuf : Space → Nat
  | .hbm => 5
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S2048x5664, .f32⟩
  | .hbm, ⟨2, _⟩ => ⟨S12288x2048, .f32⟩
  | .hbm, ⟨3, _⟩ => ⟨S12288x5664, .f32⟩
  | .hbm, ⟨4, _⟩ => ⟨S12288x2560, .f32⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S12288x2048 : Shape := ⟨2, ![12288, 2048]⟩
abbrev S3x8x2048 : Shape := ⟨3, ![3, 8, 2048]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S2048x512 : Shape := ⟨2, ![2048, 512]⟩
abbrev S1x512 : Shape := ⟨2, ![1, 512]⟩
abbrev S1024x512 : Shape := ⟨2, ![1024, 512]⟩
abbrev S1x8x512 : Shape := ⟨3, ![1, 8, 512]⟩
abbrev S1x1x512 : Shape := ⟨3, ![1, 1, 512]⟩

abbrev nBuf : Space → Nat
  | .hbm => 7
  | .vmem => 13
  | .smem => 0
  | _ => 0

abbrev bufTy : (tb : Table) → Fin (tcTables nBuf tb) → BufTy
  | .hbm, ⟨0, _⟩ => ⟨S12288x2048, .bf16⟩
  | .hbm, ⟨1, _⟩ => ⟨S12288x2048, .f32⟩
  | .hbm, ⟨2, _⟩ => ⟨S3x8x2048, .f32⟩
  | .hbm, ⟨3, _⟩ => ⟨S2048x2048, .f32⟩
  | .hbm, ⟨4, _⟩ => ⟨S2048, .f32⟩
  | .hbm, ⟨5, _⟩ => ⟨S1x2048, .f32⟩
  | .hbm, ⟨6, _⟩ => ⟨S12288x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1x8x512, .f32⟩
  | .local _ .vmem, ⟨9, _⟩ => ⟨S1x8x512, .f32⟩
  | .local _ .vmem, ⟨10, _⟩ => ⟨S1024x512, .f32⟩
  | .local _ .vmem, ⟨11, _⟩ => ⟨S1024x512, .f32⟩
  | .local _ .vmem, ⟨12, _⟩ => ⟨S2048x512, .bf16⟩
  | _, _ => ⟨S12288x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_6 : BitVec 32 := 0#32
  let v21 : BitVec 32 := Scalar.select v1 c0_i32_6 v20
  let c0_i32_7 : BitVec 32 := 0#32
  let c0_i32_8 : BitVec 32 := 0#32
  ![v21.toNat, c0_i32_7.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S12288x2048 : Shape := ⟨2, ![12288, 2048]⟩
abbrev S3x8x2048 : Shape := ⟨3, ![3, 8, 2048]⟩
abbrev S2048x2048 : Shape := ⟨2, ![2048, 2048]⟩
abbrev S2048 : Shape := ⟨1, ![2048]⟩
abbrev S1x2048 : Shape := ⟨2, ![1, 2048]⟩
abbrev S3x1x2048 : Shape := ⟨3, ![3, 1, 2048]⟩
abbrev S3x2048 : Shape := ⟨2, ![3, 2048]⟩
abbrev S12288x1 : Shape := ⟨2, ![12288, 1]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S12288x2048, .bf16⟩
  | .hbm, ⟨1, _⟩ => ⟨S12288x2048, .f32⟩
  | .hbm, ⟨2, _⟩ => ⟨S3x8x2048, .f32⟩
  | .hbm, ⟨3, _⟩ => ⟨S2048x2048, .f32⟩
  | .hbm, ⟨4, _⟩ => ⟨S2048, .f32⟩
  | .hbm, ⟨5, _⟩ => ⟨S12288x2048, .f32⟩
  | .hbm, ⟨6, _⟩ => ⟨S12288x2048, .f32⟩
  | .hbm, ⟨7, _⟩ => ⟨S1x2048, .f32⟩
  | .hbm, ⟨8, _⟩ => ⟨S12288x2048, .f32⟩
  | .hbm, ⟨9, _⟩ => ⟨S12288x2048, .f32⟩
  | .hbm, ⟨10, _⟩ => ⟨S3x1x2048, .f32⟩
  | .hbm, ⟨11, _⟩ => ⟨S3x2048, .f32⟩
  | .hbm, ⟨12, _⟩ => ⟨S12288x1, .i32⟩
  | .hbm, ⟨13, _⟩ => ⟨S_, .i32⟩
  | .hbm, ⟨14, _⟩ => ⟨S12288x1, .i32⟩
  | .hbm, ⟨15, _⟩ => ⟨S12288x1, .i1⟩
  | .hbm, ⟨16, _⟩ => ⟨S1x2048, .f32⟩
  | .hbm, ⟨17, _⟩ => ⟨S2048, .f32⟩
  | .hbm, ⟨18, _⟩ => ⟨S_, .i32⟩
  | .hbm, ⟨19, _⟩ => ⟨S12288x1, .i32⟩
  | .hbm, ⟨20, _⟩ => ⟨S12288x1, .i1⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S2048, .f32⟩
  | .hbm, ⟨25, _⟩ => ⟨S12288x2048, .i1⟩
  | .hbm, ⟨26, _⟩ => ⟨S12288x2048, .f32⟩
  | .hbm, ⟨27, _⟩ => ⟨S12288x2048, .f32⟩
  | .hbm, ⟨28, _⟩ => ⟨S12288x2048, .f32⟩
  | .hbm, ⟨29, _⟩ => ⟨S12288x2048, .i1⟩
  | .hbm, ⟨30, _⟩ => ⟨S12288x2048, .f32⟩
  | .hbm, ⟨31, _⟩ => ⟨S12288x2048, .f32⟩
  | .hbm, ⟨32, _⟩ => ⟨S12288x2048, .f32⟩
  | .hbm, ⟨33, _⟩ => ⟨S12288x2048, .f32⟩
  | _, _ => ⟨S12288x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_call1_v0 : Ref sig .tc := ⟨.hbm, 29, rfl⟩
abbrev main_call1_v1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Kernel10.lean ====
abbrev S12288x1024 : Shape := ⟨2, ![12288, 1024]⟩
abbrev S12288x2048 : Shape := ⟨2, ![12288, 2048]⟩
abbrev S3x8x2048 : Shape := ⟨3, ![3, 8, 2048]⟩
abbrev S2048x2048 : Shape := ⟨2, ![2048, 2048]⟩
abbrev S1024x1024 : Shape := ⟨2, ![1024, 1024]⟩
abbrev S2048x512 : Shape := ⟨2, ![2048, 512]⟩
abbrev S1024x512 : Shape := ⟨2, ![1024, 512]⟩
abbrev S1x8x512 : Shape := ⟨3, ![1, 8, 512]⟩
abbrev S1x1x512 : Shape := ⟨3, ![1, 1, 512]⟩
abbrev S1x512 : Shape := ⟨2, ![1, 512]⟩

abbrev nBuf : Space → Nat
  | .hbm => 6
  | .vmem => 13
  | .smem => 0
  | _ => 0

abbrev bufTy : (tb : Table) → Fin (tcTables nBuf tb) → BufTy
  | .hbm, ⟨0, _⟩ => ⟨S12288x1024, .bf16⟩
  | .hbm, ⟨1, _⟩ => ⟨S12288x1024, .bf16⟩
  | .hbm, ⟨2, _⟩ => ⟨S12288x2048, .f32⟩
  | .hbm, ⟨3, _⟩ => ⟨S3x8x2048, .f32⟩
  | .hbm, ⟨4, _⟩ => ⟨S2048x2048, .f32⟩
  | .hbm, ⟨5, _⟩ => ⟨S12288x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x512, .f32⟩
  | .local _ .vmem, ⟨5, _⟩ => ⟨S2048x512, .f32⟩
  | .local _ .vmem, ⟨6, _⟩ => ⟨S1024x512, .f32⟩
  | .local _ .vmem, ⟨7, _⟩ => ⟨S1024x512, .f32⟩
  | .local _ .vmem, ⟨8, _⟩ => ⟨S1x8x512, .f32⟩
  | .local _ .vmem, ⟨9, _⟩ => ⟨S1x8x512, .f32⟩
  | .local _ .vmem, ⟨10, _⟩ => ⟨S1024x512, .f32⟩
  | .local _ .vmem, ⟨11, _⟩ => ⟨S1024x512, .f32⟩
  | .local _ .vmem, ⟨12, _⟩ => ⟨S2048x512, .bf16⟩
  | _, _ => ⟨S12288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c8192_i32 : BitVec 32 := 8192#32
  let v1 : BitVec 1 := Scalar.cmpi .slt v0 c8192_i32
  let c8192_i32_0 : BitVec 32 := 8192#32
  let v2 : BitVec 32 := Scalar.subi v0 c8192_i32_0
  let c2048_i32 : BitVec 32 := 2048#32
  let v3 : BitVec 32 := Scalar.divsi v2 c2048_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2048_i32 c0_i32_2
  let v10 : BitVec 32 := Scalar.extui v9
  let c0_i32_3 : BitVec 32 := 0#32
  let v11 : BitVec 1 := Scalar.cmpi .slt c2048_i32 c0_i32_3
  let v12 : BitVec 32 := Scalar.extui v11
  let v13 : BitVec 32 := Scalar.subi v10 v12
  let v14 : BitVec 1 := Scalar.cmpi .ne v8 v13
  let v15 : BitVec 32 := Scalar.remsi v2 c2048_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi v19 c1_i32_5
  let c0_i32_6 : BitVec 32 := 0#32
  let v21 : BitVec 32 := Scalar.select v1 c0_i32_6 v20
  let c0_i32_7 : BitVec 32 := 0#32
  let c0_i32_8 : BitVec 32 := 0#32
  ![v21.toNat, c0_i32_7.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S12288x1024 : Shape := ⟨2, ![12288, 1024]⟩
abbrev S12288x2048 : Shape := ⟨2, ![12288, 2048]⟩
abbrev S3x8x2048 : Shape := ⟨3, ![3, 8, 2048]⟩
abbrev S2048x2048 : Shape := ⟨2, ![2048, 2048]⟩
abbrev S3x1x2048 : Shape := ⟨3, ![3, 1, 2048]⟩
abbrev S3x2048 : Shape := ⟨2, ![3, 2048]⟩
abbrev S12288x1 : Shape := ⟨2, ![12288, 1]⟩
abbrev S_ : Shape := ⟨0, ![]⟩
abbrev S1x2048 : Shape := ⟨2, ![1, 2048]⟩
abbrev S2048 : Shape := ⟨1, ![2048]⟩

abbrev nBuf : Space → Nat
  | .hbm => 32
  | .vmem => 0
  | .smem => 0
  | _ => 0

abbrev bufTy : (tb : Table) → Fin (tcTables nBuf tb) → BufTy
  | .hbm, ⟨0, _⟩ => ⟨S12288x1024, .bf16⟩
  | .hbm, ⟨1, _⟩ => ⟨S12288x1024, .bf16⟩
  | .hbm, ⟨2, _⟩ => ⟨S12288x2048, .f32⟩
  | .hbm, ⟨3, _⟩ => ⟨S3x8x2048, .f32⟩
  | .hbm, ⟨4, _⟩ => ⟨S2048x2048, .f32⟩
  | .hbm, ⟨5, _⟩ => ⟨S12288x2048, .bf16⟩
  | .hbm, ⟨6, _⟩ => ⟨S12288x2048, .f32⟩
  | .hbm, ⟨7, _⟩ => ⟨S12288x2048, .f32⟩
  | .hbm, ⟨8, _⟩ => ⟨S3x1x2048, .f32⟩
  | .hbm, ⟨9, _⟩ => ⟨S3x2048, .f32⟩
  | .hbm, ⟨10, _⟩ => ⟨S12288x1, .i32⟩
  | .hbm, ⟨11, _⟩ => ⟨S_, .i32⟩
  | .hbm, ⟨12, _⟩ => ⟨S12288x1, .i32⟩
  | .hbm, ⟨13, _⟩ => ⟨S12288x1, .i1⟩
  | .hbm, ⟨14, _⟩ => ⟨S1x2048, .f32⟩
  | .hbm, ⟨15, _⟩ => ⟨S2048, .f32⟩
  | .hbm, ⟨16, _⟩ => ⟨S_, .i32⟩
  | .hbm, ⟨17, _⟩ => ⟨S12288x1, .i32⟩
  | .hbm, ⟨18, _⟩ => ⟨S12288x1, .i1⟩
  | .hbm, ⟨19, _⟩ => ⟨S1x2048, .f32⟩
  | .hbm, ⟨20, _⟩ => ⟨S2048, .f32⟩
  | .hbm, ⟨21, _⟩ => ⟨S1x2048, .f32⟩
  | .hbm, ⟨22, _⟩ => ⟨S2048, .f32⟩
  | .hbm, ⟨23, _⟩ => ⟨S12288x2048, .i1⟩
  | .hbm, ⟨24, _⟩ => ⟨S12288x2048, .f32⟩
  | .hbm, ⟨25, _⟩ => ⟨S12288x2048, .f32⟩
  | .hbm, ⟨26, _⟩ => ⟨S12288x2048, .f32⟩
  | .hbm, ⟨27, _⟩ => ⟨S12288x2048, .i1⟩
  | .hbm, ⟨28, _⟩ => ⟨S12288x2048, .f32⟩
  | .hbm, ⟨29, _⟩ => ⟨S12288x2048, .f32⟩
  | .hbm, ⟨30, _⟩ => ⟨S12288x2048, .f32⟩
  | .hbm, ⟨31, _⟩ => ⟨S12288x2048, .f32⟩
  | _, _ => ⟨S12288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v16 : Ref sig .tc := ⟨.hbm, 26, rfl⟩
abbrev main_call1_v0 : Ref sig .tc := ⟨.hbm, 27, rfl⟩
abbrev main_call1_v1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Proof.AttnSpec.lean ====
/- The differential attention of one head over one sequence, written as plain formulas over the extended reals.
   Both sides of the attention claim are brought to these formulas: the kernel's block of a grid point
   (AttnKernel.lean) and the reference's entry (AttnRef.lean). -/
module

public import Idealize.ShloMosaic.PureOps.Ideal
public import Idealize.ShloMosaic.Lib.ValueIdx

@[expose] public section

noncomputable section

namespace Cert.Attn

open Idealize.ShloMosaic

/-- A head's 256 rows of 128 lanes. -/
local notation "Rows" => Fin 256 → Fin 128 → EReal

/-- Lane `d` of half `s` of a head: a head of 128 lanes holds two query heads of 64. -/
def lane (s : Fin 2) (d : Fin 64) : Fin 128 := ⟨s.val * 64 + d.val, by omega⟩

/-- Query row `i` of half `s` against key row `j`, scaled by 1/8. -/
def score (Q K : Rows) (s : Fin 2) (i j : Fin 256) : EReal :=
  (∑ d : Fin 64, Q i (lane s d) * K j (lane s d)) * Ideal.ofBits .f32 0x3E000000#32

/-- The maximum of a row. -/
def rowMax (S : Fin 256 → EReal) : EReal :=
  Finset.univ.fold max (Ideal.ofBits .f32 0xFF800000#32) S

/-- The softmax of a row. -/
def softmax (S : Fin 256 → EReal) (j : Fin 256) : EReal :=
  Ideal.div (Ideal.exp (S j - rowMax S)) (∑ k : Fin 256, Ideal.exp (S k - rowMax S))

/-- The differential weights: the first half's softmax less `lam` times the second's. -/
def weight (Q K : Rows) (lam : EReal) (i j : Fin 256) : EReal :=
  softmax (score Q K 0 i) j - lam * softmax (score Q K 1 i) j

/-- The weighted sum of the value rows. -/
def mixed (Q K V : Rows) (lam : EReal) (i : Fin 256) (e : Fin 128) : EReal :=
  ∑ j : Fin 256, weight Q K lam i j * V j e

/-- What a head gives: the mixed rows, RMS-normalised, scaled by the norm's weights `u` and by 0.8. -/
def headOut (Q K V : Rows) (lam : EReal) (u : Fin 128 → EReal) (i : Fin 256) (e : Fin 128) : EReal :=
  mixed Q K V lam i e
    * Ideal.rsqrt (Ideal.div (∑ f : Fin 128, mixed Q K V lam i f * mixed Q K V lam i f)
        (Ideal.ofBits .f32 0x43000000#32) + Ideal.ofBits .f32 0x358637BD#32)
    * u e * Ideal.ofBits .f32 0x3F4CCCCD#32

/-- Lane `l` of head `h` of sequence `b` in part `p` (0 queries, 1 keys, 2 values) of the projected tokens: the
    tokens of sequence `b` are rows `256 b …`, the heads' lanes of part `p` columns `1024 p + 128 h …`. -/
def slab (z : (⟨2, ![12288, 3072]⟩ : Shape).Idx → EReal) (p : Fin 3) (b : Fin 32) (h : Fin 8) : Rows :=
  fun i l => z (ValueIdx.ix2 (n0 := 12288) (n1 := 3072) ⟨b.val * 256 + i.val, by omega⟩
    ⟨p.val * 1024 + h.val * 128 + l.val, by omega⟩)

/-- The attention's result at row `256 b + i`, column `128 h + e`. -/
def attn (z : (⟨2, ![12288, 3072]⟩ : Shape).Idx → EReal) (lam : EReal) (u : Fin 128 → EReal)
    (b : Fin 32) (h : Fin 8) (i : Fin 256) (e : Fin 128) : EReal :=
  headOut (slab z 0 b h) (slab z 1 b h) (slab z 2 b h) lam u i e

/-- A row of the result names a sequence and a row in it. -/
def seqOf (r : Fin 8192) : Fin 32 := ⟨r.val / 256, by omega⟩
def rowIn (r : Fin 8192) : Fin 256 := ⟨r.val % 256, by omega⟩
/-- A column of the result names a head and a lane in it. -/
def headOf (q : Fin 1024) : Fin 8 := ⟨q.val / 128, by omega⟩
def laneIn (q : Fin 1024) : Fin 128 := ⟨q.val % 128, by omega⟩

/-- The whole result array. -/
def attnArr (z : (⟨2, ![12288, 3072]⟩ : Shape).Idx → EReal) (lam : EReal) (u : Fin 128 → EReal) :
    (⟨2, ![8192, 1024]⟩ : Shape).Idx → EReal :=
  fun x => attn z lam u (seqOf (x 0)) (headOf (x 1)) (rowIn (x 0)) (laneIn (x 1))

/-- A sum over 128 lanes is the sum over both halves. -/
theorem sum_lanes (f : Fin 128 → EReal) :
    (∑ x : Fin 128, f x) = (∑ d : Fin 64, f (lane 0 d)) + ∑ d : Fin 64, f (lane 1 d) := by
  have h := Fin.sum_univ_add (a := 64) (b := 64) (f := f)
  refine h.trans (congrArg₂ (· + ·) (Finset.sum_congr rfl fun d _ => congrArg f (Fin.ext ?_))
    (Finset.sum_congr rfl fun d _ => congrArg f (Fin.ext ?_)))
  · show d.val = 0 * 64 + d.val; omega
  · show 64 + d.val = 1 * 64 + d.val; omega

/-- The test "lane below 64" holds on the first half … -/
theorem lt_lane (s : Fin 2) (d : Fin 64) :
    IntOp.cmpi .slt (BitVec.ofNat 32 (lane s d).val) 64#32 = if s = 0 then 1#1 else 0#1 := by
  revert s d; decide +kernel

/-- … and "lane at least 64" on the second. -/
theorem ge_lane (s : Fin 2) (d : Fin 64) :
    IntOp.cmpi .sge (BitVec.ofNat 32 (lane s d).val) 64#32 = if s = 0 then 0#1 else 1#1 := by
  revert s d; decide +kernel

/-- Terms kept only below lane 64 sum to the first half's sum. -/
theorem sum_first (f : Fin 128 → EReal) :
    (∑ x : Fin 128, Scalar.select (IntOp.cmpi .slt (BitVec.ofNat 32 x.val) 64#32) (f x) 0)
      = ∑ d : Fin 64, f (lane 0 d) := by
  rw [sum_lanes]
  simp [lt_lane, Scalar.select]

/-- Terms kept only from lane 64 on sum to the second half's sum. -/
theorem sum_second (f : Fin 128 → EReal) :
    (∑ x : Fin 128, Scalar.select (IntOp.cmpi .sge (BitVec.ofNat 32 x.val) 64#32) (f x) 0)
      = ∑ d : Fin 64, f (lane 1 d) := by
  rw [sum_lanes]
  simp [ge_lane, Scalar.select]

end Cert.Attn

end
-- ==== Proof.AttnBody.lean ====
/- The attention kernel's payloads at an index, in the words of AttnSpec.lean. -/
module

public import proofs.«01_k».proof.Proof.AttnSpec
public import proofs.«01_k».proof.Proof.Gen.KernelIdeal.Skeleton
public import Idealize.ShloMosaic.Lib.Pointwise

@[expose] public section
set_option maxRecDepth 16384

noncomputable section

namespace Cert.Attn

open Idealize.ShloMosaic Cert.KernelIdeal Cert.KernelIdeal.Gen

/-- A block read at row and lane. -/
def rows (v : S256x128.Idx → EReal) : Fin 256 → Fin 128 → EReal := fun i l => v (ix2 i l)

/-- The first softmax of a block. -/
theorem pay4_apply (q k : Vec Ideal S256x128 .f32) (i j : Fin 256) :
    k0_pay4 (F := Ideal) q k (ix2 i j) = softmax (score (rows q) (rows k) 0 i) j := by
  pointwise [k0_pay4, k0_pay2, dot_S256x128_S256x128_S256x256_1_1_0_0_n_n]
  simp only [sum_first (fun x => q (ix2 i x) * k (ix2 _ x))]
  rfl

/-- The exponentials of the second softmax. -/
theorem pay5_apply (q k : Vec Ideal S256x128 .f32) (i j : Fin 256) :
    k0_pay5 (F := Ideal) q k (ix2 i j)
      = Ideal.exp (score (rows q) (rows k) 1 i j - rowMax (score (rows q) (rows k) 1 i)) := by
  pointwise [k0_pay5, k0_pay2, dot_S256x128_S256x128_S256x256_1_1_0_0_n_n]
  simp only [sum_second (fun x => q (ix2 i x) * k (ix2 _ x))]
  rfl

/-- Their row sums. -/
theorem pay6_apply (q k : Vec Ideal S256x128 .f32) (i : Fin 256) (j : Fin 1) :
    k0_pay6 (F := Ideal) q k (ix2 i j)
      = ∑ x : Fin 256, Ideal.exp (score (rows q) (rows k) 1 i x - rowMax (score (rows q) (rows k) 1 i)) := by
  pointwise [k0_pay6]
  exact Finset.sum_congr rfl fun x _ => pay5_apply q k i x

/-- The value block, cast. -/
theorem pay3_apply (v : Vec Ideal S256x128 .f32) (i : Fin 256) (e : Fin 128) :
    k0_pay3 (F := Ideal) v (ix2 i e) = rows v i e := by
  pointwise [k0_pay3]
  rfl

/-- What the body stores, from its four blocks and the scalar. -/
theorem pay1_apply (q k v : Vec Ideal S256x128 .f32) (lam : EReal) (u : Vec Ideal S1x128 .f32) (i : Fin 256) (e : Fin 128) :
    k0_pay1 (F := Ideal) (k0_pay3 v) (k0_pay4 q k) lam (k0_pay5 q k) (k0_pay6 q k) u (ix2 i e)
      = headOut (rows q) (rows k) (rows v) lam (fun f => u (ix2 0 f)) i e := by
  pointwise [k0_pay1, dot_S256x256_S256x128_S256x128_1_0_0_1_n_n]
  simp only [pay3_apply, pay4_apply, pay5_apply, pay6_apply]
  rfl

end Cert.Attn

end
-- ==== Proof.AttnKernel.lean ====
/- The attention kernel's result array: every grid point's block is the specification's, and the blocks tile the array. -/
module

public import proofs.«01_k».proof.Proof.AttnBody
public import proofs.«01_k».proof.Proof.Gen.KernelIdeal.Value

@[expose] public section
set_option maxRecDepth 16384

noncomputable section

namespace Cert.Attn

open Idealize.ShloMosaic Cert.KernelIdeal Cert.KernelIdeal.Gen Idealize.ShloMosaic.TcCoe Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a; rfl

/-- The one index of a one-element block. -/
def one1 : S1.Idx := ValueIdx.ix1 (0 : Fin 1)

/-- What the body leaves in the output's buffer, from its input blocks: its one store's payload. -/
theorem out_A (c : Dev nD) (i : grid0.Coords) (a2 : Memref sig .tc .smem S1 .f32) (h2 : a2.IsWhole)
    (a3 : Memref sig .tc .vmem S256x128 .f32) (h3 : a3.IsWhole) (a4 : Memref sig .tc .vmem S256x128 .f32) (h4 : a4.IsWhole)
    (a5 : Memref sig .tc .vmem S256x128 .f32) (h5 : a5.IsWhole) (a6 : Memref sig .tc .vmem S1x128 .f32) (h6 : a6.IsWhole)
    (a7 : Memref sig .tc .vmem S256x128 .bf16) (h7 : a7.IsWhole)
    (x0 : Vec Ideal S1 .f32) (x1 x2 x3 : Vec Ideal S256x128 .f32) (x4 : Vec Ideal S1x128 .f32) :
    out0_A_5 (F := Ideal) c i a2 h2 a3 h3 a4 h4 a5 h5 a6 h6 a7 h7 x0 x1 x2 x3 x4
      = k0_pay1 (k0_pay3 x3) (k0_pay4 x1 x2) (x0 one1) (k0_pay5 x1 x2) (k0_pay6 x1 x2) x4 := by
  unfold out0_A_5
  rw [View.read_writes_eq_canon _ _ _ (cover0_A_5 c i a2 h2 a3 h3 a4 h4 a5 h5 a6 h6 a7 h7 x0 x1 x2 x3 x4)]
  unfold kernelRun0_A
  dsimp only
  sl_unfold_words
  rw [View.canon_unit_zero hz2]
  simp only [View.readAt_eq_ld, h2.read_unread, h3.read_unread, h4.read_unread, h5.read_unread, h6.read_unread,
    View.ld_unit_zero (S := S256x128) hz2, View.ld_unit_zero (S := S1x128) hz2, View.ld_unit_zero (S := S1) hz1]
  have hx : View.ld x0 (Rect.unit ![0] ![1] inb_S1_S1_0) (Shape.Idx.first (by decide)) = x0 one1 :=
    congrArg x0 (funext fun a => by fin_cases a; exact Subsingleton.elim (α := Fin 1) _ _)
  exact congrArg (fun l => k0_pay1 (k0_pay3 x3) (k0_pay4 x1 x2) l (k0_pay5 x1 x2) (k0_pay6 x1 x2) x4) hx

/-! ## The block indices over the grid: point `t` is sequence `t / 8`, head `t % 8` -/

theorem N_eq : cfg0.N = 256 := N_0

theorem ix1_0 : ∀ t : Fin grid0.N, win0_1.index t 0 = t.val / 8 := by decide +kernel
theorem ix1_1 : ∀ t : Fin grid0.N, win0_1.index t 1 = t.val % 8 := by decide +kernel
theorem ix2_0 : ∀ t : Fin grid0.N, win0_2.index t 0 = t.val / 8 := by decide +kernel
theorem ix2_1 : ∀ t : Fin grid0.N, win0_2.index t 1 = 8 + t.val % 8 := by decide +kernel
theorem ix3_0 : ∀ t : Fin grid0.N, win0_3.index t 0 = t.val / 8 := by decide +kernel
theorem ix3_1 : ∀ t : Fin grid0.N, win0_3.index t 1 = 16 + t.val % 8 := by decide +kernel
theorem ix5_0 : ∀ t : Fin grid0.N, win0_5.index t 0 = t.val / 8 := by decide +kernel
theorem ix5_1 : ∀ t : Fin grid0.N, win0_5.index t 1 = t.val % 8 := by decide +kernel
theorem ix0_0 : ∀ t : Fin grid0.N, win0_0.index t 0 = 0 := by decide +kernel
theorem ix4_0 : ∀ t : Fin grid0.N, win0_4.index t 0 = 0 := by decide +kernel
theorem ix4_1 : ∀ t : Fin grid0.N, win0_4.index t 1 = 0 := by decide +kernel

/-- The sequence and the head of a point. -/
def ptSeq (t : Fin cfg0.N) : Fin 32 := ⟨t.val / 8, by have := t.isLt; have := N_eq; omega⟩
def ptHead (t : Fin cfg0.N) : Fin 8 := ⟨t.val % 8, by omega⟩

/-- The projected tokens, the scalar and the norm's weights as the region finds them. -/
abbrev zArr (c : Dev nD) : S12288x3072.Idx → EReal := m ((c : Thread nD τ).loc main_arg0)
abbrev lamV (c : Dev nD) : EReal := (V m c main_v8 : Vec Ideal S1 .f32) one1
abbrev subV (c : Dev nD) : Fin 128 → EReal := fun e => (V m c main_v9 : Vec Ideal S1x128 .f32) (ix2 0 e)

/-- The query block of a point. -/
theorem q_blk (c : Dev nD) (t : Fin cfg0.N) : rows (iblk m c 1 t) = slab (zArr m c) 0 (ptSeq t) (ptHead t) := by
  funext i l
  unfold rows iblk
  rw [View.read_apply]
  show V m c main_arg0 _ = m (c.tc.loc main_arg0) _
  rw [V_main_arg0]
  congr 1
  funext a
  apply Fin.ext
  match a with
  | ⟨0, _⟩ => show win0_1.index t 0 * 256 + 1 * i.val = t.val / 8 * 256 + i.val; rw [ix1_0]; omega
  | ⟨1, _⟩ => show win0_1.index t 1 * 128 + 1 * l.val = 0 * 1024 + t.val % 8 * 128 + l.val; rw [ix1_1]; omega

/-- The key block of a point. -/
theorem k_blk (c : Dev nD) (t : Fin cfg0.N) : rows (iblk m c 2 t) = slab (zArr m c) 1 (ptSeq t) (ptHead t) := by
  funext i l
  unfold rows iblk
  rw [View.read_apply]
  show V m c main_arg0 _ = m (c.tc.loc main_arg0) _
  rw [V_main_arg0]
  congr 1
  funext a
  apply Fin.ext
  match a with
  | ⟨0, _⟩ => show win0_2.index t 0 * 256 + 1 * i.val = t.val / 8 * 256 + i.val; rw [ix2_0]; omega
  | ⟨1, _⟩ => show win0_2.index t 1 * 128 + 1 * l.val = 1 * 1024 + t.val % 8 * 128 + l.val; rw [ix2_1]; omega

/-- The value block of a point. -/
theorem v_blk (c : Dev nD) (t : Fin cfg0.N) : rows (iblk m c 3 t) = slab (zArr m c) 2 (ptSeq t) (ptHead t) := by
  funext i l
  unfold rows iblk
  rw [View.read_apply]
  show V m c main_arg0 _ = m (c.tc.loc main_arg0) _
  rw [V_main_arg0]
  congr 1
  funext a
  apply Fin.ext
  match a with
  | ⟨0, _⟩ => show win0_3.index t 0 * 256 + 1 * i.val = t.val / 8 * 256 + i.val; rw [ix3_0]; omega
  | ⟨1, _⟩ => show win0_3.index t 1 * 128 + 1 * l.val = 2 * 1024 + t.val % 8 * 128 + l.val; rw [ix3_1]; omega

/-- The scalar of a point. -/
theorem lam_blk (c : Dev nD) (t : Fin cfg0.N) :
    (iblk m c 0 t : Vec Ideal S1 .f32) one1 = lamV m c := by
  unfold iblk
  rw [View.read_apply]
  show V m c main_v8 _ = V m c main_v8 _
  congr 1
  funext a
  fin_cases a
  exact Subsingleton.elim (α := Fin 1) _ _

/-- The norm's weights of a point. -/
theorem sub_blk (c : Dev nD) (t : Fin cfg0.N) (e : Fin 128) :
    (iblk m c 4 t : Vec Ideal S1x128 .f32) (ix2 0 e) = subV m c e := by
  unfold iblk
  rw [View.read_apply]
  show V m c main_v9 _ = V m c main_v9 _
  congr 1
  funext a
  apply Fin.ext
  match a with
  | ⟨0, _⟩ => show win0_4.index t 0 * 1 + 1 * 0 = 0; rw [ix4_0]
  | ⟨1, _⟩ => show win0_4.index t 1 * 128 + 1 * e.val = e.val; rw [ix4_1]; omega

/-- The whole result, as contents of the result array. -/
def result (c : Dev nD) : Buf (Elt Ideal) ((c : Thread nD τ).loc main_v10) :=
  attnArr (zArr m c) (lamV m c) (subV m c)

/-- The output block is whole: cutting it changes nothing. -/
theorem cut5 (t : Fin cfg0.N) (X : Vec Ideal S256x128 .bf16) (i : Fin 256) (e : Fin 128) :
    (cfg0.win 5).cut (grid0.coords t) X (ix2 i e) = X (ix2 i e) :=
  congrArg X (funext fun a => by fin_cases a <;> rfl)

/-- Where row `i`, lane `e` of a point's block lies in the result array. -/
theorem emb5 (t : Fin cfg0.N) (i : Fin 256) (e : Fin 128) :
    ((cfg0.win 5).blk t).view.emb (ix2 i e)
      = (ix2 (n0 := 8192) (n1 := 1024) ⟨(ptSeq t).val * 256 + i.val, by omega⟩ ⟨(ptHead t).val * 128 + e.val, by omega⟩
        : S8192x1024.Idx) := by
  funext a
  apply Fin.ext
  match a with
  | ⟨0, _⟩ => show win0_5.index t 0 * 256 + 1 * i.val = t.val / 8 * 256 + i.val; rw [ix5_0]; omega
  | ⟨1, _⟩ => show win0_5.index t 1 * 128 + 1 * e.val = t.val % 8 * 128 + e.val; rw [ix5_1]; omega

/-- The result array at a row and a column given by sequence, row, head and lane. -/
theorem attnArr_at (z : S12288x3072.Idx → EReal) (lam : EReal) (u : Fin 128 → EReal) (b : Fin 32) (h : Fin 8)
    (i : Fin 256) (e : Fin 128) :
    attnArr z lam u (ix2 (n0 := 8192) (n1 := 1024) ⟨b.val * 256 + i.val, by omega⟩ ⟨h.val * 128 + e.val, by omega⟩)
      = attn z lam u b h i e := by
  show attn z lam u (seqOf ⟨b.val * 256 + i.val, _⟩) (headOf ⟨h.val * 128 + e.val, _⟩) (rowIn ⟨b.val * 256 + i.val, _⟩)
    (laneIn ⟨h.val * 128 + e.val, _⟩) = _
  congr 1 <;> apply Fin.ext <;> simp only [seqOf, headOf, rowIn, laneIn] <;> omega

/-- The block a point computes. -/
theorem blk_apply (c : Dev nD) (t : Fin cfg0.N) (i : Fin 256) (e : Fin 128) :
    k0_pay1 (F := Ideal) (k0_pay3 (iblk m c 3 t)) (k0_pay4 (iblk m c 1 t) (iblk m c 2 t)) ((iblk m c 0 t : Vec Ideal S1 .f32) one1)
      (k0_pay5 (iblk m c 1 t) (iblk m c 2 t)) (k0_pay6 (iblk m c 1 t) (iblk m c 2 t)) (iblk m c 4 t) (ix2 i e)
      = attn (zArr m c) (lamV m c) (subV m c) (ptSeq t) (ptHead t) i e := by
  rw [pay1_apply, q_blk, k_blk, v_blk, lam_blk, funext (sub_blk m c t)]
  rfl

/-- What a point writes back is its block of the result. -/
theorem flushed_eq (c : Dev nD) (t : Fin cfg0.N) :
    (dats m 0 c).flushed 5 t = ((cfg0.win 5).blk t).view.read (Elt Ideal) (result m c) := by
  rw [Value.flushed5_A, out_A]
  funext y
  rw [View.read_apply]
  obtain ⟨i, e, rfl⟩ : ∃ (i : Fin 256) (e : Fin 128), y = ix2 i e := ⟨y 0, y 1, (ix2_eta (n0 := 256) (n1 := 128) y).symm⟩
  rw [cut5, blk_apply, emb5]
  exact (attnArr_at ..).symm

/-- The blocks tile the array: row `r`, column `q` is in the block of point `8 (r / 256) + q / 128`. -/
theorem final_o (c : Dev nD) : (dats m 0 c).arrAt 5 cfg0.N = result m c :=
  (dats m 0 c).arrAt_eq_of_cover 5 (result m c) (fun t _ => flushed_eq m c t) fun x => by
    have h0 : (x 0 : Nat) < 8192 := (x 0).isLt
    have h1 : (x 1 : Nat) < 1024 := (x 1).isLt
    have hN := N_eq
    refine ⟨⟨(x 0 : Nat) / 256 * 8 + (x 1 : Nat) / 128, by omega⟩, flush0_5 _, ?_⟩
    rw [show ((cfg0.win 5).blk _).view.set = ((View.whole main_v10).slice (win0_5.rect _)).set from rfl, View.set_slice_whole, Rect.mem_set_unit]
    intro a
    match a with
    | ⟨0, _⟩ =>
      show win0_5.index _ 0 * 256 ≤ (x 0 : Nat) ∧ (x 0 : Nat) < win0_5.index _ 0 * 256 + 256
      rw [ix5_0]; dsimp only; omega
    | ⟨1, _⟩ =>
      show win0_5.index _ 1 * 128 ≤ (x 1 : Nat) ∧ (x 1 : Nat) < win0_5.index _ 1 * 128 + 128
      rw [ix5_1]; dsimp only; omega

end Cert.Attn

end
-- ==== Proof.AttnRef.lean ====
/- The reference attention's result at an index, in the words of AttnSpec.lean. -/
module

public import proofs.«01_k».proof.Proof.AttnSpec
public import proofs.«01_k».proof.Proof.Gen.ReferenceIdeal.Read
public import Idealize.ShloMosaic.PureOps.Reduce

@[expose] public section
set_option maxRecDepth 16384

noncomputable section

namespace Cert.Attn.Ref

open Idealize.ShloMosaic Cert.ReferenceIdeal Cert.ReferenceIdeal.Gen Cert.ReferenceIdeal.Read
open ValueIdx (ix1 ix2 ix3 ix4 ix5)

variable (z : (⟨S12288x3072, .f32⟩ : BufTy).Contents (Elt Ideal))

/-- The queries, by sequence, row, head, half and lane. -/
theorem q_apply (b : Fin 32) (i : Fin 256) (h : Fin 8) (s : Fin 2) (d : Fin 64) :
    val_main_v13 z (ix5 b i h s d) = slab z 0 b h i (lane s d) := by
  rw [val_main_v13_apply, val_main_v10_apply, val_main_v9_apply, val_main_v8_apply]
  refine congrArg z (funext fun a => ?_)
  fin_cases a <;> apply Fin.ext
  · show ((((((b.val * 256 + i.val) * 8 + h.val) * 2 + s.val) * 64 + d.val) / 262144 * 256
      + ((((b.val * 256 + i.val) * 8 + h.val) * 2 + s.val) * 64 + d.val) / 1024 % 256) * 3072
      + ((((b.val * 256 + i.val) * 8 + h.val) * 2 + s.val) * 64 + d.val) % 1024) / 3072 = b.val * 256 + i.val
    omega
  · show ((((((b.val * 256 + i.val) * 8 + h.val) * 2 + s.val) * 64 + d.val) / 262144 * 256
      + ((((b.val * 256 + i.val) * 8 + h.val) * 2 + s.val) * 64 + d.val) / 1024 % 256) * 3072
      + ((((b.val * 256 + i.val) * 8 + h.val) * 2 + s.val) * 64 + d.val) % 1024) % 3072
      = 0 * 1024 + h.val * 128 + (s.val * 64 + d.val)
    omega

/-- The keys. -/
theorem k_apply (b : Fin 32) (i : Fin 256) (h : Fin 8) (s : Fin 2) (d : Fin 64) :
    val_main_v14 z (ix5 b i h s d) = slab z 1 b h i (lane s d) := by
  rw [val_main_v14_apply, val_main_v11_apply, val_main_v9_apply, val_main_v8_apply]
  refine congrArg z (funext fun a => ?_)
  fin_cases a <;> apply Fin.ext
  · show ((((((b.val * 256 + i.val) * 8 + h.val) * 2 + s.val) * 64 + d.val) / 262144 * 256
      + ((((b.val * 256 + i.val) * 8 + h.val) * 2 + s.val) * 64 + d.val) / 1024 % 256) * 3072
      + (1024 + ((((b.val * 256 + i.val) * 8 + h.val) * 2 + s.val) * 64 + d.val) % 1024)) / 3072 = b.val * 256 + i.val
    omega
  · show ((((((b.val * 256 + i.val) * 8 + h.val) * 2 + s.val) * 64 + d.val) / 262144 * 256
      + ((((b.val * 256 + i.val) * 8 + h.val) * 2 + s.val) * 64 + d.val) / 1024 % 256) * 3072
      + (1024 + ((((b.val * 256 + i.val) * 8 + h.val) * 2 + s.val) * 64 + d.val) % 1024)) % 3072
      = 1 * 1024 + h.val * 128 + (s.val * 64 + d.val)
    omega

/-- The values. -/
theorem v_apply (b : Fin 32) (i : Fin 256) (h : Fin 8) (e : Fin 128) :
    val_main_v15 z (ix4 b i h e) = slab z 2 b h i e := by
  rw [val_main_v15_apply, val_main_v12_apply, val_main_v9_apply, val_main_v8_apply]
  refine congrArg z (funext fun a => ?_)
  fin_cases a <;> apply Fin.ext
  · show (((((b.val * 256 + i.val) * 8 + h.val) * 128 + e.val) / 262144 * 256
      + (((b.val * 256 + i.val) * 8 + h.val) * 128 + e.val) / 1024 % 256) * 3072
      + (2048 + (((b.val * 256 + i.val) * 8 + h.val) * 128 + e.val) % 1024)) / 3072 = b.val * 256 + i.val
    omega
  · show (((((b.val * 256 + i.val) * 8 + h.val) * 128 + e.val) / 262144 * 256
      + (((b.val * 256 + i.val) * 8 + h.val) * 128 + e.val) / 1024 % 256) * 3072
      + (2048 + (((b.val * 256 + i.val) * 8 + h.val) * 128 + e.val) % 1024)) % 3072
      = 2 * 1024 + h.val * 128 + e.val
    omega

/-- The scores. -/
theorem score_apply (b : Fin 32) (h : Fin 8) (s : Fin 2) (i j : Fin 256) :
    val_main_v18 z (ix5 b h s i j) = score (slab z 0 b h) (slab z 1 b h) s i j := by
  rw [val_main_v18_apply, val_main_v17_apply, val_main_cst_2_apply, val_main_v16_apply]
  refine congrArg (· * Ideal.ofBits .f32 0x3E000000#32) (Finset.sum_congr rfl fun d _ => ?_)
  exact congrArg₂ (· * ·) ((congrArg (val_main_v13 z) (funext fun a => by fin_cases a <;> rfl)).trans (q_apply z b i h s d))
    ((congrArg (val_main_v14 z) (funext fun a => by fin_cases a <;> rfl)).trans (k_apply z b j h s d))

/-- The row maxima. -/
theorem max_apply (b : Fin 32) (h : Fin 8) (s : Fin 2) (i : Fin 256) :
    val_main_v21 z (ix4 b h s i) = rowMax (score (slab z 0 b h) (slab z 1 b h) s i) := by
  have h19 : val_main_v19 z (ix4 b h s i) = rowMax (score (slab z 0 b h) (slab z 1 b h) s i) := by
    unfold val_main_v19
    rw [Host.reduce_eq_fold_single FloatOps.maximumf (val_main_v18 z) (val_main_cst_3 (F := Ideal))
      reducesTo_S32x8x2x256x256_S32x8x2x256_d4 (by decide) h_S_ (ix4 b h s i)]
    refine congrArg (Finset.univ.fold max (Ideal.ofBits .f32 0xFF800000#32)) (funext fun j => ?_)
    refine (congrArg (val_main_v18 z) (funext fun a => ?_)).trans (score_apply z b h s i j)
    fin_cases a <;> rfl
  rw [val_main_v21_apply, h19, val_main_v20_apply, val_main_cst_4_apply]
  show max (Ideal.ofBits .f32 0xFF800000#32) (rowMax _) = _
  exact max_eq_right (by unfold rowMax; rw [Finset.le_fold_max]; exact Or.inl le_rfl)

/-- The exponentials. -/
theorem exp_apply (b : Fin 32) (h : Fin 8) (s : Fin 2) (i j : Fin 256) :
    val_main_v25 z (ix5 b h s i j)
      = Ideal.exp (score (slab z 0 b h) (slab z 1 b h) s i j - rowMax (score (slab z 0 b h) (slab z 1 b h) s i)) := by
  rw [val_main_v25_apply, val_main_v24_apply, score_apply, val_main_v23_apply, val_main_v22_apply]
  refine (congrArg (fun t => Ideal.exp (score (slab z 0 b h) (slab z 1 b h) s i j - t)) ?_)
  exact (congrArg (val_main_v21 z) (funext fun a => by fin_cases a <;> rfl)).trans (max_apply z b h s i)

/-- The exponentials' row sums. -/
theorem den_apply (b : Fin 32) (h : Fin 8) (s : Fin 2) (i j : Fin 256) :
    val_main_v28 z (ix5 b h s i j) = ∑ k : Fin 256,
      Ideal.exp (score (slab z 0 b h) (slab z 1 b h) s i k - rowMax (score (slab z 0 b h) (slab z 1 b h) s i)) := by
  rw [val_main_v28_apply, val_main_v27_apply, val_main_v26_apply, val_main_cst_5_apply]
  refine (congrArg (· + _) Ideal.ofBits_zero_f32).trans ((zero_add _).trans (Finset.sum_congr rfl fun k _ => ?_))
  exact (congrArg (val_main_v25 z) (funext fun a => by fin_cases a <;> rfl)).trans (exp_apply z b h s i k)

/-- The softmax. -/
theorem softmax_apply (b : Fin 32) (h : Fin 8) (s : Fin 2) (i j : Fin 256) :
    val_main_v29 z (ix5 b h s i j) = softmax (score (slab z 0 b h) (slab z 1 b h) s i) j := by
  rw [val_main_v29_apply, exp_apply, den_apply]
  rfl

/-- The first half's softmax, its half axis dropped. -/
theorem first_apply (b : Fin 32) (h : Fin 8) (i j : Fin 256) :
    val_main_v31 z (ix4 b h i j) = softmax (score (slab z 0 b h) (slab z 1 b h) 0 i) j := by
  rw [val_main_v31_apply, val_main_v30_apply]
  refine (congrArg (val_main_v29 z) (funext fun a => ?_)).trans (softmax_apply z b h 0 i j)
  fin_cases a <;> apply Fin.ext
  · show (((b.val * 8 + h.val) * 256 + i.val) * 256 + j.val) / 524288 = b.val; omega
  · show (((b.val * 8 + h.val) * 256 + i.val) * 256 + j.val) / 65536 % 8 = h.val; omega
  · rfl
  · show (((b.val * 8 + h.val) * 256 + i.val) * 256 + j.val) / 256 % 256 = i.val; omega
  · show (((b.val * 8 + h.val) * 256 + i.val) * 256 + j.val) % 256 = j.val; omega

/-- The second half's. -/
theorem second_apply (b : Fin 32) (h : Fin 8) (i j : Fin 256) :
    val_main_v33 z (ix4 b h i j) = softmax (score (slab z 0 b h) (slab z 1 b h) 1 i) j := by
  rw [val_main_v33_apply, val_main_v32_apply]
  refine (congrArg (val_main_v29 z) (funext fun a => ?_)).trans (softmax_apply z b h 1 i j)
  fin_cases a <;> apply Fin.ext
  · show (((b.val * 8 + h.val) * 256 + i.val) * 256 + j.val) / 524288 = b.val; omega
  · show (((b.val * 8 + h.val) * 256 + i.val) * 256 + j.val) / 65536 % 8 = h.val; omega
  · rfl
  · show (((b.val * 8 + h.val) * 256 + i.val) * 256 + j.val) / 256 % 256 = i.val; omega
  · show (((b.val * 8 + h.val) * 256 + i.val) * 256 + j.val) % 256 = j.val; omega

variable (x1 x2 x3 x4 : (⟨S64, .f32⟩ : BufTy).Contents (Elt Ideal)) (x5 : (⟨S128, .f32⟩ : BufTy).Contents (Elt Ideal))

/-- The scalar of the differential weights. -/
abbrev lamR : EReal := val_main_v7 (F := Ideal) x1 x2 x3 x4 ValueIdx.ix0

/-- The differential weights. -/
theorem weight_apply (b : Fin 32) (h : Fin 8) (i j : Fin 256) :
    val_main_v36 z x1 x2 x3 x4 (ix4 b h i j) = weight (slab z 0 b h) (slab z 1 b h) (lamR x1 x2 x3 x4) i j := by
  rw [val_main_v36_apply, val_main_v35_apply, val_main_v34_apply, first_apply, second_apply]
  rfl

/-- The weighted sums, heads' lanes last. -/
theorem mixed_apply (b : Fin 32) (i : Fin 256) (h : Fin 8) (e : Fin 128) :
    val_main_v38 z x1 x2 x3 x4 (ix4 b i h e)
      = mixed (slab z 0 b h) (slab z 1 b h) (slab z 2 b h) (lamR x1 x2 x3 x4) i e := by
  rw [val_main_v38_apply, val_main_v37_apply]
  refine Finset.sum_congr rfl fun j _ => ?_
  refine (mul_comm _ _).trans (congrArg₂ (· * ·) ?_ ?_)
  · exact (congrArg (val_main_v36 z x1 x2 x3 x4) (funext fun a => by fin_cases a <;> rfl)).trans
      (weight_apply z x1 x2 x3 x4 b h i j)
  · exact (congrArg (val_main_v15 z) (funext fun a => by fin_cases a <;> rfl)).trans (v_apply z b j h e)

/-- The reciprocal root of the mean square. -/
theorem norm_apply (b : Fin 32) (i : Fin 256) (h : Fin 8) (e : Fin 128) :
    val_main_v47 z x1 x2 x3 x4 (ix4 b i h e)
      = Ideal.rsqrt (Ideal.div (∑ f : Fin 128,
          mixed (slab z 0 b h) (slab z 1 b h) (slab z 2 b h) (lamR x1 x2 x3 x4) i f
            * mixed (slab z 0 b h) (slab z 1 b h) (slab z 2 b h) (lamR x1 x2 x3 x4) i f)
        (Ideal.ofBits .f32 0x43000000#32) + Ideal.ofBits .f32 0x358637BD#32) := by
  rw [val_main_v47_apply, val_main_v46_apply, val_main_v45_apply, val_main_v44_apply, val_main_cst_8_apply,
    val_main_v43_apply, val_main_v42_apply, val_main_cst_7_apply, val_main_v41_apply, val_main_v40_apply, val_main_cst_6_apply]
  refine congrArg (fun s => Ideal.rsqrt (Ideal.div s (Ideal.ofBits .f32 0x43000000#32) + Ideal.ofBits .f32 0x358637BD#32)) ?_
  refine (congrArg (· + _) Ideal.ofBits_zero_f32).trans ((zero_add _).trans (Finset.sum_congr rfl fun f _ => ?_))
  refine (congrArg (val_main_v39 z x1 x2 x3 x4) (funext fun a => by fin_cases a <;> rfl : _ = ix4 b i h f)).trans ?_
  rw [val_main_v39_apply, mixed_apply]
  rfl

/-- The reference's result is the specification's array. -/
theorem out_apply : val_main_v55 z x1 x2 x3 x4 x5
    = attnArr z (lamR x1 x2 x3 x4) (fun e => x5 (ix1 e)) := by
  funext x
  rw [val_main_v55_apply, val_main_v54_apply]
  have hx : idx_main_v54 x = ix4 (seqOf (x 0)) (rowIn (x 0)) (headOf (x 1)) (laneIn (x 1)) := by
    have h0 : (x 0).val < 8192 := (x 0).isLt
    have h1 : (x 1).val < 1024 := (x 1).isLt
    funext a
    fin_cases a <;> apply Fin.ext
    · show ((x 0).val * 1024 + (x 1).val) / 262144 = (x 0).val / 256; omega
    · show ((x 0).val * 1024 + (x 1).val) / 1024 % 256 = (x 0).val % 256; omega
    · show ((x 0).val * 1024 + (x 1).val) / 128 % 8 = (x 1).val / 128; omega
    · show ((x 0).val * 1024 + (x 1).val) % 128 = (x 1).val % 128; omega
  rw [hx, val_main_v53_apply, val_main_v52_apply, val_main_cst_9_apply, val_main_v51_apply, val_main_v50_apply, val_main_v49_apply,
    val_main_v48_apply, mixed_apply, norm_apply]
  have h5 : idx_main_v49 (idx_main_v50 (ix4 (seqOf (x 0)) (rowIn (x 0)) (headOf (x 1)) (laneIn (x 1)))) = ix1 (laneIn (x 1)) :=
    funext fun a => by fin_cases a; rfl
  rw [h5]
  rfl

end Cert.Attn.Ref

end
-- ==== Proof.AttnHost.lean ====
/- The host operations before the attention kernel, and the algebraic claim of the attention. -/
module

public import proofs.«01_k».proof.Proof.AttnKernel
public import proofs.«01_k».proof.Proof.AttnRef

@[expose] public section
set_option maxRecDepth 16384

noncomputable section

namespace Cert.Attn

open Idealize.ShloMosaic Cert.KernelIdeal Cert.KernelIdeal.Gen Idealize.ShloMosaic.TcCoe Idealize.SL.Sem
open Idealize.ShloMosaic.StableHlo

variable (m : (ℓ : Loc nD τ sig) → Buf (Elt Ideal) ℓ)

/-- The kernel's scalar is the reference's, of the same four vectors. -/
theorem lam_eq (c : Dev nD) : lamV m c
    = Ref.lamR (m ((c : Thread nD τ).loc main_arg1)) (m ((c : Thread nD τ).loc main_arg2))
        (m ((c : Thread nD τ).loc main_arg3)) (m ((c : Thread nD τ).loc main_arg4)) := by
  have h : (V m c main_v8 : Vec Ideal S1 .f32)
      = shapeCast S1 (Cert.ReferenceIdeal.Read.val_main_v7 (F := Ideal) (m ((c : Thread nD τ).loc main_arg1))
          (m ((c : Thread nD τ).loc main_arg2)) (m ((c : Thread nD τ).loc main_arg3)) (m ((c : Thread nD τ).loc main_arg4)))
        shapeCasts_S_S1 := by
    show StableHlo.after hostOps0 (fun b => m (c, b)) main_v8 = _
    after_results
    rfl
  show (V m c main_v8 : Vec Ideal S1 .f32) one1 = _
  rw [h]
  exact shapeCast_apply _ shapeCasts_S_S1 _ ValueIdx.ix0 (by decide)

/-- The kernel's norm weights are the last argument's. -/
theorem sub_eq (c : Dev nD) (e : Fin 128) : subV m c e
    = (m ((c : Thread nD τ).loc main_arg5) : Vec Ideal S128 .f32) (ValueIdx.ix1 e) := by
  have h : (V m c main_v9 : Vec Ideal S1x128 .f32)
      = shapeCast S1x128 (m ((c : Thread nD τ).loc main_arg5) : Vec Ideal S128 .f32) shapeCasts_S128_S1x128 := by
    show StableHlo.after hostOps0 (fun b => m (c, b)) main_v9 = _
    after_results
    rfl
  show (V m c main_v9 : Vec Ideal S1x128 .f32) (ix2 0 e) = _
  rw [h]
  exact shapeCast_apply _ shapeCasts_S128_S1x128 _ (ValueIdx.ix1 e)
    (by rewrite [Shape.rowMajor_val_one, Shape.rowMajor_val_two]; show e.val = 0 * 128 + e.val; omega)

/-- The kernel's run, its result named. -/
theorem run_kernel (ρ : Dev nD → PrngReg) : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final_o m c), (h c).2⟩) (Value.run_blocks m ρ)

end Cert.Attn

end
-- ==== Proof.AttnClaims.lean ====
/- The five claims of the attention. -/
module

public import proofs.«01_k».proof.Defs
public import proofs.«01_k».proof.Proof.AttnHost
public import proofs.«01_k».proof.Proof.Gen.Kernel.Frame
public import Idealize.ShloMosaic.Lib.Quiescent

@[expose] public section
set_option maxRecDepth 16384

noncomputable section

namespace Cert.Proof

open Idealize.ShloMosaic Idealize.SL.Sem

/-- The kernel returns and leaves its arguments and counters alone. -/
theorem attn_frame : Cert.quiescent_Kernel := fun m ρ _ => Cert.Kernel.Gen.frame m ρ

/-- So does its idealization … -/
theorem attn_frame_ideal : Cert.quiescent_KernelIdeal := fun m ρ _ => Cert.KernelIdeal.Gen.frame m ρ

/-- … and the reference, which is host operations alone. -/
theorem attn_frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel's result is the reference's: both are the specification's array of the same
    arguments. -/
theorem attn_algebraic : Cert.algebraic_KernelIdeal_ReferenceIdeal := by
  intro m ρ m' ρ' _ hagree
  refine ⟨fun c => Attn.result m c, Attn.run_kernel m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v55_eq, h0, h1, h2, h3, h4, h5, Attn.Ref.out_apply]
  show Attn.attnArr _ _ _ = Attn.attnArr _ _ _
  rw [Attn.lam_eq, funext (Attn.sub_eq m c)]

end Cert.Proof

end
-- ==== Proof.DownPre.lean ====
/- What the precondition of the mixture's second product says: every word of the table names one of the 32 experts. -/
module

public import proofs.«01_k».proof.Pre_down_experts_in_range
public import proofs.«01_k».proof.Proof.Gen.Pre_down_experts_in_range
public import Idealize.ShloMosaic.Lib.ReduceAll
public import Idealize.ShloMosaic.Lib.Affine

@[expose] public section

noncomputable section

namespace Cert.Pre_down_experts_in_range

open Idealize.ShloMosaic

/-- A word between 0 and 32 as a signed number is one as a natural number. -/
theorem word_in_range (x : BitVec 32) (h0 : IntOp.cmpi .sge x 0#32 = 1#1) (h1 : IntOp.cmpi .slt x 32#32 = 1#1) : x.toNat < 32 := by
  have h0' : BitVec.ofBool ((0#32).sle x) = 1#1 := h0
  have h1' : BitVec.ofBool (x.slt 32#32) = 1#1 := h1
  have e0 : (0#32).sle x = true := by revert h0'; cases (0#32).sle x <;> decide
  have e1 : x.slt 32#32 = true := by revert h1'; cases x.slt 32#32 <;> decide
  rw [BitVec.sle_iff_toInt_le] at e0
  rw [BitVec.slt_iff_toInt_lt] at e1
  have z : (0#32).toInt = 0 := by decide
  have t : (32#32).toInt = 32 := by decide
  rw [z] at e0
  rw [t] at e1
  have hx := BitVec.toInt_eq_toNat_cond x
  have := x.isLt
  split at hx <;> omega

theorem in_range {F : FTy → Type} [FloatOps F] (x0 : FVec F S57344x2048 .bf16) (x1 : FVec F S32x2048x2048 .f32) (x2 : FVec F S32x2048 .f32)
    (x3 : IVec S224 32) (x4 : IVec S1 32) (h : fn (F := F) x0 x1 x2 x3 x4 = fun _ => 1#1) (j : S224.Idx) : (x3 j).toNat < 32 := by
  have h' := congrFun h (Shape.Idx.first Gen.h_S_)
  dsimp only [fn] at h'
  have hj := Host.reduce_andi_all _ _ _ _ _ h' j
  obtain ⟨ha, hb⟩ := (IntOp.andi_eq_one (c := _) (d := _)).mp hj
  exact word_in_range _ ha hb

end Cert.Pre_down_experts_in_range

end
-- ==== Proof.DownIdealRun.lean ====
/- Of the program over the extended reals. The body of the mixture's second product at one grid point: what it leaves in its output block and in its
   copy of the expert's weights, on each of its four ways through the two conditions. -/
module

public import proofs.«01_k».proof.Proof.Gen.Kernel2Ideal.Skeleton
public import proofs.«01_k».proof.Proof.Gen.Kernel2Ideal.Launch
public import Idealize.ShloMosaic.Lib.Pipeline.Quiescent
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Kernel2Ideal.Down

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of experts, one word per row block. -/
abbrev tabE : Memref sig .tc .smem S224 .i32 := Memref.whole main_arg3
/-- The table holding the number of row blocks in use. -/
abbrev tabN : Memref sig .tc .smem S1 .i32 := Memref.whole main_arg4
/-- The body's copy of the current expert's weights, rounded. -/
abbrev wcopy : Memref sig .tc .vmem S2048x1024 .bf16 := Memref.whole cc0_scratch0

/-- The expert of the point's row block, as the body reads it. -/
abbrev eHere (T : S224.Idx → BitVec 32) (i : grid0.Coords) : BitVec 32 :=
  View.readAt (Elt F) tabE.view (Rect.unit (s := S224) (k0_off1 i) S1.size (k0_off1_inb i)).toLoadRect T (Shape.Idx.first (numel1_S1.symm ▸ Nat.one_pos))
/-- The expert of the row block before it (of the first one for the first). -/
abbrev ePrev (T : S224.Idx → BitVec 32) (i : grid0.Coords) : BitVec 32 :=
  View.readAt (Elt F) tabE.view (Rect.unit (s := S224) (k0_off2 i) S1.size (k0_off2_inb i)).toLoadRect T (Shape.Idx.first (numel1_S1.symm ▸ Nat.one_pos))
/-- The number of row blocks in use, as the body reads it. -/
abbrev nUsed (T : S1.Idx → BitVec 32) : BitVec 32 :=
  View.readAt (Elt F) tabN.view (Rect.unit (s := S1) ![0] S1.size inb_S1_S1_0).toLoadRect T (Shape.Idx.first (numel1_S1.symm ▸ Nat.one_pos))
/-- The body copies the weights anew: at the first row block, and where the expert changes. -/
abbrev Anew (T : S224.Idx → BitVec 32) (i : grid0.Coords) : Prop :=
  Scalar.cmpi .ne (Scalar.extui (Scalar.ori (Scalar.cmpi .eq (BitVec.ofNat 32 (i 1).val) 0#32) (Scalar.cmpi .ne (eHere (F := F) T i) (ePrev (F := F) T i)))) 0#32 = 1#1

variable (c : Dev nD) (i : grid0.Coords)
  (arg4 : Memref sig .tc .vmem S256x2048 .bf16) (harg4 : arg4.IsWhole)
  (arg5 : Memref sig .tc .vmem S1x2048x1024 .f32) (harg5 : arg5.IsWhole)
  (arg6 : Memref sig .tc .vmem S1x1x1024 .f32) (harg6 : arg6.IsWhole)
  (arg7 : Memref sig .tc .vmem S256x1024 .f32) (harg7 : arg7.IsWhole)
  (T0 : S224.Idx → BitVec 32) (T1 : S1.Idx → BitVec 32)
  (x0 : S256x2048.Idx → Elt F .bf16) (x1 : S1x2048x1024.Idx → Elt F .f32) (x2 : S1x1x1024.Idx → Elt F .f32)
  (a : Buf (Elt F) ((c : Thread nD τ).loc cc0_scratch0))

/-- What the body holds when it starts or ends, but for its output block and its copy of the weights: its three
    input blocks and its halves of the tables. -/
abbrev Ins : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (tabE.view.loc (c : Thread nD τ) ↦{fullShare.right} T0)
    ∗ (tabN.view.loc (c : Thread nD τ) ↦{fullShare.right} T1))

/-- The body at the point. -/
abbrev bodyAt : Prog (TpuEff nD τ sig (Elt F) Λ₀ .tc) PUnit :=
  cc0_moe_down i tabE (Memref.isWhole_whole _) tabN (Memref.isWhole_whole _) arg4 harg4 arg5 harg5 arg6 harg6 arg7 harg7 wcopy (Memref.isWhole_whole _)

set_option backward.proofsInPublic true in
set_option maxHeartbeats 8000000 in
/-- Weights copied anew, row block in use: the pieces stored into the output block and the copy's contents, with the proof that the body leaves them. -/
def runAU (hc : Anew (F := F) T0 i) (h2 : k0_cond2 i (nUsed (F := F) T1) = 1#1) (h3 : ¬ k0_cond3 i (nUsed (F := F) T1) = 1#1) :
    Σ' (out : List (View.Piece (Elt F) S256x1024 .f32)), { cp : Buf (Elt F) ((c : Thread nD τ).loc cc0_scratch0) //
      ∀ (K : PUnit → sProp 𝕄),
        iprop(Ins c arg4 arg5 arg6 T0 T1 x0 x1 x2
          ∗ (∃ d, owns (c : Thread nD τ) arg7 fullShare d)
          ∗ (wcopy.view.loc (c : Thread nD τ) ↦{fullShare} a)
          ∗ (iprop(Ins c arg4 arg5 arg6 T0 T1 x0 x1 x2
              ∗ (∃ f, arg7.view.loc (c : Thread nD τ) ↦[arg7.view.set]{fullShare} arg7.view.writes (Elt F) f out)
              ∗ (wcopy.view.loc (c : Thread nD τ) ↦{fullShare} cp)) -∗ K ⟨⟩))
          ⊢ wp frame (wpE (defs₀ (F := F)) Variants.none c none) Set.univ (bodyAt i arg4 harg4 arg5 harg5 arg6 harg6 arg7 harg7) K } :=
  ⟨_, _, fun K => by
    unfold owns
    unfold bodyAt
    rw [cc0_moe_down_eq_skeleton]; unfold cc0_moe_down_skel
    iintro ⟨⟨H0, H1, H2, HT0, HT1⟩, ⟨%d3, %f3, -, HO3⟩, HS0, Hk⟩
    have hS0 : wcopy.IsWhole := Memref.isWhole_whole _
    have hT0 : tabE.IsWhole := Memref.isWhole_whole _
    have hT1 : tabN.IsWhole := Memref.isWhole_whole _
    sl_exec! (disch := first | exact h2 | exact h3 | exact hc)
    sl_step
    iapply Hk
    isplitl [H0 H1 H2 HT0 HT1]
    · isplitl [H0]; · iexact H0
      isplitl [H1]; · iexact H1
      isplitl [H2]; · iexact H2
      isplitl [HT0]; · iexact HT0
      iexact HT1
    isplitl [HO3]; · iexists _; iexact HO3
    iexact HS0⟩

set_option backward.proofsInPublic true in
set_option maxHeartbeats 8000000 in
/-- Weights copied anew, row block not in use: the pieces stored into the output block and the copy's contents, with the proof that the body leaves them. -/
def runAZ (hc : Anew (F := F) T0 i) (h2 : ¬ k0_cond2 i (nUsed (F := F) T1) = 1#1) (h3 : k0_cond3 i (nUsed (F := F) T1) = 1#1) :
    Σ' (out : List (View.Piece (Elt F) S256x1024 .f32)), { cp : Buf (Elt F) ((c : Thread nD τ).loc cc0_scratch0) //
      ∀ (K : PUnit → sProp 𝕄),
        iprop(Ins c arg4 arg5 arg6 T0 T1 x0 x1 x2
          ∗ (∃ d, owns (c : Thread nD τ) arg7 fullShare d)
          ∗ (wcopy.view.loc (c : Thread nD τ) ↦{fullShare} a)
          ∗ (iprop(Ins c arg4 arg5 arg6 T0 T1 x0 x1 x2
              ∗ (∃ f, arg7.view.loc (c : Thread nD τ) ↦[arg7.view.set]{fullShare} arg7.view.writes (Elt F) f out)
              ∗ (wcopy.view.loc (c : Thread nD τ) ↦{fullShare} cp)) -∗ K ⟨⟩))
          ⊢ wp frame (wpE (defs₀ (F := F)) Variants.none c none) Set.univ (bodyAt i arg4 harg4 arg5 harg5 arg6 harg6 arg7 harg7) K } :=
  ⟨_, _, fun K => by
    unfold owns
    unfold bodyAt
    rw [cc0_moe_down_eq_skeleton]; unfold cc0_moe_down_skel
    iintro ⟨⟨H0, H1, H2, HT0, HT1⟩, ⟨%d3, %f3, -, HO3⟩, HS0, Hk⟩
    have hS0 : wcopy.IsWhole := Memref.isWhole_whole _
    have hT0 : tabE.IsWhole := Memref.isWhole_whole _
    have hT1 : tabN.IsWhole := Memref.isWhole_whole _
    sl_exec! (disch := first | exact h2 | exact h3 | exact hc)
    sl_step
    iapply Hk
    isplitl [H0 H1 H2 HT0 HT1]
    · isplitl [H0]; · iexact H0
      isplitl [H1]; · iexact H1
      isplitl [H2]; · iexact H2
      isplitl [HT0]; · iexact HT0
      iexact HT1
    isplitl [HO3]; · iexists _; iexact HO3
    iexact HS0⟩

set_option backward.proofsInPublic true in
set_option maxHeartbeats 8000000 in
/-- Weights kept, row block in use: the pieces stored into the output block and the copy's contents, with the proof that the body leaves them. -/
def runKU (hc : ¬ Anew (F := F) T0 i) (h2 : k0_cond2 i (nUsed (F := F) T1) = 1#1) (h3 : ¬ k0_cond3 i (nUsed (F := F) T1) = 1#1) :
    Σ' (out : List (View.Piece (Elt F) S256x1024 .f32)), { cp : Buf (Elt F) ((c : Thread nD τ).loc cc0_scratch0) //
      ∀ (K : PUnit → sProp 𝕄),
        iprop(Ins c arg4 arg5 arg6 T0 T1 x0 x1 x2
          ∗ (∃ d, owns (c : Thread nD τ) arg7 fullShare d)
          ∗ (wcopy.view.loc (c : Thread nD τ) ↦{fullShare} a)
          ∗ (iprop(Ins c arg4 arg5 arg6 T0 T1 x0 x1 x2
              ∗ (∃ f, arg7.view.loc (c : Thread nD τ) ↦[arg7.view.set]{fullShare} arg7.view.writes (Elt F) f out)
              ∗ (wcopy.view.loc (c : Thread nD τ) ↦{fullShare} cp)) -∗ K ⟨⟩))
          ⊢ wp frame (wpE (defs₀ (F := F)) Variants.none c none) Set.univ (bodyAt i arg4 harg4 arg5 harg5 arg6 harg6 arg7 harg7) K } :=
  ⟨_, _, fun K => by
    unfold owns
    unfold bodyAt
    rw [cc0_moe_down_eq_skeleton]; unfold cc0_moe_down_skel
    iintro ⟨⟨H0, H1, H2, HT0, HT1⟩, ⟨%d3, %f3, -, HO3⟩, HS0, Hk⟩
    have hS0 : wcopy.IsWhole := Memref.isWhole_whole _
    have hT0 : tabE.IsWhole := Memref.isWhole_whole _
    have hT1 : tabN.IsWhole := Memref.isWhole_whole _
    sl_exec! (disch := first | exact h2 | exact h3 | exact hc)
    sl_step
    iapply Hk
    isplitl [H0 H1 H2 HT0 HT1]
    · isplitl [H0]; · iexact H0
      isplitl [H1]; · iexact H1
      isplitl [H2]; · iexact H2
      isplitl [HT0]; · iexact HT0
      iexact HT1
    isplitl [HO3]; · iexists _; iexact HO3
    iexact HS0⟩

set_option backward.proofsInPublic true in
set_option maxHeartbeats 8000000 in
/-- Weights kept, row block not in use: the pieces stored into the output block and the copy's contents, with the proof that the body leaves them. -/
def runKZ (hc : ¬ Anew (F := F) T0 i) (h2 : ¬ k0_cond2 i (nUsed (F := F) T1) = 1#1) (h3 : k0_cond3 i (nUsed (F := F) T1) = 1#1) :
    Σ' (out : List (View.Piece (Elt F) S256x1024 .f32)), { cp : Buf (Elt F) ((c : Thread nD τ).loc cc0_scratch0) //
      ∀ (K : PUnit → sProp 𝕄),
        iprop(Ins c arg4 arg5 arg6 T0 T1 x0 x1 x2
          ∗ (∃ d, owns (c : Thread nD τ) arg7 fullShare d)
          ∗ (wcopy.view.loc (c : Thread nD τ) ↦{fullShare} a)
          ∗ (iprop(Ins c arg4 arg5 arg6 T0 T1 x0 x1 x2
              ∗ (∃ f, arg7.view.loc (c : Thread nD τ) ↦[arg7.view.set]{fullShare} arg7.view.writes (Elt F) f out)
              ∗ (wcopy.view.loc (c : Thread nD τ) ↦{fullShare} cp)) -∗ K ⟨⟩))
          ⊢ wp frame (wpE (defs₀ (F := F)) Variants.none c none) Set.univ (bodyAt i arg4 harg4 arg5 harg5 arg6 harg6 arg7 harg7) K } :=
  ⟨_, _, fun K => by
    unfold owns
    unfold bodyAt
    rw [cc0_moe_down_eq_skeleton]; unfold cc0_moe_down_skel
    iintro ⟨⟨H0, H1, H2, HT0, HT1⟩, ⟨%d3, %f3, -, HO3⟩, HS0, Hk⟩
    have hS0 : wcopy.IsWhole := Memref.isWhole_whole _
    have hT0 : tabE.IsWhole := Memref.isWhole_whole _
    have hT1 : tabN.IsWhole := Memref.isWhole_whole _
    sl_exec! (disch := first | exact h2 | exact h3 | exact hc)
    sl_step
    iapply Hk
    isplitl [H0 H1 H2 HT0 HT1]
    · isplitl [H0]; · iexact H0
      isplitl [H1]; · iexact H1
      isplitl [H2]; · iexact H2
      isplitl [HT0]; · iexact HT0
      iexact HT1
    isplitl [HO3]; · iexists _; iexact HO3
    iexact HS0⟩

end Cert.Kernel2Ideal.Down

end
-- ==== Proof.DownIdealLeft.lean ====
/- Of the program over the extended reals. What the body of the mixture's second product leaves, in closed form: the copy is the expert's rounded weights
   where it is made anew and unchanged elsewhere, the output block is the product with the copy or zero. -/
module

public import proofs.«01_k».proof.Proof.DownIdealRun
public import Idealize.ShloMosaic.Lib.Pipeline.Value
public import proofs.«01_k».proof.Proof.Gen.Kernel2Ideal.Launch
public import Idealize.ShloMosaic.Lib.Pipeline.Quiescent
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Kernel2Ideal.Down

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg4 : Memref sig .tc .vmem S256x2048 .bf16) (harg4 : arg4.IsWhole)
  (arg5 : Memref sig .tc .vmem S1x2048x1024 .f32) (harg5 : arg5.IsWhole)
  (arg6 : Memref sig .tc .vmem S1x1x1024 .f32) (harg6 : arg6.IsWhole)
  (arg7 : Memref sig .tc .vmem S256x1024 .f32) (harg7 : arg7.IsWhole)
  (T0 : S224.Idx → BitVec 32) (T1 : S1.Idx → BitVec 32)
  (x0 : S256x2048.Idx → Elt F .bf16) (x1 : S1x2048x1024.Idx → Elt F .f32) (x2 : S1x1x1024.Idx → Elt F .f32)
  (a : Buf (Elt F) ((c : Thread nD τ).loc cc0_scratch0))

/-- The block's first corner. -/
theorem hz2 : (![0, 0] : Fin 2 → Nat) = fun _ => 0 := by funext a; fin_cases a <;> rfl
/-- The block's first corner, three axes. -/
theorem hz3 : (![0, 0, 0] : Fin 3 → Nat) = fun _ => 0 := by funext a; fin_cases a <;> rfl
/-- A block stored whole reads back as what was stored. -/
theorem read_one {sp : Space} {S : Shape} {e : EltTy} (v : View sig .tc sp S e) (f : v.ty.Contents (Elt F)) {off : Fin S.rank → Nat}
    (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩), View.canon_unit_zero h]

/-- The pieces of this way tile the output block. -/
theorem coverAU (hc : Anew (F := F) T0 i) (h2 : k0_cond2 i (nUsed (F := F) T1) = 1#1) (h3 : ¬ k0_cond3 i (nUsed (F := F) T1) = 1#1) (y : S256x1024.Idx) :
    ∃ pc ∈ (runAU c i arg4 harg4 arg5 harg5 arg6 harg6 arg7 harg7 T0 T1 x0 x1 x2 a hc h2 h3).1, y ∈ pc.1.set :=
  View.cover_of_tiledL (runAU c i arg4 harg4 arg5 harg5 arg6 harg6 arg7 harg7 T0 T1 x0 x1 x2 a hc h2 h3).1 S256x1024.size (by sl_kernel_rfl) y

/-- The copy after this way. -/
theorem copyAU (hc : Anew (F := F) T0 i) (h2 : k0_cond2 i (nUsed (F := F) T1) = 1#1) (h3 : ¬ k0_cond3 i (nUsed (F := F) T1) = 1#1) :
    (runAU c i arg4 harg4 arg5 harg5 arg6 harg6 arg7 harg7 T0 T1 x0 x1 x2 a hc h2 h3).2.1 = k0_pay1 x1 := by
  show wcopy.view.read (Elt F) (runAU c i arg4 harg4 arg5 harg5 arg6 harg6 arg7 harg7 T0 T1 x0 x1 x2 a hc h2 h3).2.1 = _
  unfold runAU
  dsimp only
  sl_unfold_words
  rw [show wcopy.view.read (Elt F) (wcopy.view.writes (Elt F) wcopy.view.junk [⟨Rect.unit ![0, 0] S2048x1024.size inb_S2048x1024_S2048x1024_0_0, k0_pay1 (View.readAt (Elt F) arg5.view (Rect.unit ![0, 0, 0] S1x2048x1024.size inb_S1x2048x1024_S1x2048x1024_0_0_0).toLoadRect (arg5.view.rep x1))⟩]) = _ from read_one wcopy.view _ hz2 inb_S2048x1024_S2048x1024_0_0 _]
  simp only [View.readAt_eq_ld, View.read_rep, View.ld_unit_zero (S := S1x2048x1024) hz3]

/-- The output block after this way. -/
theorem outAU (hc : Anew (F := F) T0 i) (h2 : k0_cond2 i (nUsed (F := F) T1) = 1#1) (h3 : ¬ k0_cond3 i (nUsed (F := F) T1) = 1#1) (f : Buf (Elt F) (arg7.view.loc (c : Thread nD τ))) :
    arg7.view.read (Elt F) (arg7.view.writes (Elt F) f (runAU c i arg4 harg4 arg5 harg5 arg6 harg6 arg7 harg7 T0 T1 x0 x1 x2 a hc h2 h3).1) = k0_pay2 x0 (k0_pay1 x1) x2 := by
  rw [View.read_writes_eq_canon _ _ _ (coverAU c i arg4 harg4 arg5 harg5 arg6 harg6 arg7 harg7 T0 T1 x0 x1 x2 a hc h2 h3)]
  unfold runAU
  dsimp only
  sl_unfold_words
  rw [View.canon_unit_zero hz2]

  simp only [View.readCov_unit_zero (S := S2048x1024) _ hz2, View.readAt_eq_ld, View.read_rep, View.read_whole, View.ld_unit_zero (S := S1x2048x1024) hz3, View.ld_unit_zero (S := S1x1x1024) hz3, View.ld_unit_zero (S := S256x2048) hz2, View.ld_unit_zero (S := S2048x1024) hz2]

/-- The pieces of this way tile the output block. -/
theorem coverAZ (hc : Anew (F := F) T0 i) (h2 : ¬ k0_cond2 i (nUsed (F := F) T1) = 1#1) (h3 : k0_cond3 i (nUsed (F := F) T1) = 1#1) (y : S256x1024.Idx) :
    ∃ pc ∈ (runAZ c i arg4 harg4 arg5 harg5 arg6 harg6 arg7 harg7 T0 T1 x0 x1 x2 a hc h2 h3).1, y ∈ pc.1.set :=
  View.cover_of_tiledL (runAZ c i arg4 harg4 arg5 harg5 arg6 harg6 arg7 harg7 T0 T1 x0 x1 x2 a hc h2 h3).1 S256x1024.size (by sl_kernel_rfl) y

/-- The copy after this way. -/
theorem copyAZ (hc : Anew (F := F) T0 i) (h2 : ¬ k0_cond2 i (nUsed (F := F) T1) = 1#1) (h3 : k0_cond3 i (nUsed (F := F) T1) = 1#1) :
    (runAZ c i arg4 harg4 arg5 harg5 arg6 harg6 arg7 harg7 T0 T1 x0 x1 x2 a hc h2 h3).2.1 = k0_pay1 x1 := by
  show wcopy.view.read (Elt F) (runAZ c i arg4 harg4 arg5 harg5 arg6 harg6 arg7 harg7 T0 T1 x0 x1 x2 a hc h2 h3).2.1 = _
  unfold runAZ
  dsimp only
  sl_unfold_words
  rw [show wcopy.view.read (Elt F) (wcopy.view.writes (Elt F) wcopy.view.junk [⟨Rect.unit ![0, 0] S2048x1024.size inb_S2048x1024_S2048x1024_0_0, k0_pay1 (View.readAt (Elt F) arg5.view (Rect.unit ![0, 0, 0] S1x2048x1024.size inb_S1x2048x1024_S1x2048x1024_0_0_0).toLoadRect (arg5.view.rep x1))⟩]) = _ from read_one wcopy.view _ hz2 inb_S2048x1024_S2048x1024_0_0 _]
  simp only [View.readAt_eq_ld, View.read_rep, View.ld_unit_zero (S := S1x2048x1024) hz3]

/-- The output block after this way. -/
theorem outAZ (hc : Anew (F := F) T0 i) (h2 : ¬ k0_cond2 i (nUsed (F := F) T1) = 1#1) (h3 : k0_cond3 i (nUsed (F := F) T1) = 1#1) (f : Buf (Elt F) (arg7.view.loc (c : Thread nD τ))) :
    arg7.view.read (Elt F) (arg7.view.writes (Elt F) f (runAZ c i arg4 harg4 arg5 harg5 arg6 harg6 arg7 harg7 T0 T1 x0 x1 x2 a hc h2 h3).1) = k0_pay3 := by
  rw [View.read_writes_eq_canon _ _ _ (coverAZ c i arg4 harg4 arg5 harg5 arg6 harg6 arg7 harg7 T0 T1 x0 x1 x2 a hc h2 h3)]
  unfold runAZ
  dsimp only
  sl_unfold_words
  rw [View.canon_unit_zero hz2]

  try simp only [View.readCov_unit_zero (S := S2048x1024) _ hz2, View.readAt_eq_ld, View.read_rep, View.read_whole, View.ld_unit_zero (S := S1x2048x1024) hz3, View.ld_unit_zero (S := S1x1x1024) hz3, View.ld_unit_zero (S := S256x2048) hz2, View.ld_unit_zero (S := S2048x1024) hz2]

/-- The pieces of this way tile the output block. -/
theorem coverKU (hc : ¬ Anew (F := F) T0 i) (h2 : k0_cond2 i (nUsed (F := F) T1) = 1#1) (h3 : ¬ k0_cond3 i (nUsed (F := F) T1) = 1#1) (y : S256x1024.Idx) :
    ∃ pc ∈ (runKU c i arg4 harg4 arg5 harg5 arg6 harg6 arg7 harg7 T0 T1 x0 x1 x2 a hc h2 h3).1, y ∈ pc.1.set :=
  View.cover_of_tiledL (runKU c i arg4 harg4 arg5 harg5 arg6 harg6 arg7 harg7 T0 T1 x0 x1 x2 a hc h2 h3).1 S256x1024.size (by sl_kernel_rfl) y

/-- The copy after this way. -/
theorem copyKU (hc : ¬ Anew (F := F) T0 i) (h2 : k0_cond2 i (nUsed (F := F) T1) = 1#1) (h3 : ¬ k0_cond3 i (nUsed (F := F) T1) = 1#1) :
    (runKU c i arg4 harg4 arg5 harg5 arg6 harg6 arg7 harg7 T0 T1 x0 x1 x2 a hc h2 h3).2.1 = a := by
  show wcopy.view.read (Elt F) (runKU c i arg4 harg4 arg5 harg5 arg6 harg6 arg7 harg7 T0 T1 x0 x1 x2 a hc h2 h3).2.1 = _
  unfold runKU
  dsimp only
  sl_unfold_words
  rfl

/-- The output block after this way. -/
theorem outKU (hc : ¬ Anew (F := F) T0 i) (h2 : k0_cond2 i (nUsed (F := F) T1) = 1#1) (h3 : ¬ k0_cond3 i (nUsed (F := F) T1) = 1#1) (f : Buf (Elt F) (arg7.view.loc (c : Thread nD τ))) :
    arg7.view.read (Elt F) (arg7.view.writes (Elt F) f (runKU c i arg4 harg4 arg5 harg5 arg6 harg6 arg7 harg7 T0 T1 x0 x1 x2 a hc h2 h3).1) = k0_pay2 x0 a x2 := by
  rw [View.read_writes_eq_canon _ _ _ (coverKU c i arg4 harg4 arg5 harg5 arg6 harg6 arg7 harg7 T0 T1 x0 x1 x2 a hc h2 h3)]
  unfold runKU
  dsimp only
  sl_unfold_words
  rw [View.canon_unit_zero hz2]

  simp only [View.readCov_unit_zero (S := S2048x1024) _ hz2, View.readAt_eq_ld, View.read_rep, View.read_whole, View.ld_unit_zero (S := S1x2048x1024) hz3, View.ld_unit_zero (S := S1x1x1024) hz3, View.ld_unit_zero (S := S256x2048) hz2, View.ld_unit_zero (S := S2048x1024) hz2]

/-- The pieces of this way tile the output block. -/
theorem coverKZ (hc : ¬ Anew (F := F) T0 i) (h2 : ¬ k0_cond2 i (nUsed (F := F) T1) = 1#1) (h3 : k0_cond3 i (nUsed (F := F) T1) = 1#1) (y : S256x1024.Idx) :
    ∃ pc ∈ (runKZ c i arg4 harg4 arg5 harg5 arg6 harg6 arg7 harg7 T0 T1 x0 x1 x2 a hc h2 h3).1, y ∈ pc.1.set :=
  View.cover_of_tiledL (runKZ c i arg4 harg4 arg5 harg5 arg6 harg6 arg7 harg7 T0 T1 x0 x1 x2 a hc h2 h3).1 S256x1024.size (by sl_kernel_rfl) y

/-- The copy after this way. -/
theorem copyKZ (hc : ¬ Anew (F := F) T0 i) (h2 : ¬ k0_cond2 i (nUsed (F := F) T1) = 1#1) (h3 : k0_cond3 i (nUsed (F := F) T1) = 1#1) :
    (runKZ c i arg4 harg4 arg5 harg5 arg6 harg6 arg7 harg7 T0 T1 x0 x1 x2 a hc h2 h3).2.1 = a := by
  show wcopy.view.read (Elt F) (runKZ c i arg4 harg4 arg5 harg5 arg6 harg6 arg7 harg7 T0 T1 x0 x1 x2 a hc h2 h3).2.1 = _
  unfold runKZ
  dsimp only
  sl_unfold_words
  rfl

/-- The output block after this way. -/
theorem outKZ (hc : ¬ Anew (F := F) T0 i) (h2 : ¬ k0_cond2 i (nUsed (F := F) T1) = 1#1) (h3 : k0_cond3 i (nUsed (F := F) T1) = 1#1) (f : Buf (Elt F) (arg7.view.loc (c : Thread nD τ))) :
    arg7.view.read (Elt F) (arg7.view.writes (Elt F) f (runKZ c i arg4 harg4 arg5 harg5 arg6 harg6 arg7 harg7 T0 T1 x0 x1 x2 a hc h2 h3).1) = k0_pay3 := by
  rw [View.read_writes_eq_canon _ _ _ (coverKZ c i arg4 harg4 arg5 harg5 arg6 harg6 arg7 harg7 T0 T1 x0 x1 x2 a hc h2 h3)]
  unfold runKZ
  dsimp only
  sl_unfold_words
  rw [View.canon_unit_zero hz2]

  try simp only [View.readCov_unit_zero (S := S2048x1024) _ hz2, View.readAt_eq_ld, View.read_rep, View.read_whole, View.ld_unit_zero (S := S1x2048x1024) hz3, View.ld_unit_zero (S := S1x1x1024) hz3, View.ld_unit_zero (S := S256x2048) hz2, View.ld_unit_zero (S := S2048x1024) hz2]

end Cert.Kernel2Ideal.Down

end
-- ==== Proof.DownIdealWords.lean ====
/- Of the program over the extended reals. The mixture's second product over its grid: the points' coordinates, the words of the two tables that the body
   reads there, and which blocks of its arrays each point works on, for any contents of the tables that name
   experts the weights have. -/
module

public import proofs.«01_k».proof.Proof.DownIdealLeft
public import Idealize.ShloMosaic.Lib.Pipeline.TableIdle
public import Idealize.ShloMosaic.Lib.Pipeline.Frame
public import Idealize.ShloMosaic.Lib.ValueIdx

@[expose] public section

set_option maxRecDepth 16384
set_option Elab.async false

noncomputable section

namespace Cert.Kernel2Ideal.Down

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open ValueIdx (ix1 ix2 ix3)

variable {F : FTy → Type} [FloatOps F]

/-! ## The words a point reads -/

/-- The offset of a point's own word is its row block. -/
theorem off1_eq : ∀ i : grid0.Coords, k0_off1 i 0 = (i 1).val := by
  intro i
  show (BitVec.ofNat 32 (i 1).val).toNat = (i 1).val
  have h : (i 1).val < 224 := (i 1).isLt
  rw [BitVec.toNat_ofNat]; omega

theorem prev_word : ∀ j : Fin 224, (Scalar.indexCast (Scalar.maxsi (Scalar.subi (BitVec.ofNat 32 j.val) 1#32) 0#32)).toNat = j.val - 1 := by
  decide +kernel

/-- The offset of the word before it is the row block before, the first one's own for the first. -/
theorem off2_eq (i : grid0.Coords) : k0_off2 i 0 = (i 1).val - 1 := prev_word (i 1)

theorem eHere_eq (T : S224.Idx → BitVec 32) (i : grid0.Coords) : eHere (F := F) T i = T (ix1 (⟨(i 1).val, (i 1).isLt⟩ : Fin 224)) := by
  refine congrArg T (funext fun b => ?_)
  apply Fin.ext
  match b with
  | ⟨0, _⟩ => show k0_off1 i 0 + 1 * 0 = (i 1).val; rw [off1_eq]; rfl

theorem ePrev_eq (T : S224.Idx → BitVec 32) (i : grid0.Coords) : ePrev (F := F) T i = T (ix1 (⟨(i 1).val - 1, lt_of_le_of_lt (Nat.sub_le _ _) (i 1).isLt⟩ : Fin 224)) := by
  refine congrArg T (funext fun b => ?_)
  apply Fin.ext
  match b with
  | ⟨0, _⟩ => show k0_off2 i 0 + 1 * 0 = (i 1).val - 1; rw [off2_eq]; rfl

theorem nUsed_eq (T : S1.Idx → BitVec 32) : nUsed (F := F) T = T (ix1 (0 : Fin 1)) := by
  refine congrArg T (funext fun b => ?_)
  fin_cases b
  exact Subsingleton.elim (α := Fin 1) _ _

theorem or_bits : ∀ p q : BitVec 1, ¬ (Scalar.cmpi .ne (Scalar.extui (Scalar.ori p q)) 0#32 = 1#1) → p = 0#1 ∧ q = 0#1 := by decide

theorem first_bit : ∀ j : Fin 224, Scalar.cmpi .eq (BitVec.ofNat 32 j.val) 0#32 = 0#1 → j.val ≠ 0 := by decide +kernel

theorem ne_bit (x y : BitVec 32) (h : Scalar.cmpi .ne x y = 0#1) : x = y := by
  by_contra hn
  have : Scalar.cmpi .ne x y = 1#1 := by
    show BitVec.ofBool (x != y) = 1#1
    rw [show (x != y) = true from bne_iff_ne.mpr hn]; rfl
  rw [this] at h
  exact absurd h (by decide)

/-- Where the body keeps its copy, the point is not of the first row block and its expert is the one before. -/
theorem kept (T : S224.Idx → BitVec 32) (i : grid0.Coords) (h : ¬ Anew (F := F) T i) : (i 1).val ≠ 0 ∧ eHere (F := F) T i = ePrev (F := F) T i :=
  ⟨first_bit (i 1) (or_bits _ _ h).1, ne_bit _ _ (or_bits _ _ h).2⟩

theorem one_of_two : ∀ p : BitVec 1, (Scalar.cmpi .ne (Scalar.extui p) 0#32 = 1#1) ↔ p = 1#1 := by decide

/-- Exactly one of the two stores of a point happens. -/
theorem used_iff (i : grid0.Coords) (v : BitVec 32) : k0_cond3 i v = 1#1 ↔ ¬ k0_cond2 i v = 1#1 := by
  unfold k0_cond3 k0_cond2
  dsimp only
  rw [one_of_two, one_of_two]
  unfold Scalar.cmpi
  simp only [IntOp.cmpi, BitVec.slt, BitVec.sle]
  by_cases h : (BitVec.ofNat 32 (i 1).val).toInt < v.toInt
  · rw [decide_eq_false (not_le.mpr h), decide_eq_true h]; decide
  · simp [h, not_lt.mp h]

end Cert.Kernel2Ideal.Down

end
-- ==== Proof.DownIdealData.lean ====
/- Of the program over the extended reals. The mixture's second product over its grid: the blocks each point works on, what the point's output block and
   the copy of the weights hold afterwards, and the invariant between two points. -/
module

public import proofs.«01_k».proof.Proof.DownIdealWords

@[expose] public section

set_option maxRecDepth 16384
set_option Elab.async false

noncomputable section

namespace Cert.Kernel2Ideal.Down

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open ValueIdx (ix1 ix2 ix3)

variable {F : FTy → Type} [FloatOps F]

local notation "𝕄" => MT nD τ sig Unit (Elt F) ℕ (UR sig nD τ) ℕ

variable (m : (ℓ : Loc nD τ sig) → Buf (Elt F) ℓ) (a : (pcfg0 (F := F)).Adm)

/-! ## The arrays as the region finds them -/

theorem hostOps0_fresh : (hostOps0 : List (HloOp τ sig (Elt F))).Forall fun op => op.fresh = ∅ := by
  simp only [List.Forall]; rfl

/-- What each buffer holds when the region starts: the one host operation has run. -/
abbrev V (c : Dev nD) (b : Ref sig .tc) : Buf (Elt F) ((c : Thread nD τ).loc b) :=
  StableHlo.after hostOps0 (fun b => m (c, b)) b

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    exact StableHlo.devRef_ne_of_ne (by decide)))

/-! ## The pipeline at the tables' contents -/

/-- The pipeline at the contents the tables have. -/
abbrev cfgA : Pipeline.Cfg sig Λ₀ := cfg0 (F := F) a

theorem N_A : (cfgA a).N = 448 := N_0

/-- A point's coordinates: the column block and the row block. -/
abbrev crd (t : Fin (cfgA a).N) : grid0.Coords := (cfgA a).grid.coords t

theorem crd_vals : ∀ t : Fin grid0.N, (grid0.coords t 0).val = t.val / 224 ∧ (grid0.coords t 1).val = t.val % 224 := by
  decide +kernel

theorem crd_col (t : Fin (cfgA a).N) : (crd a t 0).val = t.val / 224 := (crd_vals t).1
theorem crd_row (t : Fin (cfgA a).N) : (crd a t 1).val = t.val % 224 := (crd_vals t).2

/-- The point's row block. -/
abbrev rowOf (t : Fin (cfgA a).N) : Fin 224 := ⟨t.val % 224, Nat.mod_lt _ (by omega)⟩

/-- The words of the tables. -/
abbrev T0 : S224.Idx → BitVec 32 := a.1 0
abbrev T1 : S1.Idx → BitVec 32 := a.1 1

/-- Each window's staging buffer at a point. -/
abbrev ms0 (t : Fin (cfgA a).N) : Memref sig .tc .vmem S256x2048 .bf16 := spec0_0.stage ((cfgA a).slots t (0 : Fin 4))
abbrev hs0 (t : Fin (cfgA a).N) : (ms0 a t).IsWhole := hstage0_0 (((cfgA a).slots t (0 : Fin 4)).cast nbuf0_0)
abbrev ms1 (t : Fin (cfgA a).N) : Memref sig .tc .vmem S1x2048x1024 .f32 := spec0_1.stage ((cfgA a).slots t (1 : Fin 4))
abbrev hs1 (t : Fin (cfgA a).N) : (ms1 a t).IsWhole := hstage0_1 (((cfgA a).slots t (1 : Fin 4)).cast nbuf0_1)
abbrev ms2 (t : Fin (cfgA a).N) : Memref sig .tc .vmem S1x1x1024 .f32 := spec0_2.stage ((cfgA a).slots t (2 : Fin 4))
abbrev hs2 (t : Fin (cfgA a).N) : (ms2 a t).IsWhole := hstage0_2 (((cfgA a).slots t (2 : Fin 4)).cast nbuf0_2)
abbrev ms3 (t : Fin (cfgA a).N) : Memref sig .tc .vmem S256x1024 .f32 := spec0_3.stage ((cfgA a).slots t (3 : Fin 4))
abbrev hs3 (t : Fin (cfgA a).N) : (ms3 a t).IsWhole := hstage0_3 (((cfgA a).slots t (3 : Fin 4)).cast nbuf0_3)

/-- Window `w`'s block at a point, read off its array. -/
def iblk (c : Dev nD) (w : Fin (cfgA a).W) (t : Fin (cfgA a).N) : (((cfgA a).win w).xblock (crd a t)).Idx → Elt F ((cfgA a).win w).elt :=
  (((cfgA a).win w).blk t).view.read (Elt F) (V m c (Pipeline.arrRef spec0 w))

/-- The point's rows, weights and offsets. -/
abbrev xB (c : Dev nD) (t : Fin (cfgA a).N) : S256x2048.Idx → Elt F .bf16 := iblk m a c (0 : Fin 4) t
abbrev wB (c : Dev nD) (t : Fin (cfgA a).N) : S1x2048x1024.Idx → Elt F .f32 := iblk m a c (1 : Fin 4) t
abbrev bB (c : Dev nD) (t : Fin (cfgA a).N) : S1x1x1024.Idx → Elt F .f32 := iblk m a c (2 : Fin 4) t

/-! ## The experts the words name -/

theorem tr1_0 (i : grid0.Coords) : cc0_transform_1 k0_off1_inb numel1_S1 a.1 i 0 = (T0 a (ix1 (⟨(i 1).val, (i 1).isLt⟩ : Fin 224))).toNat := by
  show ((T0 a) ((Rect.unit (s := S224) (k0_off1 i) S1.size (k0_off1_inb i)).emb (Shape.Idx.first (numel1_S1.symm ▸ Nat.one_pos)))).toNat = _
  congr 2
  funext b
  apply Fin.ext
  match b with
  | ⟨0, _⟩ => show k0_off1 i 0 + 1 * 0 = (i 1).val; rw [off1_eq]; rfl

theorem tr1_2 (i : grid0.Coords) : cc0_transform_1 k0_off1_inb numel1_S1 a.1 i 2 = (i 0).val := by
  show (BitVec.ofNat 32 (i 0).val).toNat = _
  have h : (i 0).val < 2 := (i 0).isLt
  rw [BitVec.toNat_ofNat]; omega

/-- A point's word names an expert. -/
theorem word_lt (i : grid0.Coords) : (T0 a (ix1 (⟨(i 1).val, (i 1).isLt⟩ : Fin 224))).toNat < 32 := by
  obtain ⟨h, -⟩ := a.2.1 i
  have h0 : (cc0_transform_1 k0_off1_inb numel1_S1 a.1 i 0 + 1) * 1 ≤ 32 := h 0
  rw [tr1_0] at h0
  omega

/-- The expert of a point. -/
def exOf (t : Fin (cfgA a).N) : Fin 32 := ⟨(T0 a (ix1 (⟨(crd a t 1).val, (crd a t 1).isLt⟩ : Fin 224))).toNat, word_lt a (crd a t)⟩

/-- The column block of a point. -/
abbrev colOf (t : Fin (cfgA a).N) : Fin 2 := ⟨t.val / 224, by have := t.isLt; have := N_A a; omega⟩

theorem ix1_0 (t : Fin (cfgA a).N) : ((cfgA a).win (1 : Fin 4)).index t 0 = (exOf a t).val := tr1_0 a (crd a t)
theorem ix1_1 (t : Fin (cfgA a).N) : ((cfgA a).win (1 : Fin 4)).index t 1 = 0 := rfl
theorem ix1_2 (t : Fin (cfgA a).N) : ((cfgA a).win (1 : Fin 4)).index t 2 = t.val / 224 := (tr1_2 a (crd a t)).trans (crd_col a t)

/-- The weights' block of a point: its expert's, at its columns. -/
theorem wB_apply (c : Dev nD) (t : Fin (cfgA a).N) (k : Fin 2048) (n : Fin 1024) :
    wB m a c t (ix3 (0 : Fin 1) k n) = m ((c : Thread nD τ).loc main_arg1)
      (ix3 (exOf a t) k (⟨(colOf a t).val * 1024 + n.val, by have := (colOf a t).isLt; have := n.isLt; omega⟩ : Fin 2048)) := by
  unfold wB iblk
  rw [View.read_apply]
  show V m c main_arg1 _ = m ((c : Thread nD τ).loc main_arg1) _
  rw [V_main_arg1]
  congr 1
  funext b
  apply Fin.ext
  match b with
  | ⟨0, _⟩ => show ((cfgA a).win (1 : Fin 4)).index t 0 * 1 + 1 * 0 = (exOf a t).val; rw [ix1_0]; omega
  | ⟨1, _⟩ => show ((cfgA a).win (1 : Fin 4)).index t 1 * 2048 + 1 * k.val = k.val; rw [ix1_1]; omega
  | ⟨2, _⟩ => show ((cfgA a).win (1 : Fin 4)).index t 2 * 1024 + 1 * n.val = t.val / 224 * 1024 + n.val; rw [ix1_2]; omega

/-- Where the body keeps its copy, the weights' block is the one of the point before. -/
theorem wB_kept (c : Dev nD) (t : Fin (cfgA a).N) (h : ¬ Anew (F := F) (T0 a) (crd a t)) :
    ∃ h0 : t.val ≠ 0, wB m a c t = wB m a c ⟨t.val - 1, by have := t.isLt; omega⟩ := by
  obtain ⟨hr, he⟩ := kept _ _ h
  rw [crd_row] at hr
  have h0 : t.val ≠ 0 := fun hz => hr (by rw [hz])
  refine ⟨h0, ?_⟩
  rw [eHere_eq, ePrev_eq] at he
  have hlt : t.val - 1 < (cfgA a).N := by have := t.isLt; omega
  have hex : exOf a t = exOf a ⟨t.val - 1, hlt⟩ := by
    apply Fin.ext
    unfold exOf
    show (T0 a _).toNat = (T0 a _).toNat
    rw [he]
    congr 3
    apply Fin.ext
    show (crd a t 1).val - 1 = (crd a ⟨t.val - 1, hlt⟩ 1).val
    rw [crd_row, crd_row]
    show t.val % 224 - 1 = (t.val - 1) % 224
    omega
  have hcol : colOf a t = colOf a ⟨t.val - 1, hlt⟩ := by
    apply Fin.ext
    show t.val / 224 = (t.val - 1) / 224
    omega
  funext y
  have hy : y = ix3 (0 : Fin 1) (y 1) (y 2) := by
    funext b
    match b with
    | ⟨0, _⟩ => exact Subsingleton.elim (α := Fin 1) _ _
    | ⟨1, _⟩ => rfl
    | ⟨2, _⟩ => rfl
  rw [hy]
  refine (wB_apply m a c t (y 1) (y 2)).trans (Eq.trans ?_ (wB_apply m a c ⟨t.val - 1, hlt⟩ (y 1) (y 2)).symm)
  rw [hex]
  congr 2
  apply Fin.ext
  show (colOf a t).val * 1024 + _ = (colOf a ⟨t.val - 1, hlt⟩).val * 1024 + _
  rw [hcol]

/-! ## The proof data -/

/-- The point's row block is one of those in use. -/
abbrev Used (t : Fin (cfgA a).N) : Prop := k0_cond2 (crd a t) (nUsed (F := F) (T1 a)) = 1#1

open Classical in
/-- What a point leaves in its output block. -/
def left (c : Dev nD) (t : Fin (cfgA a).N) : S256x1024.Idx → Elt F .f32 :=
  if Used a t then k0_pay2 (xB m a c t) (k0_pay1 (wB m a c t)) (bB m a c t) else k0_pay3

/-- The invariant before a point: the copy of the weights is that of the point before (anything before the first
    one), the body's halves of the tables, the random register. -/
def Phi (c : Dev nD) (n : ℕ) : sProp 𝕄 :=
  iprop((∃ f, ⌜∀ h : n - 1 < (cfgA a).N, n ≠ 0 → f = k0_pay1 (wB m a c ⟨n - 1, h⟩)⌝ ∗ (wcopy.view.loc (c : Thread nD τ) ↦{fullShare} f))
    ∗ (tabE.view.loc (c : Thread nD τ) ↦{fullShare.right} T0 a) ∗ (tabN.view.loc (c : Thread nD τ) ↦{fullShare.right} T1 a)
    ∗ ∃ r, prngReg c r)

/-- The proof data of the one pipeline. -/
def dats (_ : Fin 1) (c : Dev nD) : Dat τ (Elt F) Unit ℕ (UR sig nD τ) ℕ (cfgA a) c where
  A w := V m c (Pipeline.arrRef spec0 w)
  after w t := match w with
    | ⟨0, _⟩ => iblk m a c (0 : Fin 4) t
    | ⟨1, _⟩ => iblk m a c (1 : Fin 4) t
    | ⟨2, _⟩ => iblk m a c (2 : Fin 4) t
    | ⟨3, _⟩ => left m a c t
  Φ t := Phi m a c t.val
  q _ := fullShare
  owed _ := 0

theorem after_0 (c : Dev nD) (t : Fin (cfgA a).N) : (dats m a 0 c).after (0 : Fin 4) t = iblk m a c (0 : Fin 4) t := rfl
theorem after_1 (c : Dev nD) (t : Fin (cfgA a).N) : (dats m a 0 c).after (1 : Fin 4) t = iblk m a c (1 : Fin 4) t := rfl
theorem after_2 (c : Dev nD) (t : Fin (cfgA a).N) : (dats m a 0 c).after (2 : Fin 4) t = iblk m a c (2 : Fin 4) t := rfl
theorem after_3 (c : Dev nD) (t : Fin (cfgA a).N) : (dats m a 0 c).after (3 : Fin 4) t = left m a c t := rfl

/-- Each input's staging buffer holds the input's block when the body runs. -/
theorem before_0 (c : Dev nD) (t : Fin (cfgA a).N) (d) : (dats m a 0 c).before (0 : Fin 4) t d = iblk m a c (0 : Fin 4) t :=
  ((dats m a 0 c).before_in_eq_fetched (0 : Fin 4) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats m a 0 c).before (1 : Fin 4) t d = iblk m a c (1 : Fin 4) t :=
  ((dats m a 0 c).before_in_eq_fetched (1 : Fin 4) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats m a 0 c).before (2 : Fin 4) t d = iblk m a c (2 : Fin 4) t :=
  ((dats m a 0 c).before_in_eq_fetched (2 : Fin 4) rfl (fun _ => rfl) (fun _ _ _ => rfl) (fun t => by rw [after_2]; unfold Dat.blockOf iblk; rfl) t d).trans
    (by unfold Dat.fetched Dat.blockOf iblk; rfl)

/-- No point leaves its output block alone. -/
theorem not_idle (t : Fin (cfgA a).N) : (cfgA a).idle (3 : Fin 4) (crd a t) = false := by
  show (!(k0_cond2 (crd a t) (a.1.atD 1 ![0]) == 1#1) && !(k0_cond3 (crd a t) (a.1.atD 1 ![0]) == 1#1)) = false
  by_cases h : k0_cond2 (crd a t) (a.1.atD 1 ![0]) = 1#1
  · rw [h]; rfl
  · rw [(used_iff _ _).mpr h]; simp

end Cert.Kernel2Ideal.Down

end
-- ==== Proof.DownIdealBody.lean ====
/- Of the program over the extended reals. The mixture's second product over its grid: the body keeps the invariant at every point, and the whole program
   runs. -/
module

public import proofs.«01_k».proof.Proof.DownIdealData

@[expose] public section

set_option maxRecDepth 16384
set_option Elab.async false

noncomputable section

namespace Cert.Kernel2Ideal.Down

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open ValueIdx (ix1 ix2 ix3)

variable {F : FTy → Type} [FloatOps F]

local notation "𝕄" => MT nD τ sig Unit (Elt F) ℕ (UR sig nD τ) ℕ

variable (m : (ℓ : Loc nD τ sig) → Buf (Elt F) ℓ) (a : (pcfg0 (F := F)).Adm)

/-! ## One point -/

/-- The body at a point, as the pipeline calls it. -/
abbrev ptBody (t : Fin (cfgA a).N) : Prog (TpuEff nD τ sig (Elt F) Λ₀ .tc) PUnit :=
  bodyAt (crd a t) (ms0 a t) (hs0 a t) (ms1 a t) (hs1 a t) (ms2 a t) (hs2 a t) (ms3 a t) (hs3 a t)

/-- What one way of the body does, told with the point's values: from any copy `f` it leaves the copy at the point's
    weights and the output block at what `left` says. -/
def PtRun (c : Dev nD) (t : Fin (cfgA a).N) (f : Buf (Elt F) ((c : Thread nD τ).loc cc0_scratch0)) : Prop :=
  ∀ K : PUnit → sProp 𝕄,
    iprop(Ins c (ms0 a t) (ms1 a t) (ms2 a t) (T0 a) (T1 a) (xB m a c t) (wB m a c t) (bB m a c t)
      ∗ (∃ d, owns (c : Thread nD τ) (ms3 a t) fullShare d)
      ∗ (wcopy.view.loc (c : Thread nD τ) ↦{fullShare} f)
      ∗ (iprop(Ins c (ms0 a t) (ms1 a t) (ms2 a t) (T0 a) (T1 a) (xB m a c t) (wB m a c t) (bB m a c t)
          ∗ owns (c : Thread nD τ) (ms3 a t) fullShare (left m a c t)
          ∗ (wcopy.view.loc (c : Thread nD τ) ↦{fullShare} k0_pay1 (wB m a c t))) -∗ K ⟨⟩))
      ⊢ wp frame (wpE (defs₀ (F := F)) Variants.none c none) Set.univ (ptBody a t) K

/-- Weights copied anew, row block in use. -/
theorem ptRun_AU (c : Dev nD) (t : Fin (cfgA a).N) (f) (hc : Anew (F := F) (T0 a) (crd a t)) (h2 : Used a t) : PtRun m a c t f := by
  intro K
  have h3 : ¬ k0_cond3 (crd a t) (nUsed (F := F) (T1 a)) = 1#1 := fun h => (used_iff _ _).mp h h2
  have hcp := (copyAU c (crd a t) (ms0 a t) (hs0 a t) (ms1 a t) (hs1 a t) (ms2 a t) (hs2 a t) (ms3 a t) (hs3 a t) (T0 a) (T1 a) (xB m a c t) (wB m a c t) (bB m a c t) f hc h2 h3)
  have hout := outAU c (crd a t) (ms0 a t) (hs0 a t) (ms1 a t) (hs1 a t) (ms2 a t) (hs2 a t) (ms3 a t) (hs3 a t) (T0 a) (T1 a) (xB m a c t) (wB m a c t) (bB m a c t) f hc h2 h3
  have hrun := (runAU c (crd a t) (ms0 a t) (hs0 a t) (ms1 a t) (hs1 a t) (ms2 a t) (hs2 a t) (ms3 a t) (hs3 a t) (T0 a) (T1 a) (xB m a c t) (wB m a c t) (bB m a c t) f hc h2 h3).2.2 K
  rw [hcp] at hrun
  refine Idealize.SL.BI.BIBase.Entails.trans ?_ hrun
  iintro ⟨HI, HO, HS, Hk⟩
  isplitl [HI]; · iexact HI
  isplitl [HO]; · iexact HO
  isplitl [HS]; · iexact HS
  iintro ⟨HI, ⟨%e3, H3⟩, HS⟩
  iapply Hk
  isplitl [HI]; · iexact HI
  isplitl [H3]
  · unfold owns; iexists _; isplitr; swap
    · iexact H3
    · ipureintro; rw [left, if_pos h2]; exact hout e3
  iexact HS

/-- Weights copied anew, row block not in use. -/
theorem ptRun_AZ (c : Dev nD) (t : Fin (cfgA a).N) (f) (hc : Anew (F := F) (T0 a) (crd a t)) (h2 : ¬ Used a t) : PtRun m a c t f := by
  intro K
  have h3 : k0_cond3 (crd a t) (nUsed (F := F) (T1 a)) = 1#1 := (used_iff _ _).mpr h2
  have hcp := (copyAZ c (crd a t) (ms0 a t) (hs0 a t) (ms1 a t) (hs1 a t) (ms2 a t) (hs2 a t) (ms3 a t) (hs3 a t) (T0 a) (T1 a) (xB m a c t) (wB m a c t) (bB m a c t) f hc h2 h3)
  have hout := outAZ c (crd a t) (ms0 a t) (hs0 a t) (ms1 a t) (hs1 a t) (ms2 a t) (hs2 a t) (ms3 a t) (hs3 a t) (T0 a) (T1 a) (xB m a c t) (wB m a c t) (bB m a c t) f hc h2 h3
  have hrun := (runAZ c (crd a t) (ms0 a t) (hs0 a t) (ms1 a t) (hs1 a t) (ms2 a t) (hs2 a t) (ms3 a t) (hs3 a t) (T0 a) (T1 a) (xB m a c t) (wB m a c t) (bB m a c t) f hc h2 h3).2.2 K
  rw [hcp] at hrun
  refine Idealize.SL.BI.BIBase.Entails.trans ?_ hrun
  iintro ⟨HI, HO, HS, Hk⟩
  isplitl [HI]; · iexact HI
  isplitl [HO]; · iexact HO
  isplitl [HS]; · iexact HS
  iintro ⟨HI, ⟨%e3, H3⟩, HS⟩
  iapply Hk
  isplitl [HI]; · iexact HI
  isplitl [H3]
  · unfold owns; iexists _; isplitr; swap
    · iexact H3
    · ipureintro; rw [left, if_neg h2]; exact hout e3
  iexact HS

/-- Weights kept, row block in use. -/
theorem ptRun_KU (c : Dev nD) (t : Fin (cfgA a).N) (f) (hc : ¬ Anew (F := F) (T0 a) (crd a t)) (h2 : Used a t) (hf : f = k0_pay1 (wB m a c t)) : PtRun m a c t f := by
  intro K
  have h3 : ¬ k0_cond3 (crd a t) (nUsed (F := F) (T1 a)) = 1#1 := fun h => (used_iff _ _).mp h h2
  have hcp := (copyKU c (crd a t) (ms0 a t) (hs0 a t) (ms1 a t) (hs1 a t) (ms2 a t) (hs2 a t) (ms3 a t) (hs3 a t) (T0 a) (T1 a) (xB m a c t) (wB m a c t) (bB m a c t) f hc h2 h3).trans hf
  have hout := outKU c (crd a t) (ms0 a t) (hs0 a t) (ms1 a t) (hs1 a t) (ms2 a t) (hs2 a t) (ms3 a t) (hs3 a t) (T0 a) (T1 a) (xB m a c t) (wB m a c t) (bB m a c t) f hc h2 h3
  have hrun := (runKU c (crd a t) (ms0 a t) (hs0 a t) (ms1 a t) (hs1 a t) (ms2 a t) (hs2 a t) (ms3 a t) (hs3 a t) (T0 a) (T1 a) (xB m a c t) (wB m a c t) (bB m a c t) f hc h2 h3).2.2 K
  rw [hcp] at hrun
  refine Idealize.SL.BI.BIBase.Entails.trans ?_ hrun
  iintro ⟨HI, HO, HS, Hk⟩
  isplitl [HI]; · iexact HI
  isplitl [HO]; · iexact HO
  isplitl [HS]; · iexact HS
  iintro ⟨HI, ⟨%e3, H3⟩, HS⟩
  iapply Hk
  isplitl [HI]; · iexact HI
  isplitl [H3]
  · unfold owns; iexists _; isplitr; swap
    · iexact H3
    · ipureintro; rw [left, if_pos h2]; rw [← hf]; exact hout e3
  iexact HS

/-- Weights kept, row block not in use. -/
theorem ptRun_KZ (c : Dev nD) (t : Fin (cfgA a).N) (f) (hc : ¬ Anew (F := F) (T0 a) (crd a t)) (h2 : ¬ Used a t) (hf : f = k0_pay1 (wB m a c t)) : PtRun m a c t f := by
  intro K
  have h3 : k0_cond3 (crd a t) (nUsed (F := F) (T1 a)) = 1#1 := (used_iff _ _).mpr h2
  have hcp := (copyKZ c (crd a t) (ms0 a t) (hs0 a t) (ms1 a t) (hs1 a t) (ms2 a t) (hs2 a t) (ms3 a t) (hs3 a t) (T0 a) (T1 a) (xB m a c t) (wB m a c t) (bB m a c t) f hc h2 h3).trans hf
  have hout := outKZ c (crd a t) (ms0 a t) (hs0 a t) (ms1 a t) (hs1 a t) (ms2 a t) (hs2 a t) (ms3 a t) (hs3 a t) (T0 a) (T1 a) (xB m a c t) (wB m a c t) (bB m a c t) f hc h2 h3
  have hrun := (runKZ c (crd a t) (ms0 a t) (hs0 a t) (ms1 a t) (hs1 a t) (ms2 a t) (hs2 a t) (ms3 a t) (hs3 a t) (T0 a) (T1 a) (xB m a c t) (wB m a c t) (bB m a c t) f hc h2 h3).2.2 K
  rw [hcp] at hrun
  refine Idealize.SL.BI.BIBase.Entails.trans ?_ hrun
  iintro ⟨HI, HO, HS, Hk⟩
  isplitl [HI]; · iexact HI
  isplitl [HO]; · iexact HO
  isplitl [HS]; · iexact HS
  iintro ⟨HI, ⟨%e3, H3⟩, HS⟩
  iapply Hk
  isplitl [HI]; · iexact HI
  isplitl [H3]
  · unfold owns; iexists _; isplitr; swap
    · iexact H3
    · ipureintro; rw [left, if_neg h2]; exact hout e3
  iexact HS

/-- The body at a point, whichever way it goes, from a copy that is the one of the point before. -/
theorem ptRun (c : Dev nD) (t : Fin (cfgA a).N) (f) (hf : ∀ h : t.val - 1 < (cfgA a).N, t.val ≠ 0 → f = k0_pay1 (wB m a c ⟨t.val - 1, h⟩)) :
    PtRun m a c t f := by
  by_cases hc : Anew (F := F) (T0 a) (crd a t)
  · by_cases h2 : Used a t
    · exact ptRun_AU m a c t f hc h2
    · exact ptRun_AZ m a c t f hc h2
  · obtain ⟨h0, hw⟩ := wB_kept m a c t hc
    have hf' : f = k0_pay1 (wB m a c t) := by rw [hw]; exact hf _ h0
    by_cases h2 : Used a t
    · exact ptRun_KU m a c t f hc h2 hf'
    · exact ptRun_KZ m a c t f hc h2 hf'

theorem phi_eq (c : Dev nD) (t : Fin ((cfgA a).N + 1)) : (dats m a 0 c).Φ t = Phi m a c t.val := rfl

theorem owes_eq (c : Dev nD) (t : Fin (cfgA a).N) : (dats m a 0 c).owesAt () t.succ = (dats m a 0 c).owesAt () t.castSucc := rfl

set_option maxHeartbeats 1000000 in
/-- The body keeps the invariant at every point. -/
theorem sound_body (c : Dev nD) (t : Fin (cfgA a).N) :
    iprop((dats m a 0 c).Φ t.castSucc ∗ (dats m a 0 c).owesAt () t.castSucc
        ∗ (∃ d, owns (c : Thread nD τ) (ms0 a t) fullShare ((dats m a 0 c).before (0 : Fin 4) t d))
        ∗ (∃ d, owns (c : Thread nD τ) (ms1 a t) fullShare ((dats m a 0 c).before (1 : Fin 4) t d))
        ∗ (∃ d, owns (c : Thread nD τ) (ms2 a t) fullShare ((dats m a 0 c).before (2 : Fin 4) t d))
        ∗ (∃ d, owns (c : Thread nD τ) (ms3 a t) fullShare ((dats m a 0 c).before (3 : Fin 4) t d)))
      ⊢ wp frame (wpE (defs₀ (F := F)) Variants.none c none) Set.univ (ptBody a t) fun _ =>
          iprop((dats m a 0 c).Φ t.succ ∗ (dats m a 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats m a 0 c).before w t d))
                  | true => owns (c : Thread nD τ) (((cfgA a).win w).stage ((cfgA a).slots t w)) fullShare ((dats m a 0 c).after w t)
                | false => owns (c : Thread nD τ) (((cfgA a).win w).stage ((cfgA a).slots t w)) fullShare ((dats m a 0 c).after w t)) := by
  rw [bigSep_W0]
  rewrite [not_idle a t]
  simp only [before_0, before_1, before_2, after_0, after_1, after_2, after_3]
  rewrite [phi_eq, phi_eq, Fin.val_castSucc, Fin.val_succ, owes_eq]
  unfold Phi
  iintro ⟨⟨⟨%f0, %hf0, HS0⟩, HT0, HT1, HR⟩, Ho, ⟨%d0, H0⟩, ⟨%d1, H1⟩, ⟨%d2, H2⟩, ⟨%d3, H3⟩⟩
  iapply (ptRun m a c t f0 hf0 _)
  isplitl [H0 H1 H2 HT0 HT1]
  · isplitl [H0]; · iapply rep_of_owns; iexact H0
    isplitl [H1]; · iapply rep_of_owns; iexact H1
    isplitl [H2]; · iapply rep_of_owns; iexact H2
    isplitl [HT0]; · iexact HT0
    iexact HT1
  isplitl [H3]; · iexists _; iexact H3
  isplitl [HS0]; · iexact HS0
  iintro ⟨⟨H0, H1, H2, HT0, HT1⟩, H3, HS0⟩
  isplitl [HS0 HT0 HT1 HR]
  · isplitl [HS0]
    · iexists _; isplitr; swap
      · iexact HS0
      · ipureintro; intro h _; rfl
    isplitl [HT0]
    · iexact HT0
    isplitl [HT1]
    · iexact HT1
    iexact HR
  isplitl [Ho]; · iexact Ho
  isplitl [H0]
  · iapply owns_of_rep; iexact H0
  isplitl [H1]
  · iapply owns_of_rep; iexact H1
  isplitl [H2]
  · iapply owns_of_rep; iexact H2
  iexact H3

theorem body_obligation (c : Dev nD) : BodyObligation (dats m a 0 c) (defs₀ (F := F)) Variants.none () Set.univ := fun t => by
  rw [bigSep_W0]
  exact sound_body m a c t

/-! ## The whole program -/

theorem share_eq (c : Dev nD) (w : Fin (cfgA a).W) : (dats m a 0 c).share w = fullShare := by unfold Dat.share; split <;> rfl

/-- The tables as the region hands them to the pipeline, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg3) ↦{q 0} v 0) ∗ (((c : Thread nD τ).loc main_arg4) ↦{q 1} v 1)) := by
  unfold Pipeline.prefHeld
  rw [show (Finset.univ : Finset (Fin 2)) = insert (0 : Fin 2) {(1 : Fin 2)} from by decide,
    bigSep_insert (by decide), bigSep_singleton]
  rfl

/-- The invariant holds before the first point; -/
theorem phi_first (c : Dev nD) :
    iprop(Pipeline.ΦA spec0 c ∗ Pipeline.ΦT pre0 a.1 c) ⊢ (dats m a 0 c).Φ 0 := by
  rw [phi_eq, Fin.val_zero]
  unfold Pipeline.ΦA Pipeline.ΦT Phi
  rw [prefHeld_eq, scopedRest0_eq]
  iintro ⟨⟨⟨%f0, HS0⟩, HR⟩, HT0, HT1⟩
  isplitl [HS0]
  · iexists f0; isplitr; swap
    · iexact HS0
    · ipureintro; intro h hn; exact absurd rfl hn
  isplitl [HT0]
  · iexact HT0
  isplitl [HT1]
  · iexact HT1
  iexact HR

/-- after the last one it gives back what the region lent. -/
theorem phi_last (c : Dev nD) : (dats m a 0 c).Φ (Fin.last (cfgA a).N) ⊢ Pipeline.ΦA spec0 c := by
  rw [phi_eq, Fin.val_last]
  unfold Pipeline.ΦA Phi
  rw [scopedRest0_eq]
  iintro ⟨⟨%f0, -, HS0⟩, -, -, HR⟩
  isplitl [HS0]
  · iexists f0; iexact HS0
  iexact HR

set_option backward.isDefEq.respectTransparency.types false in
set_option maxHeartbeats 4000000 in
/-- From any memory whose tables hold the contents `a`, every run of the program ends, each array at the computed
    contents, every other buffer as the region found it, and every counter at zero. -/
theorem run_main (ρ : Dev nD → PrngReg) (ha : ∀ (c : Dev nD) k, m ((c.tc : Thread nD τ).loc (pre0.ref k)) = a.1 k) :
    θ_run (defs (F := F)) (onTc (τ := τ) (main (F := F))) (s₀ m ρ)
      (fun r => Pipeline.FramePost (Pipeline.pin (pcfgs (F := F)) fun _ => a) (dats m a) 0 (V m) r ∧ r.2.sem = fun _ => 0) :=
  Pipeline.θ_run_frameP_track (pcfgs (F := F)) (fun _ => a) (dats m a) 0 launch0 (defs₀ (F := F)) Variants.none m ρ main
    (hbody := fun c => (body_obligation m a c).loose) (hshare := share_eq m a) (howed := fun _ _ => rfl)
    (V := V m)
    (hmain := Pipeline.hmainP_prefix (pcfgs (F := F)) 0 (defs₀ (F := F)) Variants.none m main hostOps0 hostOps0_sub hostOps0_fresh main_chain)
    (hA := fun _ _ => rfl)
    (hpf := fun c k => by
      refine Eq.trans ?_ (ha c k)
      fin_cases k
      · exact V_main_arg3 m c
      · exact V_main_arg4 m c)
    (hin := phi_first m a) (hout := phi_last m a)
    (Q' := _) (hQ' := fun _ h => h)

end Cert.Kernel2Ideal.Down

end
-- ==== Proof.DownIdealFrame.lean ====
/- Of the program over the extended reals. The mixture's second product: under its precondition the program's tables are admissible, so every run of it
   ends, with its arguments unchanged. -/
module

public import proofs.«01_k».proof.Proof.DownIdealBody
public import proofs.«01_k».proof.Proof.DownPre

@[expose] public section

set_option maxRecDepth 16384
set_option Elab.async false

noncomputable section

namespace Cert.Kernel2Ideal.Down

open Cert.Kernel2Ideal Cert.Kernel2Ideal.Gen
open Idealize.ShloMosaic
open Idealize.ShloMosaic.TcCoe
open Idealize.SL Idealize.SL.RA Idealize.SL.Sem
open Idealize.ShloMosaic.Pipeline (Dat Cfg Window)
open ValueIdx (ix1 ix2 ix3)

variable {F : FTy → Type} [FloatOps F]

/-- Tables that name experts the weights have are admissible: every block they lead to is inside its array. -/
theorem ok_of_range (pf : pre0.Contents (Elt F)) (h : ∀ j : S224.Idx, ((pf 0 : S224.Idx → BitVec 32) j).toNat < 32) : ok0 pf := by
  have hw : ∀ i : grid0.Coords, cc0_transform_1 k0_off1_inb numel1_S1 pf i 0 < 32 := fun i => h _
  have hw2 : ∀ i : grid0.Coords, cc0_transform_2 k0_off1_inb numel1_S1 pf i 0 < 32 := fun i => h _
  have hc : ∀ i : grid0.Coords, (BitVec.ofNat 32 (i 0).val).toNat < 2 := fun i => by
    have h2 : (i 0).val < 2 := (i 0).isLt
    rw [BitVec.toNat_ofNat]; omega
  refine ⟨fun i => ⟨fun b => ?_, .inl rfl⟩, fun i => ⟨fun b => ?_, .inl rfl⟩⟩
  · match b with
    | ⟨0, _⟩ => show (cc0_transform_1 k0_off1_inb numel1_S1 pf i 0 + 1) * 1 ≤ 32; have := hw i; omega
    | ⟨1, _⟩ => show (0 + 1) * 2048 ≤ 2048; omega
    | ⟨2, _⟩ => show ((BitVec.ofNat 32 (i 0).val).toNat + 1) * 1024 ≤ 2048; have := hc i; omega
  · match b with
    | ⟨0, _⟩ => show (cc0_transform_2 k0_off1_inb numel1_S1 pf i 0 + 1) * 1 ≤ 32; have := hw2 i; omega
    | ⟨1, _⟩ => show (0 + 1) * 1 ≤ 1; omega
    | ⟨2, _⟩ => show ((BitVec.ofNat 32 (i 0).val).toNat + 1) * 1024 ≤ 2048; have := hc i; omega

variable (m : (ℓ : Loc nD τ sig) → Buf (Elt F) ℓ)

/-- The tables' contents in a memory. -/
def tables : pre0.Contents (Elt F) := fun k => m (((0 : Dev nD).tc : Thread nD τ).loc (pre0.ref k))

/-- In every memory in which the words name experts, the tables' contents are admissible. -/
def adm (h : ∀ j : S224.Idx, ((tables m 0 : S224.Idx → BitVec 32) j).toNat < 32) : (pcfg0 (F := F)).Adm := ⟨tables m, ok_of_range _ h⟩

theorem tables_eq (c : Dev nD) (k) : m ((c.tc : Thread nD τ).loc (pre0.ref k)) = tables m k := by
  have hc : c = 0 := Subsingleton.elim (α := Fin 1) c 0
  subst hc; rfl

/-- The arguments at the end of a run. -/
theorem args_kept (a : (pcfg0 (F := F)).Adm) (r : PUnit × MemSt nD τ sig (Elt F))
    (h : Pipeline.FramePost (Pipeline.pin (pcfgs (F := F)) fun _ => a) (dats m a) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 (0 : Fin 4)).trans (((dats m a 0 c).arrAt_in (0 : Fin 4) rfl _).trans (V_main_arg0 m c)),
   ((h c).1 (1 : Fin 4)).trans (((dats m a 0 c).arrAt_in (1 : Fin 4) rfl _).trans (V_main_arg1 m c)),
   ((h c).2 main_arg2 (Pipeline.mem_restRefs_of main_arg2 (by decide) (show ∀ w, (spec0 w).arr.view.ref ≠ main_arg2 from by decide))).trans (V_main_arg2 m c),
   ((h c).2 main_arg3 (Pipeline.mem_restRefs_of main_arg3 (by decide) (show ∀ w, (spec0 w).arr.view.ref ≠ main_arg3 from by decide))).trans (V_main_arg3 m c),
   ((h c).2 main_arg4 (Pipeline.mem_restRefs_of main_arg4 (by decide) (show ∀ w, (spec0 w).arr.view.ref ≠ main_arg4 from by decide))).trans (V_main_arg4 m c)⟩

end Cert.Kernel2Ideal.Down

end
-- ==== Proof.DownSpec.lean ====
/- The mixture's second product, in plain words: row `r` of the result belongs to row block `r / 256`; where that block
   is in use the row is the activation's row times the weights of the block's expert, plus the expert's offsets; where
   it is not, the row is zero. -/
module

public import proofs.«01_k».proof.Kernel2Ideal
public import Idealize.ShloMosaic.PureOps.Ideal.Laws
public import Idealize.ShloMosaic.Lib.ValueIdx

@[expose] public section

noncomputable section

namespace Cert.DownSpec

open Idealize.ShloMosaic Cert.Kernel2Ideal
open ValueIdx (ix1 ix2 ix3)

/-- The expert of a row block. -/
def expert (be : S224.Idx → BitVec 32) (g : Fin 224) : Fin 32 := ⟨(be (ix1 g)).toNat % 32, Nat.mod_lt _ (by omega)⟩

/-- A row block is in use: its number is below the word. -/
abbrev InUse (nv : S1.Idx → BitVec 32) (g : Fin 224) : Prop := IntOp.cmpi .slt (BitVec.ofNat 32 g.val) (nv (ix1 (0 : Fin 1))) = 1#1

/-- The row block of a row. -/
abbrev blockOf (r : Fin 57344) : Fin 224 := ⟨r.val / 256, by have := r.isLt; omega⟩

/-- One entry of the product. -/
def at' (x : S57344x2048.Idx → EReal) (w : S32x2048x2048.Idx → EReal) (b : S32x2048.Idx → EReal)
    (be : S224.Idx → BitVec 32) (nv : S1.Idx → BitVec 32) (r : Fin 57344) (n : Fin 2048) : EReal :=
  if InUse nv (blockOf r) then
    (∑ k : Fin 2048, x (ix2 r k) * w (ix3 (expert be (blockOf r)) k n)) + b (ix2 (expert be (blockOf r)) n)
  else 0

/-- The product, as an array. -/
def arr (x : S57344x2048.Idx → EReal) (w : S32x2048x2048.Idx → EReal) (b : S32x2048.Idx → EReal)
    (be : S224.Idx → BitVec 32) (nv : S1.Idx → BitVec 32) : S57344x2048.Idx → EReal :=
  fun i => at' x w b be nv (i 0) (i 1)

end Cert.DownSpec

end
-- ==== Proof.DownKernel.lean ====
/- The mixture's second product over the extended reals: what each point leaves is its block of the specification, and
   the blocks tile the result. -/
module

public import proofs.«01_k».proof.Proof.DownIdealFrame
public import proofs.«01_k».proof.Proof.DownSpec
public import Idealize.ShloMosaic.Lib.Pointwise

@[expose] public section

set_option maxRecDepth 16384
set_option Elab.async false

noncomputable section

namespace Cert.Kernel2Ideal.Down

open Cert.Kernel2Ideal Cert.Kernel2Ideal.Gen
open Idealize.ShloMosaic
open Idealize.ShloMosaic.TcCoe
open Idealize.SL Idealize.SL.RA Idealize.SL.Sem
open Idealize.ShloMosaic.Pipeline (Dat Cfg Window)

/-! ## The payloads at an index -/

/-- The copy of the weights. -/
theorem pay1_apply (w : Vec Ideal S1x2048x1024 .f32) (k : Fin 2048) (n : Fin 1024) :
    k0_pay1 (F := Ideal) w (ix2 k n) = w (ix3 (0 : Fin 1) k n) := by
  pointwise [k0_pay1]

/-- The product of a block of rows with a block of weights, plus the offsets. -/
theorem pay2_apply (x : Vec Ideal S256x2048 .bf16) (w : Vec Ideal S2048x1024 .bf16) (b : Vec Ideal S1x1x1024 .f32) (i : Fin 256) (n : Fin 1024) :
    k0_pay2 (F := Ideal) x w b (ix2 i n) = (∑ k : Fin 2048, x (ix2 i k) * w (ix2 k n)) + b (ix3 (0 : Fin 1) (0 : Fin 1) n) := by
  pointwise [k0_pay2, dot_S256x2048_S2048x1024_S256x1024_1_0_0_1_n_n]

/-- Zero. -/
theorem pay3_apply (i : Fin 256) (n : Fin 1024) : k0_pay3 (F := Ideal) (ix2 i n) = 0 := by
  pointwise [k0_pay3]

variable (m : (ℓ : Loc nD τ sig) → Buf (Elt Ideal) ℓ) (a : (pcfg0 (F := Ideal)).Adm)

/-! ## The blocks a point reads -/

theorem ix0_0 (t : Fin (cfgA a).N) : ((cfgA a).win (0 : Fin 4)).index t 0 = t.val % 224 := by
  show (BitVec.ofNat 32 (crd a t 1).val).toNat = _
  rw [crd_row, BitVec.toNat_ofNat]; omega
theorem ix0_1 (t : Fin (cfgA a).N) : ((cfgA a).win (0 : Fin 4)).index t 1 = 0 := rfl

/-- The rows of a point. -/
theorem xB_apply (c : Dev nD) (t : Fin (cfgA a).N) (i : Fin 256) (k : Fin 2048) :
    xB m a c t (ix2 i k) = m (c.tc.loc main_arg0) (ix2 (⟨t.val % 224 * 256 + i.val, by omega⟩ : Fin 57344) k) := by
  unfold xB iblk
  rw [View.read_apply]
  show V m c main_arg0 _ = m (c.tc.loc main_arg0) _
  rw [V_main_arg0]
  congr 1
  funext b
  apply Fin.ext
  match b with
  | ⟨0, _⟩ => show ((cfgA a).win (0 : Fin 4)).index t 0 * 256 + 1 * i.val = t.val % 224 * 256 + i.val; rw [ix0_0]; omega
  | ⟨1, _⟩ => show ((cfgA a).win (0 : Fin 4)).index t 1 * 2048 + 1 * k.val = k.val; rw [ix0_1]; omega

theorem bx_0 (t : Fin (cfgA a).N) : ((cfgA a).win (2 : Fin 4)).index t 0 = (exOf a t).val := tr1_0 a (crd a t)
theorem bx_1 (t : Fin (cfgA a).N) : ((cfgA a).win (2 : Fin 4)).index t 1 = 0 := rfl
theorem bx_2 (t : Fin (cfgA a).N) : ((cfgA a).win (2 : Fin 4)).index t 2 = t.val / 224 := (tr1_2 a (crd a t)).trans (crd_col a t)

/-- The offsets as the region finds them. -/
theorem V_offsets (c : Dev nD) (e : Fin 32) (n : Fin 2048) :
    (V m c main_v0 : Vec Ideal S32x1x2048 .f32) (ix3 e (0 : Fin 1) n) = m (c.tc.loc main_arg2) (ix2 e n) := by
  have h : (V m c main_v0 : Vec Ideal S32x1x2048 .f32)
      = shapeCast S32x1x2048 (m (c.tc.loc main_arg2) : Vec Ideal S32x2048 .f32) shapeCasts_S32x2048_S32x1x2048 := by
    show StableHlo.after hostOps0 (fun b => m (c, b)) main_v0 = _
    after_results
    rfl
  rw [h]
  exact shapeCast_apply _ shapeCasts_S32x2048_S32x1x2048 _ (ix2 e n)
    (by rewrite [Shape.rowMajor_val_two, Shape.rowMajor_val_three]; show e.val * 2048 + n.val = (e.val * 1 + 0) * 2048 + n.val; omega)

/-- The offsets of a point. -/
theorem bB_apply (c : Dev nD) (t : Fin (cfgA a).N) (n : Fin 1024) :
    bB m a c t (ix3 (0 : Fin 1) (0 : Fin 1) n) = m (c.tc.loc main_arg2)
      (ix2 (exOf a t) (⟨(colOf a t).val * 1024 + n.val, by have := (colOf a t).isLt; have := n.isLt; omega⟩ : Fin 2048)) := by
  refine Eq.trans ?_ (V_offsets m c _ _)
  unfold bB iblk
  rw [View.read_apply]
  show V m c main_v0 _ = V m c main_v0 _
  congr 1
  funext b
  apply Fin.ext
  match b with
  | ⟨0, _⟩ => show ((cfgA a).win (2 : Fin 4)).index t 0 * 1 + 1 * 0 = (exOf a t).val; rw [bx_0]; omega
  | ⟨1, _⟩ => show ((cfgA a).win (2 : Fin 4)).index t 1 * 1 + 1 * 0 = 0; rw [bx_1]
  | ⟨2, _⟩ => show ((cfgA a).win (2 : Fin 4)).index t 2 * 1024 + 1 * n.val = t.val / 224 * 1024 + n.val; rw [bx_2]; omega

/-! ## The result -/

/-- The whole result, as contents of the result array. -/
def result (c : Dev nD) : Buf (Elt Ideal) ((c : Thread nD τ).loc main_v1) :=
  DownSpec.arr (m (c.tc.loc main_arg0)) (m (c.tc.loc main_arg1)) (m (c.tc.loc main_arg2)) (T0 a) (T1 a)

/-- The point's row block is in use where the specification says so. -/
theorem used_eq (t : Fin (cfgA a).N) : Used a t ↔ DownSpec.InUse (T1 a) (rowOf a t) := by
  show k0_cond2 (crd a t) (nUsed (F := Ideal) (T1 a)) = 1#1 ↔ _
  rw [nUsed_eq]
  unfold k0_cond2
  dsimp only
  rw [one_of_two, crd_row]
  rfl

/-- The point's expert is the specification's. -/
theorem expert_eq (t : Fin (cfgA a).N) : DownSpec.expert (T0 a) (rowOf a t) = exOf a t := by
  apply Fin.ext
  have hr : (⟨(crd a t 1).val, (crd a t 1).isLt⟩ : Fin 224) = rowOf a t := Fin.ext (crd_row a t)
  have hw := word_lt a (crd a t)
  show (T0 a (ix1 (rowOf a t))).toNat % 32 = (T0 a (ix1 (⟨(crd a t 1).val, (crd a t 1).isLt⟩ : Fin 224))).toNat
  rw [hr] at hw ⊢
  exact Nat.mod_eq_of_lt hw

/-- What a point leaves, at an index. -/
theorem left_apply (c : Dev nD) (t : Fin (cfgA a).N) (i : Fin 256) (n : Fin 1024) :
    left m a c t (ix2 i n) = result m a c
      (ix2 (⟨t.val % 224 * 256 + i.val, by omega⟩ : Fin 57344)
        (⟨t.val / 224 * 1024 + n.val, by have := (colOf a t).isLt; have := n.isLt; show t.val / 224 * 1024 + n.val < 2048; have h : t.val / 224 < 2 := (colOf a t).isLt; omega⟩ : Fin 2048)) := by
  have hblk : DownSpec.blockOf (⟨t.val % 224 * 256 + i.val, by omega⟩ : Fin 57344) = rowOf a t := by
    apply Fin.ext
    show (t.val % 224 * 256 + i.val) / 256 = t.val % 224
    omega
  show _ = DownSpec.at' (m (c.tc.loc main_arg0)) (m (c.tc.loc main_arg1)) (m (c.tc.loc main_arg2)) (T0 a) (T1 a)
    (⟨t.val % 224 * 256 + i.val, by omega⟩ : Fin 57344)
    (⟨t.val / 224 * 1024 + n.val, by have h : t.val / 224 < 2 := (colOf a t).isLt; have := n.isLt; omega⟩ : Fin 2048)
  unfold DownSpec.at' left
  rw [hblk, expert_eq]
  by_cases h : Used a t
  · rw [if_pos h, if_pos ((used_eq a t).mp h), pay2_apply, bB_apply]
    refine congrArg (fun s : EReal => s + _) (Finset.sum_congr rfl fun k _ => ?_)
    rw [pay1_apply, xB_apply]
    exact congrArg (fun s : EReal => _ * s) (wB_apply m a c t k n)
  · rw [if_neg h, if_neg (fun h' => h ((used_eq a t).mpr h')), pay3_apply]

theorem ix3_0 (t : Fin (cfgA a).N) : ((cfgA a).win (3 : Fin 4)).index t 0 = t.val % 224 := by
  show (BitVec.ofNat 32 (crd a t 1).val).toNat = _
  rw [crd_row, BitVec.toNat_ofNat]; omega
theorem ix3_1 (t : Fin (cfgA a).N) : ((cfgA a).win (3 : Fin 4)).index t 1 = t.val / 224 := by
  show (BitVec.ofNat 32 (crd a t 0).val).toNat = _
  have h : t.val / 224 < 2 := (colOf a t).isLt
  rw [crd_col, BitVec.toNat_ofNat]; omega

theorem cut3 (t : Fin (cfgA a).N) (X : Vec Ideal S256x1024 .f32) (i : Fin 256) (n : Fin 1024) :
    ((cfgA a).win (3 : Fin 4)).cut (crd a t) X (ix2 i n) = X (ix2 i n) :=
  congrArg X (funext fun b => by fin_cases b <;> rfl)

/-- Where an entry of a point's block lies in the result array. -/
theorem emb3 (t : Fin (cfgA a).N) (i : Fin 256) (n : Fin 1024) :
    (((cfgA a).win (3 : Fin 4)).blk t).view.emb (ix2 i n)
      = (ix2 (⟨t.val % 224 * 256 + i.val, by omega⟩ : Fin 57344)
        (⟨t.val / 224 * 1024 + n.val, by have h : t.val / 224 < 2 := (colOf a t).isLt; have := n.isLt; omega⟩ : Fin 2048) : S57344x2048.Idx) := by
  funext b
  apply Fin.ext
  match b with
  | ⟨0, _⟩ => show ((cfgA a).win (3 : Fin 4)).index t 0 * 256 + 1 * i.val = t.val % 224 * 256 + i.val; rw [ix3_0]; omega
  | ⟨1, _⟩ => show ((cfgA a).win (3 : Fin 4)).index t 1 * 1024 + 1 * n.val = t.val / 224 * 1024 + n.val; rw [ix3_1]; omega

/-- What a point writes back is its block of the result. -/
theorem flushed_eq (c : Dev nD) (t : Fin (cfgA a).N) :
    (dats m a 0 c).flushed (3 : Fin 4) t = (((cfgA a).win (3 : Fin 4)).blk t).view.read (Elt Ideal) (result m a c) := by
  show ((cfgA a).win (3 : Fin 4)).cut (crd a t) (left m a c t) = _
  funext y
  rw [View.read_apply]
  obtain ⟨i, n, rfl⟩ : ∃ (i : Fin 256) (n : Fin 1024), y = ix2 i n := ⟨y 0, y 1, (ix2_eta (n0 := 256) (n1 := 1024) y).symm⟩
  rw [cut3, emb3]
  exact left_apply m a c t i n

/-- Every point writes its block back: the next point's block is another. -/
theorem flushes (t : Fin (cfgA a).N) : ((cfgA a).win (3 : Fin 4)).flush t = true :=
  (Pipeline.Window.flush_reads ((cfgA a).win (3 : Fin 4)) rfl 1 (show 1 < grid0.bound 1 by decide) (show grid0.fixedAfter reads0_3 1 = true by decide) (Pipeline.Window.sep_of_coord cc0_transform_3 1 0 (fun _ => rfl) (by decide)) (P := 1) (m := 0) (show grid0.stride 1 = 1 by decide) rfl t).mpr (Nat.mod_one _)

/-- The blocks tile the array: row `r`, column `q` is in the block of point `224 (q / 1024) + r / 256`. -/
theorem final_o (c : Dev nD) : (dats m a 0 c).arrAt (3 : Fin 4) (cfgA a).N = result m a c :=
  (dats m a 0 c).arrAt_eq_of_cover (3 : Fin 4) (result m a c) (fun t _ => flushed_eq m a c t) fun x => by
    have h0 : (x 0 : Nat) < 57344 := (x 0).isLt
    have h1 : (x 1 : Nat) < 2048 := (x 1).isLt
    have hN := N_A a
    refine ⟨⟨(x 1 : Nat) / 1024 * 224 + (x 0 : Nat) / 256, by omega⟩, flushes a _, ?_⟩
    rw [show (((cfgA a).win (3 : Fin 4)).blk _).view.set = ((View.whole main_v1).slice (((cfgA a).win (3 : Fin 4)).rect _)).set from rfl, View.set_slice_whole, Rect.mem_set_unit]
    intro b
    match b with
    | ⟨0, _⟩ =>
      show ((cfgA a).win (3 : Fin 4)).index _ 0 * 256 ≤ (x 0 : Nat) ∧ (x 0 : Nat) < ((cfgA a).win (3 : Fin 4)).index _ 0 * 256 + 256
      rw [ix3_0]; dsimp only; omega
    | ⟨1, _⟩ =>
      show ((cfgA a).win (3 : Fin 4)).index _ 1 * 1024 ≤ (x 1 : Nat) ∧ (x 1 : Nat) < ((cfgA a).win (3 : Fin 4)).index _ 1 * 1024 + 1024
      rw [ix3_1]; dsimp only; omega

end Cert.Kernel2Ideal.Down

end
-- ==== Proof.ExpertTake.lean ====
/- The take of a table of matrices at a vector of words: entry `b` of the result is the matrix that word `b` names. -/
module

public import Idealize.ShloMosaic.Lib.ValueIdx
public import Idealize.ShloMosaic.Lib.Routing.Ops

@[expose] public section

noncomputable section

namespace Cert.Take

open Idealize.ShloMosaic
open ValueIdx (ix1 ix2 ix3)

/-- The dimension numbers of `table[words]` for a table `[N, R, C]` and `B` words. -/
abbrev slabDims (N R C B : Nat)
    (wf : GatherDims.WF ⟨3, ![N, R, C]⟩ ⟨2, ![B, 1]⟩ ⟨3, ![B, R, C]⟩ [1, 2] [0] [] [0] [] 1 ![1, R, C]) :
    GatherDims ⟨3, ![N, R, C]⟩ ⟨2, ![B, 1]⟩ ⟨3, ![B, R, C]⟩ where
  offsetDims := [1, 2]
  collapsedSliceDims := [0]
  operandBatchingDims := []
  startIndicesBatchingDims := []
  startIndexMap := [0]
  indexVectorDim := 1
  sliceSizes := ![1, R, C]
  wf := wf

/-- Entry `(b, r, c)` of the take is the table's entry `(r, c)` of the matrix that word `b` names. -/
theorem slab_apply {α : Type} {N R C B w : Nat} (wf : GatherDims.WF ⟨3, ![N, R, C]⟩ ⟨2, ![B, 1]⟩ ⟨3, ![B, R, C]⟩ [1, 2] [0] [] [0] [] 1 ![1, R, C])
    (x : (⟨3, ![N, R, C]⟩ : Shape).Idx → α) (idx : IVec ⟨2, ![B, 1]⟩ w) (b : Fin B) (r : Fin R) (c : Fin C) (e : Fin N)
    (he : (idx (ix2 b (0 : Fin 1))).toInt = (e.val : Int)) :
    Host.gather (slabDims N R C B wf) x idx (ix3 b r c) = x (ix3 e r c) := by
  unfold Host.gather
  congr 1
  funext a
  refine Fin.ext ?_
  show (slabDims N R C B wf).start (ix3 b r c) idx a + (slabDims N R C B wf).batchCoord (ix3 b r c) a
      + (slabDims N R C B wf).offCoord (ix3 b r c) a = _
  rw [GatherDims.batchCoord_eq_zero _ _ _ List.not_mem_nil, Nat.add_zero]
  match a with
  | ⟨0, _⟩ =>
    show (slabDims N R C B wf).start (ix3 b r c) idx 0 + (slabDims N R C B wf).offCoord (ix3 b r c) 0 = e.val
    rw [GatherDims.offCoord_eq_zero _ _ _ (fun h => ((GatherDims.mem_sKept _ _).mp h).1 (List.mem_singleton.mpr rfl)), Nat.add_zero]
    unfold GatherDims.start
    rw [dif_pos (show (0 : Fin 3) ∈ (slabDims N R C B wf).startIndexMap from List.mem_singleton.mpr rfl)]
    have hsi : (slabDims N R C B wf).siIdx (ix3 b r c) ⟨List.idxOf (0 : Fin 3) (slabDims N R C B wf).startIndexMap,
        List.idxOf_lt_length_iff.2 (List.mem_singleton.mpr rfl)⟩ = ix2 b (0 : Fin 1) := by
      funext d; refine Fin.ext ?_
      match d with
      | ⟨0, _⟩ => rfl
      | ⟨1, _⟩ => rfl
    rw [hsi, he]
    show min (e.val : Int).toNat (N - 1) = e.val
    have := e.isLt
    omega
  | ⟨1, _⟩ =>
    have hs : (slabDims N R C B wf).start (ix3 b r c) idx 1 = 0 := by
      unfold GatherDims.start
      rw [dif_neg (show (1 : Fin 3) ∉ ([0] : List (Fin 3)) from by decide)]
    show (slabDims N R C B wf).start (ix3 b r c) idx 1 + (slabDims N R C B wf).offCoord (ix3 b r c) 1 = r.val
    rw [hs, Nat.zero_add]
    rfl
  | ⟨2, _⟩ =>
    have hs : (slabDims N R C B wf).start (ix3 b r c) idx 2 = 0 := by
      unfold GatherDims.start
      rw [dif_neg (show (2 : Fin 3) ∉ ([0] : List (Fin 3)) from by decide)]
    show (slabDims N R C B wf).start (ix3 b r c) idx 2 + (slabDims N R C B wf).offCoord (ix3 b r c) 2 = c.val
    rw [hs, Nat.zero_add]
    rfl

/-- A word below 32 is not negative, so the wrap of negative words leaves it alone. -/
theorem wrap_word (x : BitVec 32) (h : x.toNat < 32) :
    Scalar.select (IntOp.cmpi .slt x 0#32) (IntOp.addi x 32#32) x = x := by
  have hx : IntOp.cmpi .slt x 0#32 = 0#1 := by
    show BitVec.ofBool (x.slt 0#32) = 0#1
    have hn : x.slt 0#32 = false := by
      simp only [BitVec.slt]
      have : x.toInt = x.toNat := BitVec.toInt_eq_toNat_of_lt (by omega)
      rw [this]
      exact decide_eq_false (by have : (0#32).toInt = 0 := by decide
                                omega)
    rw [hn]; rfl
  rw [hx]
  exact if_neg (by decide)

theorem word_toInt (x : BitVec 32) (h : x.toNat < 32) : x.toInt = (x.toNat : Int) := BitVec.toInt_eq_toNat_of_lt (by omega)

end Cert.Take

end
-- ==== Proof.DownRef.lean ====
/- The reference of the mixture's second product, read at an index: it is the specification, for words that name experts. -/
module

public import proofs.«01_k».proof.Proof.DownSpec
public import proofs.«01_k».proof.Proof.ExpertTake
public import proofs.«01_k».proof.Proof.Gen.Reference2Ideal.Read

@[expose] public section
set_option maxRecDepth 16384

noncomputable section

namespace Cert.DownSpec.Ref

open Idealize.ShloMosaic Cert.Reference2Ideal Cert.Reference2Ideal.Gen Cert.Reference2Ideal.Read
open ValueIdx (ix1 ix2 ix3)

variable (x0 : S57344x2048.Idx → EReal) (x1 : S32x2048x2048.Idx → EReal) (x2 : S32x2048.Idx → EReal)
  (x3 : S224.Idx → BitVec 32) (x4 : S1.Idx → BitVec 32)

/-- A word after the wrap of negative words. -/
theorem word_w (h : ∀ j, (x3 j).toNat < 32) (g : Fin 224) : val_main_v7 (F := Ideal) x3 (ix2 g (0 : Fin 1)) = x3 (ix1 g) := by
  rw [val_main_v7_apply, show idx_main_v7 (ix2 g (0 : Fin 1)) = ix1 g from funext fun a => by fin_cases a; rfl,
    val_main_v6_apply, val_main_v3_apply, val_main_v5_apply, val_main_v2_apply, val_main_v4_apply, val_main_c_apply, val_main_c_0_apply]
  exact Take.wrap_word _ (h _)

theorem word_b (h : ∀ j, (x3 j).toNat < 32) (g : Fin 224) : val_main_v15 (F := Ideal) x3 (ix2 g (0 : Fin 1)) = x3 (ix1 g) := by
  rw [val_main_v15_apply, show idx_main_v15 (ix2 g (0 : Fin 1)) = ix1 g from funext fun a => by fin_cases a; rfl,
    val_main_v14_apply, val_main_v11_apply, val_main_v13_apply, val_main_v10_apply, val_main_v12_apply, val_main_c_1_apply, val_main_c_2_apply]
  exact Take.wrap_word _ (h _)

theorem expert_val (h : ∀ j, (x3 j).toNat < 32) (g : Fin 224) : (expert x3 g).val = (x3 (ix1 g)).toNat := Nat.mod_eq_of_lt (h _)

/-- The expert's weights of a row block. -/
theorem weights (h : ∀ j, (x3 j).toNat < 32) (g : Fin 224) (k n : Fin 2048) :
    val_main_v8 (F := Ideal) x1 x3 (ix3 g k n) = x1 (ix3 (expert x3 g) k n) := by
  unfold val_main_v8
  refine Take.slab_apply (N := 32) (R := 2048) (C := 2048) (B := 224)
    gather_S32x2048x2048_S224x1_S224x2048x2048_12_0_n_n_0_1_120482048_wf x1 _ g k n (expert x3 g) ?_
  rw [word_w x3 h, Take.word_toInt _ (h _), expert_val x3 h]

/-- The expert's offsets of a row block. -/
theorem offsets (h : ∀ j, (x3 j).toNat < 32) (g : Fin 224) (n : Fin 2048) :
    val_main_v16 (F := Ideal) x2 x3 (ix2 g n) = x2 (ix2 (expert x3 g) n) := by
  unfold val_main_v16
  refine Routing.gather_row (nb := 32) (B := 2048) (n := 224) gather_S32x2048_S224x1_S224x2048_1_0_n_n_0_1_12048
    rfl rfl rfl rfl rfl x2 _ g n (expert x3 g) ?_ (by omega)
  rw [word_b x3 h, expert_val x3 h, BitVec.ofNat_toNat]
  exact (BitVec.setWidth_eq _).symm

/-- The activation's row. -/
theorem acts (g : Fin 224) (i : Fin 256) (k : Fin 2048) :
    val_main_v1 (F := Ideal) x0 (ix3 g i k) = x0 (ix2 (⟨g.val * 256 + i.val, by omega⟩ : Fin 57344) k) := by
  rw [val_main_v1_apply, val_main_v0_apply]
  show x0 _ = x0 _
  congr 1
  funext a
  apply Fin.ext
  match a with
  | ⟨0, _⟩ => show ((g.val * 256 + i.val) * 2048 + k.val) / 2048 = g.val * 256 + i.val; omega
  | ⟨1, _⟩ => show ((g.val * 256 + i.val) * 2048 + k.val) % 2048 = k.val; omega

/-- Whether a row block is in use. -/
theorem used (g : Fin 224) (i : Fin 256) (n : Fin 2048) :
    val_main_call0_v1 (F := Ideal) x4 (ix3 g i n) = IntOp.cmpi .slt (BitVec.ofNat 32 g.val) (x4 (ix1 (0 : Fin 1))) := by
  rw [val_main_call0_v1_apply, val_main_v24_apply, val_main_v23_apply, val_main_v20_apply, val_main_v22_apply]
  have h : val_main_v21 (F := Ideal) x4 (idx_main_v22 (idx_main_v24 (idx_main_call0_v1 (ix3 g i n)))) = x4 (ix1 (0 : Fin 1)) := by
    rw [show idx_main_v22 (idx_main_v24 (idx_main_call0_v1 (ix3 g i n))) = ValueIdx.ix0 from funext fun a => a.elim0]
    unfold val_main_v21
    exact shapeCast_apply x4 shapeCasts_S1_S_ ValueIdx.ix0 (ix1 (0 : Fin 1)) (by decide)
  rw [h]

/-- The product before the last reshape. -/
theorem prod_at (h : ∀ j, (x3 j).toNat < 32) (g : Fin 224) (i : Fin 256) (n : Fin 2048) :
    val_main_v19 (F := Ideal) x0 x1 x2 x3 (ix3 g i n)
      = (∑ k : Fin 2048, x0 (ix2 (⟨g.val * 256 + i.val, by omega⟩ : Fin 57344) k) * x1 (ix3 (expert x3 g) k n)) + x2 (ix2 (expert x3 g) n) := by
  rw [val_main_v19_apply, val_main_v9_apply, val_main_v18_apply, val_main_v17_apply]
  have hb : val_main_v16 (F := Ideal) x2 x3 (idx_main_v17 (idx_main_v18 (ix3 g i n))) = x2 (ix2 (expert x3 g) n) :=
    (congrArg (val_main_v16 (F := Ideal) x2 x3) (show idx_main_v17 (idx_main_v18 (ix3 g i n)) = ix2 g n from
      funext fun a => by fin_cases a <;> rfl)).trans (offsets x2 x3 h g n)
  rw [hb]
  refine congrArg (fun s : EReal => s + x2 (ix2 (expert x3 g) n)) (Finset.sum_congr rfl fun k _ => ?_)
  have hl : val_main_v1 (F := Ideal) x0 (lidx_main_v9 (ix3 g i n) k) = x0 (ix2 (⟨g.val * 256 + i.val, by omega⟩ : Fin 57344) k) :=
    (congrArg (val_main_v1 (F := Ideal) x0) (show lidx_main_v9 (ix3 g i n) k = ix3 g i k from
      funext fun a => by fin_cases a <;> rfl)).trans (acts x0 g i k)
  have hr : val_main_v8 (F := Ideal) x1 x3 (ridx_main_v9 (ix3 g i n) k) = x1 (ix3 (expert x3 g) k n) :=
    (congrArg (val_main_v8 (F := Ideal) x1 x3) (show ridx_main_v9 (ix3 g i n) k = ix3 g k n from
      funext fun a => by fin_cases a <;> rfl)).trans (weights x1 x3 h g k n)
  rw [hl, hr]

/-- The reference's result is the specification's array. -/
theorem out_eq (h : ∀ j, (x3 j).toNat < 32) : val_main_v26 (F := Ideal) x0 x1 x2 x3 x4 = arr x0 x1 x2 x3 x4 := by
  funext y
  obtain ⟨r, n, rfl⟩ : ∃ (r : Fin 57344) (n : Fin 2048), y = ix2 r n := ⟨y 0, y 1, funext fun a => by fin_cases a <;> rfl⟩
  have hr : r.val / 256 < 224 := by have := r.isLt; omega
  have hi : idx_main_v26 (ix2 r n) = ix3 (⟨r.val / 256, hr⟩ : Fin 224) (⟨r.val % 256, Nat.mod_lt _ (by omega)⟩ : Fin 256) n := by
    have := n.isLt
    funext a
    apply Fin.ext
    match a with
    | ⟨0, _⟩ => show (r.val * 2048 + n.val) / 524288 = r.val / 256; omega
    | ⟨1, _⟩ => show (r.val * 2048 + n.val) / 2048 % 256 = r.val % 256; omega
    | ⟨2, _⟩ => show (r.val * 2048 + n.val) % 2048 = n.val; omega
  rw [val_main_v26_apply, hi, val_main_v25_apply, used, prod_at x0 x1 x2 x3 h, val_main_call0_v2_apply, val_main_call0_v0_apply, val_main_cst_apply]
  have hrow : (⟨r.val / 256 * 256 + r.val % 256, by have := r.isLt; omega⟩ : Fin 57344) = r := Fin.ext (by show r.val / 256 * 256 + r.val % 256 = r.val; omega)
  show (if _ then _ else _) = at' x0 x1 x2 x3 x4 r n
  unfold at'
  dsimp only
  rw [hrow]
  refine if_congr (Iff.rfl) rfl ?_
  exact Ideal.ofBits_zero_f32

end Cert.DownSpec.Ref

end
-- ==== Proof.DownClaims.lean ====
/- The five claims of the mixture's second product. -/
module

public import proofs.«01_k».proof.Defs
public import proofs.«01_k».proof.Proof.DownFrame
public import proofs.«01_k».proof.Proof.DownKernel
public import proofs.«01_k».proof.Proof.DownRef
public import proofs.«01_k».proof.Proof.Gen.Reference2Ideal.Run
public import Idealize.ShloMosaic.Lib.Quiescent

@[expose] public section
set_option maxRecDepth 16384

noncomputable section

namespace Cert.Proof

open Idealize.ShloMosaic Idealize.SL.Sem

/-- Where the words name experts, the kernel returns and leaves its arguments and counters alone. -/
theorem down_frame : Cert.quiescent_Kernel2 := fun m ρ hpre =>
  (θ_run Cert.Kernel2.defs _ _).mono (fun r h => ⟨fun c => Cert.Kernel2.Down.args_kept m _ r h.1 c, h.2⟩)
    (Cert.Kernel2.Down.run_main m
      (Cert.Kernel2.Down.adm m (Cert.Pre_down_experts_in_range.in_range _ _ _ _ _ (hpre 0))) ρ
      (Cert.Kernel2.Down.tables_eq m))

/-- So does its idealization … -/
theorem down_frame_ideal : Cert.quiescent_Kernel2Ideal := fun m ρ hpre =>
  (θ_run Cert.Kernel2Ideal.defs _ _).mono (fun r h => ⟨fun c => Cert.Kernel2Ideal.Down.args_kept m _ r h.1 c, h.2⟩)
    (Cert.Kernel2Ideal.Down.run_main m
      (Cert.Kernel2Ideal.Down.adm m (Cert.Pre_down_experts_in_range.in_range _ _ _ _ _ (hpre 0))) ρ
      (Cert.Kernel2Ideal.Down.tables_eq m))

/-- … and the reference, which is host operations alone. -/
theorem down_frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Over the extended reals the kernel's result is the reference's: both are the specification's array of the same
    arguments. -/
theorem down_algebraic : Cert.algebraic_Kernel2Ideal_Reference2Ideal := by
  intro m ρ m' ρ' hpre hagree
  have hr := Cert.Pre_down_experts_in_range.in_range _ _ _ _ _ (hpre 0)
  refine ⟨fun c => Cert.Kernel2Ideal.Down.result m (Cert.Kernel2Ideal.Down.adm m hr) c, ?_, ?_⟩
  · exact (θ_run Cert.Kernel2Ideal.defs _ _).mono
      (fun r h c => ⟨((h.1 c).1 (3 : Fin 4)).trans (Cert.Kernel2Ideal.Down.final_o m _ c), Cert.Kernel2Ideal.Down.args_kept m _ r h.1 c⟩)
      (Cert.Kernel2Ideal.Down.run_main m (Cert.Kernel2Ideal.Down.adm m hr) ρ (Cert.Kernel2Ideal.Down.tables_eq m))
  · refine (θ_run Cert.Reference2Ideal.defs _ _).mono (fun r h c => ⟨(h c).1.trans ?_, (h c).2⟩)
      (Cert.Reference2Ideal.Value.run (F := Ideal) m' ρ')
    obtain ⟨h0, h1, h2, h3, h4⟩ := hagree c
    have hc : c = 0 := Subsingleton.elim (α := Fin 1) c 0
    subst hc
    rw [Cert.Reference2Ideal.Read.val_main_v26_eq, h0, h1, h2, h3, h4]
    exact DownSpec.Ref.out_eq _ _ _ _ _ hr

end Cert.Proof

end
-- ==== Proof.UpPre.lean ====
/- What the precondition of the mixture's first product says: every word of the table names one of the 32 experts. -/
module

public import proofs.«01_k».proof.Pre_up_experts_in_range
public import proofs.«01_k».proof.Proof.Gen.Pre_up_experts_in_range
public import Idealize.ShloMosaic.Lib.ReduceAll
public import Idealize.ShloMosaic.Lib.Affine

@[expose] public section

noncomputable section

namespace Cert.Pre_up_experts_in_range

open Idealize.ShloMosaic

/-- A word between 0 and 32 as a signed number is one as a natural number. -/
theorem word_in_range (x : BitVec 32) (h0 : IntOp.cmpi .sge x 0#32 = 1#1) (h1 : IntOp.cmpi .slt x 32#32 = 1#1) : x.toNat < 32 := by
  have h0' : BitVec.ofBool ((0#32).sle x) = 1#1 := h0
  have h1' : BitVec.ofBool (x.slt 32#32) = 1#1 := h1
  have e0 : (0#32).sle x = true := by revert h0'; cases (0#32).sle x <;> decide
  have e1 : x.slt 32#32 = true := by revert h1'; cases x.slt 32#32 <;> decide
  rw [BitVec.sle_iff_toInt_le] at e0
  rw [BitVec.slt_iff_toInt_lt] at e1
  have z : (0#32).toInt = 0 := by decide
  have t : (32#32).toInt = 32 := by decide
  rw [z] at e0
  rw [t] at e1
  have hx := BitVec.toInt_eq_toNat_cond x
  have := x.isLt
  split at hx <;> omega

theorem in_range {F : FTy → Type} [FloatOps F] (x0 : FVec F S57344x2048 .bf16) (x1 : FVec F S32x2048x4096 .f32) (x2 : FVec F S32x4096 .f32)
    (x3 : IVec S224 32) (x4 : IVec S1 32) (h : fn (F := F) x0 x1 x2 x3 x4 = fun _ => 1#1) (j : S224.Idx) : (x3 j).toNat < 32 := by
  have h' := congrFun h (Shape.Idx.first Gen.h_S_)
  dsimp only [fn] at h'
  have hj := Host.reduce_andi_all _ _ _ _ _ h' j
  obtain ⟨ha, hb⟩ := (IntOp.andi_eq_one (c := _) (d := _)).mp hj
  exact word_in_range _ ha hb

end Cert.Pre_up_experts_in_range

end
-- ==== Proof.UpIdealRun.lean ====
/- Of the program over the extended reals. The body of the mixture's first product at one grid point: what it leaves in its output block and in its
   copy of the expert's weights, on each of its four ways through the two conditions. -/
module

public import proofs.«01_k».proof.Proof.Gen.Kernel3Ideal.Skeleton
public import proofs.«01_k».proof.Proof.Gen.Kernel3Ideal.Launch
public import Idealize.ShloMosaic.Lib.Pipeline.Quiescent
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Kernel3Ideal.Up

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of experts, one word per row block. -/
abbrev tabE : Memref sig .tc .smem S224 .i32 := Memref.whole main_arg3
/-- The table holding the number of row blocks in use. -/
abbrev tabN : Memref sig .tc .smem S1 .i32 := Memref.whole main_arg4
/-- The body's copy of the current expert's weights, rounded. -/
abbrev wcopy : Memref sig .tc .vmem S2048x1024 .bf16 := Memref.whole cc0_scratch0

/-- The expert of the point's row block, as the body reads it. -/
abbrev eHere (T : S224.Idx → BitVec 32) (i : grid0.Coords) : BitVec 32 :=
  View.readAt (Elt F) tabE.view (Rect.unit (s := S224) (k0_off1 i) S1.size (k0_off1_inb i)).toLoadRect T (Shape.Idx.first (numel1_S1.symm ▸ Nat.one_pos))
/-- The expert of the row block before it (of the first one for the first). -/
abbrev ePrev (T : S224.Idx → BitVec 32) (i : grid0.Coords) : BitVec 32 :=
  View.readAt (Elt F) tabE.view (Rect.unit (s := S224) (k0_off2 i) S1.size (k0_off2_inb i)).toLoadRect T (Shape.Idx.first (numel1_S1.symm ▸ Nat.one_pos))
/-- The number of row blocks in use, as the body reads it. -/
abbrev nUsed (T : S1.Idx → BitVec 32) : BitVec 32 :=
  View.readAt (Elt F) tabN.view (Rect.unit (s := S1) ![0] S1.size inb_S1_S1_0).toLoadRect T (Shape.Idx.first (numel1_S1.symm ▸ Nat.one_pos))
/-- The body copies the weights anew: at the first row block, and where the expert changes. -/
abbrev Anew (T : S224.Idx → BitVec 32) (i : grid0.Coords) : Prop :=
  Scalar.cmpi .ne (Scalar.extui (Scalar.ori (Scalar.cmpi .eq (BitVec.ofNat 32 (i 1).val) 0#32) (Scalar.cmpi .ne (eHere (F := F) T i) (ePrev (F := F) T i)))) 0#32 = 1#1

variable (c : Dev nD) (i : grid0.Coords)
  (arg4 : Memref sig .tc .vmem S256x2048 .bf16) (harg4 : arg4.IsWhole)
  (arg5 : Memref sig .tc .vmem S1x2048x1024 .f32) (harg5 : arg5.IsWhole)
  (arg6 : Memref sig .tc .vmem S1x1x1024 .f32) (harg6 : arg6.IsWhole)
  (arg7 : Memref sig .tc .vmem S256x128 .bf16) (harg7 : arg7.IsWhole)
  (arg8 : Memref sig .tc .vmem S256x512 .bf16) (harg8 : arg8.IsWhole)
  (T0 : S224.Idx → BitVec 32) (T1 : S1.Idx → BitVec 32)
  (x0 : S256x2048.Idx → Elt F .bf16) (x1 : S1x2048x1024.Idx → Elt F .f32) (x2 : S1x1x1024.Idx → Elt F .f32) (x3 : S256x128.Idx → Elt F .bf16)
  (a : Buf (Elt F) ((c : Thread nD τ).loc cc0_scratch0))

/-- What the body holds when it starts or ends, but for its output block and its copy of the weights: its four
    input blocks and its halves of the tables. -/
abbrev Ins : sProp 𝕄 :=
  iprop((arg4.view.loc (c : Thread nD τ) ↦[arg4.view.set]{fullShare} arg4.view.rep x0)
    ∗ (arg5.view.loc (c : Thread nD τ) ↦[arg5.view.set]{fullShare} arg5.view.rep x1)
    ∗ (arg6.view.loc (c : Thread nD τ) ↦[arg6.view.set]{fullShare} arg6.view.rep x2)
    ∗ (arg7.view.loc (c : Thread nD τ) ↦[arg7.view.set]{fullShare} arg7.view.rep x3)
    ∗ (tabE.view.loc (c : Thread nD τ) ↦{fullShare.right} T0)
    ∗ (tabN.view.loc (c : Thread nD τ) ↦{fullShare.right} T1))

/-- The body at the point. -/
abbrev bodyAt : Prog (TpuEff nD τ sig (Elt F) Λ₀ .tc) PUnit :=
  cc0_moe_gate_up i tabE (Memref.isWhole_whole _) tabN (Memref.isWhole_whole _) arg4 harg4 arg5 harg5 arg6 harg6 arg7 harg7 arg8 harg8 wcopy (Memref.isWhole_whole _)

set_option backward.proofsInPublic true in
set_option maxHeartbeats 8000000 in
/-- Weights copied anew, row block in use: the pieces stored into the output block and the copy's contents, with the proof that the body leaves them. -/
def runAU (hc : Anew (F := F) T0 i) (h2 : k0_cond2 i (nUsed (F := F) T1) = 1#1) (h3 : ¬ k0_cond3 i (nUsed (F := F) T1) = 1#1) :
    Σ' (out : List (View.Piece (Elt F) S256x512 .bf16)), { cp : Buf (Elt F) ((c : Thread nD τ).loc cc0_scratch0) //
      ∀ (K : PUnit → sProp 𝕄),
        iprop(Ins c arg4 arg5 arg6 arg7 T0 T1 x0 x1 x2 x3
          ∗ (∃ d, owns (c : Thread nD τ) arg8 fullShare d)
          ∗ (wcopy.view.loc (c : Thread nD τ) ↦{fullShare} a)
          ∗ (iprop(Ins c arg4 arg5 arg6 arg7 T0 T1 x0 x1 x2 x3
              ∗ (∃ f, arg8.view.loc (c : Thread nD τ) ↦[arg8.view.set]{fullShare} arg8.view.writes (Elt F) f out)
              ∗ (wcopy.view.loc (c : Thread nD τ) ↦{fullShare} cp)) -∗ K ⟨⟩))
          ⊢ wp frame (wpE (defs₀ (F := F)) Variants.none c none) Set.univ (bodyAt i arg4 harg4 arg5 harg5 arg6 harg6 arg7 harg7 arg8 harg8) K } :=
  ⟨_, _, fun K => by
    unfold owns
    unfold bodyAt
    rw [cc0_moe_gate_up_eq_skeleton]; unfold cc0_moe_gate_up_skel
    iintro ⟨⟨H0, H1, H2, H3, HT0, HT1⟩, ⟨%d4, %f4, -, HO4⟩, HS0, Hk⟩
    have hS0 : wcopy.IsWhole := Memref.isWhole_whole _
    have hT0 : tabE.IsWhole := Memref.isWhole_whole _
    have hT1 : tabN.IsWhole := Memref.isWhole_whole _
    sl_exec_parts! (disch := first | exact h2 | exact h3 | exact hc)
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    iexact HS0⟩

set_option backward.proofsInPublic true in
set_option maxHeartbeats 8000000 in
/-- Weights copied anew, row block not in use: the pieces stored into the output block and the copy's contents, with the proof that the body leaves them. -/
def runAZ (hc : Anew (F := F) T0 i) (h2 : ¬ k0_cond2 i (nUsed (F := F) T1) = 1#1) (h3 : k0_cond3 i (nUsed (F := F) T1) = 1#1) :
    Σ' (out : List (View.Piece (Elt F) S256x512 .bf16)), { cp : Buf (Elt F) ((c : Thread nD τ).loc cc0_scratch0) //
      ∀ (K : PUnit → sProp 𝕄),
        iprop(Ins c arg4 arg5 arg6 arg7 T0 T1 x0 x1 x2 x3
          ∗ (∃ d, owns (c : Thread nD τ) arg8 fullShare d)
          ∗ (wcopy.view.loc (c : Thread nD τ) ↦{fullShare} a)
          ∗ (iprop(Ins c arg4 arg5 arg6 arg7 T0 T1 x0 x1 x2 x3
              ∗ (∃ f, arg8.view.loc (c : Thread nD τ) ↦[arg8.view.set]{fullShare} arg8.view.writes (Elt F) f out)
              ∗ (wcopy.view.loc (c : Thread nD τ) ↦{fullShare} cp)) -∗ K ⟨⟩))
          ⊢ wp frame (wpE (defs₀ (F := F)) Variants.none c none) Set.univ (bodyAt i arg4 harg4 arg5 harg5 arg6 harg6 arg7 harg7 arg8 harg8) K } :=
  ⟨_, _, fun K => by
    unfold owns
    unfold bodyAt
    rw [cc0_moe_gate_up_eq_skeleton]; unfold cc0_moe_gate_up_skel
    iintro ⟨⟨H0, H1, H2, H3, HT0, HT1⟩, ⟨%d4, %f4, -, HO4⟩, HS0, Hk⟩
    have hS0 : wcopy.IsWhole := Memref.isWhole_whole _
    have hT0 : tabE.IsWhole := Memref.isWhole_whole _
    have hT1 : tabN.IsWhole := Memref.isWhole_whole _
    sl_exec_parts! (disch := first | exact h2 | exact h3 | exact hc)
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    iexact HS0⟩

set_option backward.proofsInPublic true in
set_option maxHeartbeats 8000000 in
/-- Weights kept, row block in use: the pieces stored into the output block and the copy's contents, with the proof that the body leaves them. -/
def runKU (hc : ¬ Anew (F := F) T0 i) (h2 : k0_cond2 i (nUsed (F := F) T1) = 1#1) (h3 : ¬ k0_cond3 i (nUsed (F := F) T1) = 1#1) :
    Σ' (out : List (View.Piece (Elt F) S256x512 .bf16)), { cp : Buf (Elt F) ((c : Thread nD τ).loc cc0_scratch0) //
      ∀ (K : PUnit → sProp 𝕄),
        iprop(Ins c arg4 arg5 arg6 arg7 T0 T1 x0 x1 x2 x3
          ∗ (∃ d, owns (c : Thread nD τ) arg8 fullShare d)
          ∗ (wcopy.view.loc (c : Thread nD τ) ↦{fullShare} a)
          ∗ (iprop(Ins c arg4 arg5 arg6 arg7 T0 T1 x0 x1 x2 x3
              ∗ (∃ f, arg8.view.loc (c : Thread nD τ) ↦[arg8.view.set]{fullShare} arg8.view.writes (Elt F) f out)
              ∗ (wcopy.view.loc (c : Thread nD τ) ↦{fullShare} cp)) -∗ K ⟨⟩))
          ⊢ wp frame (wpE (defs₀ (F := F)) Variants.none c none) Set.univ (bodyAt i arg4 harg4 arg5 harg5 arg6 harg6 arg7 harg7 arg8 harg8) K } :=
  ⟨_, _, fun K => by
    unfold owns
    unfold bodyAt
    rw [cc0_moe_gate_up_eq_skeleton]; unfold cc0_moe_gate_up_skel
    iintro ⟨⟨H0, H1, H2, H3, HT0, HT1⟩, ⟨%d4, %f4, -, HO4⟩, HS0, Hk⟩
    have hS0 : wcopy.IsWhole := Memref.isWhole_whole _
    have hT0 : tabE.IsWhole := Memref.isWhole_whole _
    have hT1 : tabN.IsWhole := Memref.isWhole_whole _
    sl_exec_parts! (disch := first | exact h2 | exact h3 | exact hc)
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    iexact HS0⟩

set_option backward.proofsInPublic true in
set_option maxHeartbeats 8000000 in
/-- Weights kept, row block not in use: the pieces stored into the output block and the copy's contents, with the proof that the body leaves them. -/
def runKZ (hc : ¬ Anew (F := F) T0 i) (h2 : ¬ k0_cond2 i (nUsed (F := F) T1) = 1#1) (h3 : k0_cond3 i (nUsed (F := F) T1) = 1#1) :
    Σ' (out : List (View.Piece (Elt F) S256x512 .bf16)), { cp : Buf (Elt F) ((c : Thread nD τ).loc cc0_scratch0) //
      ∀ (K : PUnit → sProp 𝕄),
        iprop(Ins c arg4 arg5 arg6 arg7 T0 T1 x0 x1 x2 x3
          ∗ (∃ d, owns (c : Thread nD τ) arg8 fullShare d)
          ∗ (wcopy.view.loc (c : Thread nD τ) ↦{fullShare} a)
          ∗ (iprop(Ins c arg4 arg5 arg6 arg7 T0 T1 x0 x1 x2 x3
              ∗ (∃ f, arg8.view.loc (c : Thread nD τ) ↦[arg8.view.set]{fullShare} arg8.view.writes (Elt F) f out)
              ∗ (wcopy.view.loc (c : Thread nD τ) ↦{fullShare} cp)) -∗ K ⟨⟩))
          ⊢ wp frame (wpE (defs₀ (F := F)) Variants.none c none) Set.univ (bodyAt i arg4 harg4 arg5 harg5 arg6 harg6 arg7 harg7 arg8 harg8) K } :=
  ⟨_, _, fun K => by
    unfold owns
    unfold bodyAt
    rw [cc0_moe_gate_up_eq_skeleton]; unfold cc0_moe_gate_up_skel
    iintro ⟨⟨H0, H1, H2, H3, HT0, HT1⟩, ⟨%d4, %f4, -, HO4⟩, HS0, Hk⟩
    have hS0 : wcopy.IsWhole := Memref.isWhole_whole _
    have hT0 : tabE.IsWhole := Memref.isWhole_whole _
    have hT1 : tabN.IsWhole := Memref.isWhole_whole _
    sl_exec_parts! (disch := first | exact h2 | exact h3 | exact hc)
    sl_step
    iapply Hk
    isplitl [H0 H1 H2 H3 HT0 HT1]
    · isplitl [H0]; · iexact H0
      isplitl [H1]; · iexact H1
      isplitl [H2]; · iexact H2
      isplitl [H3]; · iexact H3
      isplitl [HT0]; · iexact HT0
      iexact HT1
    isplitl [HO4]; · iexists _; iexact HO4
    iexact HS0⟩

end Cert.Kernel3Ideal.Up

end
-- ==== Proof.UpIdealLeft.lean ====
/- Of the program over the extended reals. What the body of the mixture's first product leaves, in closed form: the copy is the expert's rounded weights
   where it is made anew and unchanged elsewhere, the output block is the gated product with the copy or zero. -/
module

public import proofs.«01_k».proof.Proof.UpIdealRun
public import Idealize.ShloMosaic.Lib.Pipeline.Value
public import proofs.«01_k».proof.Proof.Gen.Kernel3Ideal.Launch
public import Idealize.ShloMosaic.Lib.Pipeline.Quiescent
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Tactic
public import Idealize.ShloMosaic.Adequacy
public import Idealize.ShloMosaic.Init

@[expose] public section

set_option maxRecDepth 16384
set_option Elab.async false

noncomputable section

namespace Cert.Kernel3Ideal.Up

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords)
  (arg4 : Memref sig .tc .vmem S256x2048 .bf16) (harg4 : arg4.IsWhole)
  (arg5 : Memref sig .tc .vmem S1x2048x1024 .f32) (harg5 : arg5.IsWhole)
  (arg6 : Memref sig .tc .vmem S1x1x1024 .f32) (harg6 : arg6.IsWhole)
  (arg7 : Memref sig .tc .vmem S256x128 .bf16) (harg7 : arg7.IsWhole)
  (arg8 : Memref sig .tc .vmem S256x512 .bf16) (harg8 : arg8.IsWhole)
  (T0 : S224.Idx → BitVec 32) (T1 : S1.Idx → BitVec 32)
  (x0 : S256x2048.Idx → Elt F .bf16) (x1 : S1x2048x1024.Idx → Elt F .f32) (x2 : S1x1x1024.Idx → Elt F .f32) (x3 : S256x128.Idx → Elt F .bf16)
  (a : Buf (Elt F) ((c : Thread nD τ).loc cc0_scratch0))

/-- The block's first corner. -/
theorem hz2 : (![0, 0] : Fin 2 → Nat) = fun _ => 0 := by funext a; fin_cases a <;> rfl
/-- The block's first corner, three axes. -/
theorem hz3 : (![0, 0, 0] : Fin 3 → Nat) = fun _ => 0 := by funext a; fin_cases a <;> rfl
/-- A block stored whole reads back as what was stored. -/
theorem read_one {sp : Space} {S : Shape} {e : EltTy} (v : View sig .tc sp S e) (f : v.ty.Contents (Elt F)) {off : Fin S.rank → Nat}
    (h : off = fun _ => 0) (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩), View.canon_unit_zero h]

/-- A block stored whole, read in part. -/
theorem readCov_one {sp : Space} {S : Shape} {e : EltTy} (v : View sig .tc sp S e) {off : Fin S.rank → Nat}
    (h : off = fun _ => 0) (inb : ∀ a, off a + S.size a ≤ S.size a) (w : S.Idx → Elt F e) (r : Rect S) :
    View.readCov v [⟨Rect.unit off S.size inb, w⟩] r.toLoadRect = View.ld w r := by
  show View.ld (v.read (Elt F) (v.writes (Elt F) v.junk [⟨Rect.unit off S.size inb, w⟩])) r = _
  rw [read_one v _ h inb w]

/-- The four column groups of the output block of a row block in use, last first: from the rows, the copy of the
    weights, the offsets and the selection. -/
def pieces (x0 : S256x2048.Idx → Elt F .bf16) (w : S2048x1024.Idx → Elt F .bf16) (x2 : S1x1x1024.Idx → Elt F .f32) (x3 : S256x128.Idx → Elt F .bf16) :
    List (View.Piece (Elt F) S256x512 .bf16) :=
  [⟨Rect.unit ![0, 384] S256x128.size inb_S256x512_S256x128_0_384, k0_pay17 (iota Kind.tc S256x256 32 [1] iota_S256x256_d1_w32) (k0_pay15 x0 (View.ld w (Rect.unit ![0, 768] S2048x256.size inb_S2048x1024_S2048x256_0_768))) (k0_pay16 (View.ld x2 (Rect.unit ![0, 0, 768] S1x1x256.size inb_S1x1x1024_S1x1x256_0_0_768))) x3⟩,
    ⟨Rect.unit ![0, 256] S256x128.size inb_S256x512_S256x128_0_256, k0_pay14 (iota Kind.tc S256x256 32 [1] iota_S256x256_d1_w32) (k0_pay12 x0 (View.ld w (Rect.unit ![0, 512] S2048x256.size inb_S2048x1024_S2048x256_0_512)) (View.ld x2 (Rect.unit ![0, 0, 512] S1x1x256.size inb_S1x1x1024_S1x1x256_0_0_512))) (k0_pay13 x0 (View.ld w (Rect.unit ![0, 512] S2048x256.size inb_S2048x1024_S2048x256_0_512)) (View.ld x2 (Rect.unit ![0, 0, 512] S1x1x256.size inb_S1x1x1024_S1x1x256_0_0_512))) x3⟩,
    ⟨Rect.unit ![0, 128] S256x128.size inb_S256x512_S256x128_0_128, k0_pay10 (k0_pay7 x0 (View.ld w (Rect.unit ![0, 256] S2048x256.size inb_S2048x1024_S2048x256_0_256)) (View.ld x2 (Rect.unit ![0, 0, 256] S1x1x256.size inb_S1x1x1024_S1x1x256_0_0_256))) (2#32) (k0_pay8 (iota Kind.tc S256x256 32 [1] iota_S256x256_d1_w32)) k0_pay9 x3⟩,
    ⟨Rect.unit ![0, 0] S256x128.size inb_S256x512_S256x128_0_0, k0_pay6 (k0_pay3 x0 (View.ld w (Rect.unit ![0, 0] S2048x256.size inb_S2048x1024_S2048x256_0_0)) (View.ld x2 (Rect.unit ![0, 0, 0] S1x1x256.size inb_S1x1x1024_S1x1x256_0_0_0))) k0_pay4 k0_pay5 x3⟩]

/-- The output block of a row block in use. -/
def made (x0 : S256x2048.Idx → Elt F .bf16) (w : S2048x1024.Idx → Elt F .bf16) (x2 : S1x1x1024.Idx → Elt F .f32) (x3 : S256x128.Idx → Elt F .bf16) :
    S256x512.Idx → Elt F .bf16 := View.canon (pieces x0 w x2 x3)

/-- The pieces of this way tile the output block. -/
theorem coverAU (hc : Anew (F := F) T0 i) (h2 : k0_cond2 i (nUsed (F := F) T1) = 1#1) (h3 : ¬ k0_cond3 i (nUsed (F := F) T1) = 1#1) (y : S256x512.Idx) :
    ∃ pc ∈ (runAU c i arg4 harg4 arg5 harg5 arg6 harg6 arg7 harg7 arg8 harg8 T0 T1 x0 x1 x2 x3 a hc h2 h3).1, y ∈ pc.1.set :=
  View.cover_of_tiledL (runAU c i arg4 harg4 arg5 harg5 arg6 harg6 arg7 harg7 arg8 harg8 T0 T1 x0 x1 x2 x3 a hc h2 h3).1 S256x128.size (by sl_kernel_rfl) y

/-- The copy after this way. -/
theorem copyAU (hc : Anew (F := F) T0 i) (h2 : k0_cond2 i (nUsed (F := F) T1) = 1#1) (h3 : ¬ k0_cond3 i (nUsed (F := F) T1) = 1#1) :
    (runAU c i arg4 harg4 arg5 harg5 arg6 harg6 arg7 harg7 arg8 harg8 T0 T1 x0 x1 x2 x3 a hc h2 h3).2.1 = k0_pay1 x1 := by
  show wcopy.view.read (Elt F) (runAU c i arg4 harg4 arg5 harg5 arg6 harg6 arg7 harg7 arg8 harg8 T0 T1 x0 x1 x2 x3 a hc h2 h3).2.1 = _
  unfold runAU
  dsimp only
  sl_unfold_words
  rw [show wcopy.view.read (Elt F) (wcopy.view.writes (Elt F) wcopy.view.junk [⟨Rect.unit ![0, 0] S2048x1024.size inb_S2048x1024_S2048x1024_0_0, k0_pay1 (View.readAt (Elt F) arg5.view (Rect.unit ![0, 0, 0] S1x2048x1024.size inb_S1x2048x1024_S1x2048x1024_0_0_0).toLoadRect (arg5.view.rep x1))⟩]) = _ from read_one wcopy.view _ hz2 inb_S2048x1024_S2048x1024_0_0 _]
  simp only [View.readAt_eq_ld, View.read_rep, View.ld_unit_zero (S := S1x2048x1024) hz3]

/-- The output block after this way. -/
theorem outAU (hc : Anew (F := F) T0 i) (h2 : k0_cond2 i (nUsed (F := F) T1) = 1#1) (h3 : ¬ k0_cond3 i (nUsed (F := F) T1) = 1#1) (f : Buf (Elt F) (arg8.view.loc (c : Thread nD τ))) :
    arg8.view.read (Elt F) (arg8.view.writes (Elt F) f (runAU c i arg4 harg4 arg5 harg5 arg6 harg6 arg7 harg7 arg8 harg8 T0 T1 x0 x1 x2 x3 a hc h2 h3).1) = made x0 (k0_pay1 x1) x2 x3 := by
  rw [View.read_writes_eq_canon _ _ _ (coverAU c i arg4 harg4 arg5 harg5 arg6 harg6 arg7 harg7 arg8 harg8 T0 T1 x0 x1 x2 x3 a hc h2 h3)]
  unfold runAU
  dsimp only
  sl_unfold_words
  simp only [View.readAt_eq_ld, View.read_rep, View.ld_unit_zero (S := S256x2048) hz2, View.ld_unit_zero (S := S256x128) hz2, readCov_one (S := S2048x1024) wcopy.view hz2, View.ld_unit_zero (S := S1x2048x1024) hz3]
  rfl

/-- The pieces of this way tile the output block. -/
theorem coverAZ (hc : Anew (F := F) T0 i) (h2 : ¬ k0_cond2 i (nUsed (F := F) T1) = 1#1) (h3 : k0_cond3 i (nUsed (F := F) T1) = 1#1) (y : S256x512.Idx) :
    ∃ pc ∈ (runAZ c i arg4 harg4 arg5 harg5 arg6 harg6 arg7 harg7 arg8 harg8 T0 T1 x0 x1 x2 x3 a hc h2 h3).1, y ∈ pc.1.set :=
  View.cover_of_tiledL (runAZ c i arg4 harg4 arg5 harg5 arg6 harg6 arg7 harg7 arg8 harg8 T0 T1 x0 x1 x2 x3 a hc h2 h3).1 S256x512.size (by sl_kernel_rfl) y

/-- The copy after this way. -/
theorem copyAZ (hc : Anew (F := F) T0 i) (h2 : ¬ k0_cond2 i (nUsed (F := F) T1) = 1#1) (h3 : k0_cond3 i (nUsed (F := F) T1) = 1#1) :
    (runAZ c i arg4 harg4 arg5 harg5 arg6 harg6 arg7 harg7 arg8 harg8 T0 T1 x0 x1 x2 x3 a hc h2 h3).2.1 = k0_pay1 x1 := by
  show wcopy.view.read (Elt F) (runAZ c i arg4 harg4 arg5 harg5 arg6 harg6 arg7 harg7 arg8 harg8 T0 T1 x0 x1 x2 x3 a hc h2 h3).2.1 = _
  unfold runAZ
  dsimp only
  sl_unfold_words
  rw [show wcopy.view.read (Elt F) (wcopy.view.writes (Elt F) wcopy.view.junk [⟨Rect.unit ![0, 0] S2048x1024.size inb_S2048x1024_S2048x1024_0_0, k0_pay1 (View.readAt (Elt F) arg5.view (Rect.unit ![0, 0, 0] S1x2048x1024.size inb_S1x2048x1024_S1x2048x1024_0_0_0).toLoadRect (arg5.view.rep x1))⟩]) = _ from read_one wcopy.view _ hz2 inb_S2048x1024_S2048x1024_0_0 _]
  simp only [View.readAt_eq_ld, View.read_rep, View.ld_unit_zero (S := S1x2048x1024) hz3]

/-- The output block after this way. -/
theorem outAZ (hc : Anew (F := F) T0 i) (h2 : ¬ k0_cond2 i (nUsed (F := F) T1) = 1#1) (h3 : k0_cond3 i (nUsed (F := F) T1) = 1#1) (f : Buf (Elt F) (arg8.view.loc (c : Thread nD τ))) :
    arg8.view.read (Elt F) (arg8.view.writes (Elt F) f (runAZ c i arg4 harg4 arg5 harg5 arg6 harg6 arg7 harg7 arg8 harg8 T0 T1 x0 x1 x2 x3 a hc h2 h3).1) = k0_pay2 := by
  rw [View.read_writes_eq_canon _ _ _ (coverAZ c i arg4 harg4 arg5 harg5 arg6 harg6 arg7 harg7 arg8 harg8 T0 T1 x0 x1 x2 x3 a hc h2 h3)]
  unfold runAZ
  dsimp only
  sl_unfold_words
  rw [View.canon_unit_zero hz2]

/-- The pieces of this way tile the output block. -/
theorem coverKU (hc : ¬ Anew (F := F) T0 i) (h2 : k0_cond2 i (nUsed (F := F) T1) = 1#1) (h3 : ¬ k0_cond3 i (nUsed (F := F) T1) = 1#1) (y : S256x512.Idx) :
    ∃ pc ∈ (runKU c i arg4 harg4 arg5 harg5 arg6 harg6 arg7 harg7 arg8 harg8 T0 T1 x0 x1 x2 x3 a hc h2 h3).1, y ∈ pc.1.set :=
  View.cover_of_tiledL (runKU c i arg4 harg4 arg5 harg5 arg6 harg6 arg7 harg7 arg8 harg8 T0 T1 x0 x1 x2 x3 a hc h2 h3).1 S256x128.size (by sl_kernel_rfl) y

/-- The copy after this way. -/
theorem copyKU (hc : ¬ Anew (F := F) T0 i) (h2 : k0_cond2 i (nUsed (F := F) T1) = 1#1) (h3 : ¬ k0_cond3 i (nUsed (F := F) T1) = 1#1) :
    (runKU c i arg4 harg4 arg5 harg5 arg6 harg6 arg7 harg7 arg8 harg8 T0 T1 x0 x1 x2 x3 a hc h2 h3).2.1 = a := by
  show wcopy.view.read (Elt F) (runKU c i arg4 harg4 arg5 harg5 arg6 harg6 arg7 harg7 arg8 harg8 T0 T1 x0 x1 x2 x3 a hc h2 h3).2.1 = _
  unfold runKU
  dsimp only
  sl_unfold_words
  rfl

/-- The output block after this way. -/
theorem outKU (hc : ¬ Anew (F := F) T0 i) (h2 : k0_cond2 i (nUsed (F := F) T1) = 1#1) (h3 : ¬ k0_cond3 i (nUsed (F := F) T1) = 1#1) (f : Buf (Elt F) (arg8.view.loc (c : Thread nD τ))) :
    arg8.view.read (Elt F) (arg8.view.writes (Elt F) f (runKU c i arg4 harg4 arg5 harg5 arg6 harg6 arg7 harg7 arg8 harg8 T0 T1 x0 x1 x2 x3 a hc h2 h3).1) = made x0 a x2 x3 := by
  rw [View.read_writes_eq_canon _ _ _ (coverKU c i arg4 harg4 arg5 harg5 arg6 harg6 arg7 harg7 arg8 harg8 T0 T1 x0 x1 x2 x3 a hc h2 h3)]
  unfold runKU
  dsimp only
  sl_unfold_words
  simp only [View.readAt_eq_ld, View.read_rep, View.ld_unit_zero (S := S256x2048) hz2, View.ld_unit_zero (S := S256x128) hz2, View.read_whole]
  rfl

/-- The pieces of this way tile the output block. -/
theorem coverKZ (hc : ¬ Anew (F := F) T0 i) (h2 : ¬ k0_cond2 i (nUsed (F := F) T1) = 1#1) (h3 : k0_cond3 i (nUsed (F := F) T1) = 1#1) (y : S256x512.Idx) :
    ∃ pc ∈ (runKZ c i arg4 harg4 arg5 harg5 arg6 harg6 arg7 harg7 arg8 harg8 T0 T1 x0 x1 x2 x3 a hc h2 h3).1, y ∈ pc.1.set :=
  View.cover_of_tiledL (runKZ c i arg4 harg4 arg5 harg5 arg6 harg6 arg7 harg7 arg8 harg8 T0 T1 x0 x1 x2 x3 a hc h2 h3).1 S256x512.size (by sl_kernel_rfl) y

/-- The copy after this way. -/
theorem copyKZ (hc : ¬ Anew (F := F) T0 i) (h2 : ¬ k0_cond2 i (nUsed (F := F) T1) = 1#1) (h3 : k0_cond3 i (nUsed (F := F) T1) = 1#1) :
    (runKZ c i arg4 harg4 arg5 harg5 arg6 harg6 arg7 harg7 arg8 harg8 T0 T1 x0 x1 x2 x3 a hc h2 h3).2.1 = a := by
  show wcopy.view.read (Elt F) (runKZ c i arg4 harg4 arg5 harg5 arg6 harg6 arg7 harg7 arg8 harg8 T0 T1 x0 x1 x2 x3 a hc h2 h3).2.1 = _
  unfold runKZ
  dsimp only
  sl_unfold_words
  rfl

/-- The output block after this way. -/
theorem outKZ (hc : ¬ Anew (F := F) T0 i) (h2 : ¬ k0_cond2 i (nUsed (F := F) T1) = 1#1) (h3 : k0_cond3 i (nUsed (F := F) T1) = 1#1) (f : Buf (Elt F) (arg8.view.loc (c : Thread nD τ))) :
    arg8.view.read (Elt F) (arg8.view.writes (Elt F) f (runKZ c i arg4 harg4 arg5 harg5 arg6 harg6 arg7 harg7 arg8 harg8 T0 T1 x0 x1 x2 x3 a hc h2 h3).1) = k0_pay2 := by
  rw [View.read_writes_eq_canon _ _ _ (coverKZ c i arg4 harg4 arg5 harg5 arg6 harg6 arg7 harg7 arg8 harg8 T0 T1 x0 x1 x2 x3 a hc h2 h3)]
  unfold runKZ
  dsimp only
  sl_unfold_words
  rw [View.canon_unit_zero hz2]

end Cert.Kernel3Ideal.Up

end
-- ==== Proof.UpIdealWords.lean ====
/- Of the program over the extended reals. The mixture's first product over its grid: the points' coordinates, the words of the two tables that the body
   reads there, and which blocks of its arrays each point works on, for any contents of the tables that name
   experts the weights have. -/
module

public import proofs.«01_k».proof.Proof.UpIdealLeft
public import Idealize.ShloMosaic.Lib.Pipeline.TableIdle
public import Idealize.ShloMosaic.Lib.Pipeline.Frame
public import Idealize.ShloMosaic.Lib.ValueIdx

@[expose] public section

set_option maxRecDepth 16384
set_option Elab.async false

noncomputable section

namespace Cert.Kernel3Ideal.Up

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open ValueIdx (ix1 ix2 ix3)

variable {F : FTy → Type} [FloatOps F]

/-! ## The words a point reads -/

/-- The offset of a point's own word is its row block. -/
theorem off1_eq : ∀ i : grid0.Coords, k0_off1 i 0 = (i 1).val := by
  intro i
  show (BitVec.ofNat 32 (i 1).val).toNat = (i 1).val
  have h : (i 1).val < 224 := (i 1).isLt
  rw [BitVec.toNat_ofNat]; omega

theorem prev_word : ∀ j : Fin 224, (Scalar.indexCast (Scalar.maxsi (Scalar.subi (BitVec.ofNat 32 j.val) 1#32) 0#32)).toNat = j.val - 1 := by
  decide +kernel

/-- The offset of the word before it is the row block before, the first one's own for the first. -/
theorem off2_eq (i : grid0.Coords) : k0_off2 i 0 = (i 1).val - 1 := prev_word (i 1)

theorem eHere_eq (T : S224.Idx → BitVec 32) (i : grid0.Coords) : eHere (F := F) T i = T (ix1 (⟨(i 1).val, (i 1).isLt⟩ : Fin 224)) := by
  refine congrArg T (funext fun b => ?_)
  apply Fin.ext
  match b with
  | ⟨0, _⟩ => show k0_off1 i 0 + 1 * 0 = (i 1).val; rw [off1_eq]; rfl

theorem ePrev_eq (T : S224.Idx → BitVec 32) (i : grid0.Coords) : ePrev (F := F) T i = T (ix1 (⟨(i 1).val - 1, lt_of_le_of_lt (Nat.sub_le _ _) (i 1).isLt⟩ : Fin 224)) := by
  refine congrArg T (funext fun b => ?_)
  apply Fin.ext
  match b with
  | ⟨0, _⟩ => show k0_off2 i 0 + 1 * 0 = (i 1).val - 1; rw [off2_eq]; rfl

theorem nUsed_eq (T : S1.Idx → BitVec 32) : nUsed (F := F) T = T (ix1 (0 : Fin 1)) := by
  refine congrArg T (funext fun b => ?_)
  fin_cases b
  exact Subsingleton.elim (α := Fin 1) _ _

theorem or_bits : ∀ p q : BitVec 1, ¬ (Scalar.cmpi .ne (Scalar.extui (Scalar.ori p q)) 0#32 = 1#1) → p = 0#1 ∧ q = 0#1 := by decide

theorem first_bit : ∀ j : Fin 224, Scalar.cmpi .eq (BitVec.ofNat 32 j.val) 0#32 = 0#1 → j.val ≠ 0 := by decide +kernel

theorem ne_bit (x y : BitVec 32) (h : Scalar.cmpi .ne x y = 0#1) : x = y := by
  by_contra hn
  have : Scalar.cmpi .ne x y = 1#1 := by
    show BitVec.ofBool (x != y) = 1#1
    rw [show (x != y) = true from bne_iff_ne.mpr hn]; rfl
  rw [this] at h
  exact absurd h (by decide)

/-- Where the body keeps its copy, the point is not of the first row block and its expert is the one before. -/
theorem kept (T : S224.Idx → BitVec 32) (i : grid0.Coords) (h : ¬ Anew (F := F) T i) : (i 1).val ≠ 0 ∧ eHere (F := F) T i = ePrev (F := F) T i :=
  ⟨first_bit (i 1) (or_bits _ _ h).1, ne_bit _ _ (or_bits _ _ h).2⟩

theorem one_of_two : ∀ p : BitVec 1, (Scalar.cmpi .ne (Scalar.extui p) 0#32 = 1#1) ↔ p = 1#1 := by decide

/-- Exactly one of the two stores of a point happens. -/
theorem used_iff (i : grid0.Coords) (v : BitVec 32) : k0_cond3 i v = 1#1 ↔ ¬ k0_cond2 i v = 1#1 := by
  unfold k0_cond3 k0_cond2
  dsimp only
  rw [one_of_two, one_of_two]
  unfold Scalar.cmpi
  simp only [IntOp.cmpi, BitVec.slt, BitVec.sle]
  by_cases h : (BitVec.ofNat 32 (i 1).val).toInt < v.toInt
  · rw [decide_eq_false (not_le.mpr h), decide_eq_true h]; decide
  · simp [h, not_lt.mp h]

end Cert.Kernel3Ideal.Up

end
-- ==== Proof.UpIdealData.lean ====
/- Of the program over the extended reals. The mixture's first product over its grid: the blocks each point works on, what the point's output block and
   the copy of the weights hold afterwards, and the invariant between two points. -/
module

public import proofs.«01_k».proof.Proof.UpIdealWords

@[expose] public section

set_option maxRecDepth 16384
set_option Elab.async false

noncomputable section

namespace Cert.Kernel3Ideal.Up

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open ValueIdx (ix1 ix2 ix3)

variable {F : FTy → Type} [FloatOps F]

local notation "𝕄" => MT nD τ sig Unit (Elt F) ℕ (UR sig nD τ) ℕ

variable (m : (ℓ : Loc nD τ sig) → Buf (Elt F) ℓ) (a : (pcfg0 (F := F)).Adm)

/-! ## The arrays as the region finds them -/

theorem hostOps0_fresh : (hostOps0 : List (HloOp τ sig (Elt F))).Forall fun op => op.fresh = ∅ := by
  simp only [List.Forall]
  repeat' apply And.intro
  all_goals rfl

/-- What each buffer holds when the region starts: the host operations have run. -/
abbrev V (c : Dev nD) (b : Ref sig .tc) : Buf (Elt F) ((c : Thread nD τ).loc b) :=
  StableHlo.after hostOps0 (fun b => m (c, b)) b

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, StableHlo.nullary_writes, StableHlo.unary_writes, StableHlo.binary_writes, StableHlo.ternary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, StableHlo.nullary_writes, StableHlo.unary_writes, StableHlo.binary_writes, StableHlo.ternary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, StableHlo.nullary_writes, StableHlo.unary_writes, StableHlo.binary_writes, StableHlo.ternary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, StableHlo.nullary_writes, StableHlo.unary_writes, StableHlo.binary_writes, StableHlo.ternary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, StableHlo.nullary_writes, StableHlo.unary_writes, StableHlo.binary_writes, StableHlo.ternary_writes, Finset.mem_singleton]
    repeat' apply And.intro
    all_goals exact StableHlo.devRef_ne_of_ne (by decide)))

/-! ## The pipeline at the tables' contents -/

/-- The pipeline at the contents the tables have. -/
abbrev cfgA : Pipeline.Cfg sig Λ₀ := cfg0 (F := F) a

theorem N_A : (cfgA a).N = 896 := N_0

/-- A point's coordinates: the column block and the row block. -/
abbrev crd (t : Fin (cfgA a).N) : grid0.Coords := (cfgA a).grid.coords t

theorem crd_vals : ∀ t : Fin grid0.N, (grid0.coords t 0).val = t.val / 224 ∧ (grid0.coords t 1).val = t.val % 224 := by
  decide +kernel

theorem crd_col (t : Fin (cfgA a).N) : (crd a t 0).val = t.val / 224 := (crd_vals t).1
theorem crd_row (t : Fin (cfgA a).N) : (crd a t 1).val = t.val % 224 := (crd_vals t).2

/-- The point's row block. -/
abbrev rowOf (t : Fin (cfgA a).N) : Fin 224 := ⟨t.val % 224, Nat.mod_lt _ (by omega)⟩

/-- The words of the tables. -/
abbrev T0 : S224.Idx → BitVec 32 := a.1 0
abbrev T1 : S1.Idx → BitVec 32 := a.1 1

/-- Each window's staging buffer at a point. -/
abbrev ms0 (t : Fin (cfgA a).N) : Memref sig .tc .vmem S256x2048 .bf16 := spec0_0.stage ((cfgA a).slots t (0 : Fin 5))
abbrev hs0 (t : Fin (cfgA a).N) : (ms0 a t).IsWhole := hstage0_0 (((cfgA a).slots t (0 : Fin 5)).cast nbuf0_0)
abbrev ms1 (t : Fin (cfgA a).N) : Memref sig .tc .vmem S1x2048x1024 .f32 := spec0_1.stage ((cfgA a).slots t (1 : Fin 5))
abbrev hs1 (t : Fin (cfgA a).N) : (ms1 a t).IsWhole := hstage0_1 (((cfgA a).slots t (1 : Fin 5)).cast nbuf0_1)
abbrev ms2 (t : Fin (cfgA a).N) : Memref sig .tc .vmem S1x1x1024 .f32 := spec0_2.stage ((cfgA a).slots t (2 : Fin 5))
abbrev hs2 (t : Fin (cfgA a).N) : (ms2 a t).IsWhole := hstage0_2 (((cfgA a).slots t (2 : Fin 5)).cast nbuf0_2)
abbrev ms3 (t : Fin (cfgA a).N) : Memref sig .tc .vmem S256x128 .bf16 := spec0_3.stage ((cfgA a).slots t (3 : Fin 5))
abbrev hs3 (t : Fin (cfgA a).N) : (ms3 a t).IsWhole := hstage0_3 (((cfgA a).slots t (3 : Fin 5)).cast nbuf0_3)
abbrev ms4 (t : Fin (cfgA a).N) : Memref sig .tc .vmem S256x512 .bf16 := spec0_4.stage ((cfgA a).slots t (4 : Fin 5))
abbrev hs4 (t : Fin (cfgA a).N) : (ms4 a t).IsWhole := hstage0_4 (((cfgA a).slots t (4 : Fin 5)).cast nbuf0_4)

/-- Window `w`'s block at a point, read off its array. -/
def iblk (c : Dev nD) (w : Fin (cfgA a).W) (t : Fin (cfgA a).N) : (((cfgA a).win w).xblock (crd a t)).Idx → Elt F ((cfgA a).win w).elt :=
  (((cfgA a).win w).blk t).view.read (Elt F) (V m c (Pipeline.arrRef spec0 w))

/-- The point's rows, weights, offsets and selection. -/
abbrev xB (c : Dev nD) (t : Fin (cfgA a).N) : S256x2048.Idx → Elt F .bf16 := iblk m a c (0 : Fin 5) t
abbrev wB (c : Dev nD) (t : Fin (cfgA a).N) : S1x2048x1024.Idx → Elt F .f32 := iblk m a c (1 : Fin 5) t
abbrev bB (c : Dev nD) (t : Fin (cfgA a).N) : S1x1x1024.Idx → Elt F .f32 := iblk m a c (2 : Fin 5) t
abbrev sB (c : Dev nD) (t : Fin (cfgA a).N) : S256x128.Idx → Elt F .bf16 := iblk m a c (3 : Fin 5) t

/-! ## The experts the words name -/

theorem tr1_0 (i : grid0.Coords) : cc0_transform_1 k0_off1_inb numel1_S1 a.1 i 0 = (T0 a (ix1 (⟨(i 1).val, (i 1).isLt⟩ : Fin 224))).toNat := by
  show ((T0 a) ((Rect.unit (s := S224) (k0_off1 i) S1.size (k0_off1_inb i)).emb (Shape.Idx.first (numel1_S1.symm ▸ Nat.one_pos)))).toNat = _
  congr 2
  funext b
  apply Fin.ext
  match b with
  | ⟨0, _⟩ => show k0_off1 i 0 + 1 * 0 = (i 1).val; rw [off1_eq]; rfl

theorem tr1_2 (i : grid0.Coords) : cc0_transform_1 k0_off1_inb numel1_S1 a.1 i 2 = (i 0).val := by
  show (BitVec.ofNat 32 (i 0).val).toNat = _
  have h : (i 0).val < 4 := (i 0).isLt
  rw [BitVec.toNat_ofNat]; omega

/-- A point's word names an expert. -/
theorem word_lt (i : grid0.Coords) : (T0 a (ix1 (⟨(i 1).val, (i 1).isLt⟩ : Fin 224))).toNat < 32 := by
  obtain ⟨h, -⟩ := a.2.1 i
  have h0 : (cc0_transform_1 k0_off1_inb numel1_S1 a.1 i 0 + 1) * 1 ≤ 32 := h 0
  rw [tr1_0] at h0
  omega

/-- The expert of a point. -/
def exOf (t : Fin (cfgA a).N) : Fin 32 := ⟨(T0 a (ix1 (⟨(crd a t 1).val, (crd a t 1).isLt⟩ : Fin 224))).toNat, word_lt a (crd a t)⟩

/-- The column block of a point. -/
abbrev colOf (t : Fin (cfgA a).N) : Fin 4 := ⟨t.val / 224, by have := t.isLt; have := N_A a; omega⟩

theorem ix1_0 (t : Fin (cfgA a).N) : ((cfgA a).win (1 : Fin 5)).index t 0 = (exOf a t).val := tr1_0 a (crd a t)
theorem ix1_1 (t : Fin (cfgA a).N) : ((cfgA a).win (1 : Fin 5)).index t 1 = 0 := rfl
theorem ix1_2 (t : Fin (cfgA a).N) : ((cfgA a).win (1 : Fin 5)).index t 2 = t.val / 224 := (tr1_2 a (crd a t)).trans (crd_col a t)

/-- The weights' block of a point: its expert's, at its columns. -/
theorem wB_apply (c : Dev nD) (t : Fin (cfgA a).N) (k : Fin 2048) (n : Fin 1024) :
    wB m a c t (ix3 (0 : Fin 1) k n) = m ((c : Thread nD τ).loc main_arg1)
      (ix3 (exOf a t) k (⟨(colOf a t).val * 1024 + n.val, by have := (colOf a t).isLt; have := n.isLt; omega⟩ : Fin 4096)) := by
  unfold wB iblk
  rw [View.read_apply]
  show V m c main_arg1 _ = m ((c : Thread nD τ).loc main_arg1) _
  rw [V_main_arg1]
  congr 1
  funext b
  apply Fin.ext
  match b with
  | ⟨0, _⟩ => show ((cfgA a).win (1 : Fin 5)).index t 0 * 1 + 1 * 0 = (exOf a t).val; rw [ix1_0]; omega
  | ⟨1, _⟩ => show ((cfgA a).win (1 : Fin 5)).index t 1 * 2048 + 1 * k.val = k.val; rw [ix1_1]; omega
  | ⟨2, _⟩ => show ((cfgA a).win (1 : Fin 5)).index t 2 * 1024 + 1 * n.val = t.val / 224 * 1024 + n.val; rw [ix1_2]; omega

/-- Where the body keeps its copy, the weights' block is the one of the point before. -/
theorem wB_kept (c : Dev nD) (t : Fin (cfgA a).N) (h : ¬ Anew (F := F) (T0 a) (crd a t)) :
    ∃ h0 : t.val ≠ 0, wB m a c t = wB m a c ⟨t.val - 1, by have := t.isLt; omega⟩ := by
  obtain ⟨hr, he⟩ := kept _ _ h
  rw [crd_row] at hr
  have h0 : t.val ≠ 0 := fun hz => hr (by rw [hz])
  refine ⟨h0, ?_⟩
  rw [eHere_eq, ePrev_eq] at he
  have hlt : t.val - 1 < (cfgA a).N := by have := t.isLt; omega
  have hex : exOf a t = exOf a ⟨t.val - 1, hlt⟩ := by
    apply Fin.ext
    unfold exOf
    show (T0 a _).toNat = (T0 a _).toNat
    rw [he]
    congr 3
    apply Fin.ext
    show (crd a t 1).val - 1 = (crd a ⟨t.val - 1, hlt⟩ 1).val
    rw [crd_row, crd_row]
    show t.val % 224 - 1 = (t.val - 1) % 224
    omega
  have hcol : colOf a t = colOf a ⟨t.val - 1, hlt⟩ := by
    apply Fin.ext
    show t.val / 224 = (t.val - 1) / 224
    omega
  funext y
  have hy : y = ix3 (0 : Fin 1) (y 1) (y 2) := by
    funext b
    match b with
    | ⟨0, _⟩ => exact Subsingleton.elim (α := Fin 1) _ _
    | ⟨1, _⟩ => rfl
    | ⟨2, _⟩ => rfl
  rw [hy]
  refine (wB_apply m a c t (y 1) (y 2)).trans (Eq.trans ?_ (wB_apply m a c ⟨t.val - 1, hlt⟩ (y 1) (y 2)).symm)
  rw [hex]
  congr 2
  apply Fin.ext
  show (colOf a t).val * 1024 + _ = (colOf a ⟨t.val - 1, hlt⟩).val * 1024 + _
  rw [hcol]

/-! ## The proof data -/

/-- The point's row block is one of those in use. -/
abbrev Used (t : Fin (cfgA a).N) : Prop := k0_cond2 (crd a t) (nUsed (F := F) (T1 a)) = 1#1

open Classical in
/-- What a point leaves in its output block. -/
def left (c : Dev nD) (t : Fin (cfgA a).N) : S256x512.Idx → Elt F .bf16 :=
  if Used a t then made (xB m a c t) (k0_pay1 (wB m a c t)) (bB m a c t) (sB m a c t) else k0_pay2

/-- The invariant before a point: the copy of the weights is that of the point before (anything before the first
    one), the body's halves of the tables, the random register. -/
def Phi (c : Dev nD) (n : ℕ) : sProp 𝕄 :=
  iprop((∃ f, ⌜∀ h : n - 1 < (cfgA a).N, n ≠ 0 → f = k0_pay1 (wB m a c ⟨n - 1, h⟩)⌝ ∗ (wcopy.view.loc (c : Thread nD τ) ↦{fullShare} f))
    ∗ (tabE.view.loc (c : Thread nD τ) ↦{fullShare.right} T0 a) ∗ (tabN.view.loc (c : Thread nD τ) ↦{fullShare.right} T1 a)
    ∗ ∃ r, prngReg c r)

/-- The proof data of the one pipeline. -/
def dats (_ : Fin 1) (c : Dev nD) : Dat τ (Elt F) Unit ℕ (UR sig nD τ) ℕ (cfgA a) c where
  A w := V m c (Pipeline.arrRef spec0 w)
  after w t := match w with
    | ⟨0, _⟩ => iblk m a c (0 : Fin 5) t
    | ⟨1, _⟩ => iblk m a c (1 : Fin 5) t
    | ⟨2, _⟩ => iblk m a c (2 : Fin 5) t
    | ⟨3, _⟩ => iblk m a c (3 : Fin 5) t
    | ⟨4, _⟩ => left m a c t
  Φ t := Phi m a c t.val
  q _ := fullShare
  owed _ := 0

theorem after_0 (c : Dev nD) (t : Fin (cfgA a).N) : (dats m a 0 c).after (0 : Fin 5) t = iblk m a c (0 : Fin 5) t := rfl
theorem after_1 (c : Dev nD) (t : Fin (cfgA a).N) : (dats m a 0 c).after (1 : Fin 5) t = iblk m a c (1 : Fin 5) t := rfl
theorem after_2 (c : Dev nD) (t : Fin (cfgA a).N) : (dats m a 0 c).after (2 : Fin 5) t = iblk m a c (2 : Fin 5) t := rfl
theorem after_3 (c : Dev nD) (t : Fin (cfgA a).N) : (dats m a 0 c).after (3 : Fin 5) t = iblk m a c (3 : Fin 5) t := rfl
theorem after_4 (c : Dev nD) (t : Fin (cfgA a).N) : (dats m a 0 c).after (4 : Fin 5) t = left m a c t := rfl

/-- Each input's staging buffer holds the input's block when the body runs. -/
theorem before_0 (c : Dev nD) (t : Fin (cfgA a).N) (d) : (dats m a 0 c).before (0 : Fin 5) t d = iblk m a c (0 : Fin 5) t :=
  ((dats m a 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats m a 0 c).before (1 : Fin 5) t d = iblk m a c (1 : Fin 5) t :=
  ((dats m a 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats m a 0 c).before (2 : Fin 5) t d = iblk m a c (2 : Fin 5) t :=
  ((dats m a 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfgA a).N) (d) : (dats m a 0 c).before (3 : Fin 5) t d = iblk m a c (3 : Fin 5) t :=
  ((dats m a 0 c).before_in_eq_fetched (3 : Fin 5) rfl (fun _ => rfl) (fun _ _ _ => rfl) (fun t => by rw [after_3]; unfold Dat.blockOf iblk; rfl) t d).trans
    (by unfold Dat.fetched Dat.blockOf iblk; rfl)

/-- No point leaves its output block alone. -/
theorem not_idle (t : Fin (cfgA a).N) : (cfgA a).idle (4 : Fin 5) (crd a t) = false := by
  show (!(k0_cond2 (crd a t) (a.1.atD 1 ![0]) == 1#1) && !(k0_cond3 (crd a t) (a.1.atD 1 ![0]) == 1#1)) = false
  by_cases h : k0_cond2 (crd a t) (a.1.atD 1 ![0]) = 1#1
  · rw [h]; rfl
  · rw [(used_iff _ _).mpr h]; simp

end Cert.Kernel3Ideal.Up

end
-- ==== Proof.UpIdealBody.lean ====
/- Of the program over the extended reals. The mixture's first product over its grid: the body keeps the invariant at every point, and the whole program
   runs. -/
module

public import proofs.«01_k».proof.Proof.UpIdealData

@[expose] public section

set_option maxRecDepth 16384
set_option Elab.async false

noncomputable section

namespace Cert.Kernel3Ideal.Up

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open ValueIdx (ix1 ix2 ix3)

variable {F : FTy → Type} [FloatOps F]

local notation "𝕄" => MT nD τ sig Unit (Elt F) ℕ (UR sig nD τ) ℕ

variable (m : (ℓ : Loc nD τ sig) → Buf (Elt F) ℓ) (a : (pcfg0 (F := F)).Adm)

/-! ## One point -/

/-- The body at a point, as the pipeline calls it. -/
abbrev ptBody (t : Fin (cfgA a).N) : Prog (TpuEff nD τ sig (Elt F) Λ₀ .tc) PUnit :=
  bodyAt (crd a t) (ms0 a t) (hs0 a t) (ms1 a t) (hs1 a t) (ms2 a t) (hs2 a t) (ms3 a t) (hs3 a t) (ms4 a t) (hs4 a t)

/-- What one way of the body does, told with the point's values: from any copy `f` it leaves the copy at the point's
    weights and the output block at what `left` says. -/
def PtRun (c : Dev nD) (t : Fin (cfgA a).N) (f : Buf (Elt F) ((c : Thread nD τ).loc cc0_scratch0)) : Prop :=
  ∀ K : PUnit → sProp 𝕄,
    iprop(Ins c (ms0 a t) (ms1 a t) (ms2 a t) (ms3 a t) (T0 a) (T1 a) (xB m a c t) (wB m a c t) (bB m a c t) (sB m a c t)
      ∗ (∃ d, owns (c : Thread nD τ) (ms4 a t) fullShare d)
      ∗ (wcopy.view.loc (c : Thread nD τ) ↦{fullShare} f)
      ∗ (iprop(Ins c (ms0 a t) (ms1 a t) (ms2 a t) (ms3 a t) (T0 a) (T1 a) (xB m a c t) (wB m a c t) (bB m a c t) (sB m a c t)
          ∗ owns (c : Thread nD τ) (ms4 a t) fullShare (left m a c t)
          ∗ (wcopy.view.loc (c : Thread nD τ) ↦{fullShare} k0_pay1 (wB m a c t))) -∗ K ⟨⟩))
      ⊢ wp frame (wpE (defs₀ (F := F)) Variants.none c none) Set.univ (ptBody a t) K

/-- Weights copied anew, row block in use. -/
theorem ptRun_AU (c : Dev nD) (t : Fin (cfgA a).N) (f) (hc : Anew (F := F) (T0 a) (crd a t)) (h2 : Used a t) : PtRun m a c t f := by
  intro K
  have h3 : ¬ k0_cond3 (crd a t) (nUsed (F := F) (T1 a)) = 1#1 := fun h => (used_iff _ _).mp h h2
  have hcp := (copyAU c (crd a t) (ms0 a t) (hs0 a t) (ms1 a t) (hs1 a t) (ms2 a t) (hs2 a t) (ms3 a t) (hs3 a t) (ms4 a t) (hs4 a t) (T0 a) (T1 a) (xB m a c t) (wB m a c t) (bB m a c t) (sB m a c t) f hc h2 h3)
  have hout := outAU c (crd a t) (ms0 a t) (hs0 a t) (ms1 a t) (hs1 a t) (ms2 a t) (hs2 a t) (ms3 a t) (hs3 a t) (ms4 a t) (hs4 a t) (T0 a) (T1 a) (xB m a c t) (wB m a c t) (bB m a c t) (sB m a c t) f hc h2 h3
  have hrun := (runAU c (crd a t) (ms0 a t) (hs0 a t) (ms1 a t) (hs1 a t) (ms2 a t) (hs2 a t) (ms3 a t) (hs3 a t) (ms4 a t) (hs4 a t) (T0 a) (T1 a) (xB m a c t) (wB m a c t) (bB m a c t) (sB m a c t) f hc h2 h3).2.2 K
  rw [hcp] at hrun
  refine Idealize.SL.BI.BIBase.Entails.trans ?_ hrun
  iintro ⟨HI, HO, HS, Hk⟩
  isplitl [HI]; · iexact HI
  isplitl [HO]; · iexact HO
  isplitl [HS]; · iexact HS
  iintro ⟨HI, ⟨%e3, H3⟩, HS⟩
  iapply Hk
  isplitl [HI]; · iexact HI
  isplitl [H3]
  · unfold owns; iexists _; isplitr; swap
    · iexact H3
    · ipureintro; rw [left, if_pos h2]; exact hout e3
  iexact HS

/-- Weights copied anew, row block not in use. -/
theorem ptRun_AZ (c : Dev nD) (t : Fin (cfgA a).N) (f) (hc : Anew (F := F) (T0 a) (crd a t)) (h2 : ¬ Used a t) : PtRun m a c t f := by
  intro K
  have h3 : k0_cond3 (crd a t) (nUsed (F := F) (T1 a)) = 1#1 := (used_iff _ _).mpr h2
  have hcp := (copyAZ c (crd a t) (ms0 a t) (hs0 a t) (ms1 a t) (hs1 a t) (ms2 a t) (hs2 a t) (ms3 a t) (hs3 a t) (ms4 a t) (hs4 a t) (T0 a) (T1 a) (xB m a c t) (wB m a c t) (bB m a c t) (sB m a c t) f hc h2 h3)
  have hout := outAZ c (crd a t) (ms0 a t) (hs0 a t) (ms1 a t) (hs1 a t) (ms2 a t) (hs2 a t) (ms3 a t) (hs3 a t) (ms4 a t) (hs4 a t) (T0 a) (T1 a) (xB m a c t) (wB m a c t) (bB m a c t) (sB m a c t) f hc h2 h3
  have hrun := (runAZ c (crd a t) (ms0 a t) (hs0 a t) (ms1 a t) (hs1 a t) (ms2 a t) (hs2 a t) (ms3 a t) (hs3 a t) (ms4 a t) (hs4 a t) (T0 a) (T1 a) (xB m a c t) (wB m a c t) (bB m a c t) (sB m a c t) f hc h2 h3).2.2 K
  rw [hcp] at hrun
  refine Idealize.SL.BI.BIBase.Entails.trans ?_ hrun
  iintro ⟨HI, HO, HS, Hk⟩
  isplitl [HI]; · iexact HI
  isplitl [HO]; · iexact HO
  isplitl [HS]; · iexact HS
  iintro ⟨HI, ⟨%e3, H3⟩, HS⟩
  iapply Hk
  isplitl [HI]; · iexact HI
  isplitl [H3]
  · unfold owns; iexists _; isplitr; swap
    · iexact H3
    · ipureintro; rw [left, if_neg h2]; exact hout e3
  iexact HS

/-- Weights kept, row block in use. -/
theorem ptRun_KU (c : Dev nD) (t : Fin (cfgA a).N) (f) (hc : ¬ Anew (F := F) (T0 a) (crd a t)) (h2 : Used a t) (hf : f = k0_pay1 (wB m a c t)) : PtRun m a c t f := by
  intro K
  have h3 : ¬ k0_cond3 (crd a t) (nUsed (F := F) (T1 a)) = 1#1 := fun h => (used_iff _ _).mp h h2
  have hcp := (copyKU c (crd a t) (ms0 a t) (hs0 a t) (ms1 a t) (hs1 a t) (ms2 a t) (hs2 a t) (ms3 a t) (hs3 a t) (ms4 a t) (hs4 a t) (T0 a) (T1 a) (xB m a c t) (wB m a c t) (bB m a c t) (sB m a c t) f hc h2 h3).trans hf
  have hout := outKU c (crd a t) (ms0 a t) (hs0 a t) (ms1 a t) (hs1 a t) (ms2 a t) (hs2 a t) (ms3 a t) (hs3 a t) (ms4 a t) (hs4 a t) (T0 a) (T1 a) (xB m a c t) (wB m a c t) (bB m a c t) (sB m a c t) f hc h2 h3
  have hrun := (runKU c (crd a t) (ms0 a t) (hs0 a t) (ms1 a t) (hs1 a t) (ms2 a t) (hs2 a t) (ms3 a t) (hs3 a t) (ms4 a t) (hs4 a t) (T0 a) (T1 a) (xB m a c t) (wB m a c t) (bB m a c t) (sB m a c t) f hc h2 h3).2.2 K
  rw [hcp] at hrun
  refine Idealize.SL.BI.BIBase.Entails.trans ?_ hrun
  iintro ⟨HI, HO, HS, Hk⟩
  isplitl [HI]; · iexact HI
  isplitl [HO]; · iexact HO
  isplitl [HS]; · iexact HS
  iintro ⟨HI, ⟨%e3, H3⟩, HS⟩
  iapply Hk
  isplitl [HI]; · iexact HI
  isplitl [H3]
  · unfold owns; iexists _; isplitr; swap
    · iexact H3
    · ipureintro; rw [left, if_pos h2]; rw [← hf]; exact hout e3
  iexact HS

/-- Weights kept, row block not in use. -/
theorem ptRun_KZ (c : Dev nD) (t : Fin (cfgA a).N) (f) (hc : ¬ Anew (F := F) (T0 a) (crd a t)) (h2 : ¬ Used a t) (hf : f = k0_pay1 (wB m a c t)) : PtRun m a c t f := by
  intro K
  have h3 : k0_cond3 (crd a t) (nUsed (F := F) (T1 a)) = 1#1 := (used_iff _ _).mpr h2
  have hcp := (copyKZ c (crd a t) (ms0 a t) (hs0 a t) (ms1 a t) (hs1 a t) (ms2 a t) (hs2 a t) (ms3 a t) (hs3 a t) (ms4 a t) (hs4 a t) (T0 a) (T1 a) (xB m a c t) (wB m a c t) (bB m a c t) (sB m a c t) f hc h2 h3).trans hf
  have hout := outKZ c (crd a t) (ms0 a t) (hs0 a t) (ms1 a t) (hs1 a t) (ms2 a t) (hs2 a t) (ms3 a t) (hs3 a t) (ms4 a t) (hs4 a t) (T0 a) (T1 a) (xB m a c t) (wB m a c t) (bB m a c t) (sB m a c t) f hc h2 h3
  have hrun := (runKZ c (crd a t) (ms0 a t) (hs0 a t) (ms1 a t) (hs1 a t) (ms2 a t) (hs2 a t) (ms3 a t) (hs3 a t) (ms4 a t) (hs4 a t) (T0 a) (T1 a) (xB m a c t) (wB m a c t) (bB m a c t) (sB m a c t) f hc h2 h3).2.2 K
  rw [hcp] at hrun
  refine Idealize.SL.BI.BIBase.Entails.trans ?_ hrun
  iintro ⟨HI, HO, HS, Hk⟩
  isplitl [HI]; · iexact HI
  isplitl [HO]; · iexact HO
  isplitl [HS]; · iexact HS
  iintro ⟨HI, ⟨%e3, H3⟩, HS⟩
  iapply Hk
  isplitl [HI]; · iexact HI
  isplitl [H3]
  · unfold owns; iexists _; isplitr; swap
    · iexact H3
    · ipureintro; rw [left, if_neg h2]; exact hout e3
  iexact HS

/-- The body at a point, whichever way it goes, from a copy that is the one of the point before. -/
theorem ptRun (c : Dev nD) (t : Fin (cfgA a).N) (f) (hf : ∀ h : t.val - 1 < (cfgA a).N, t.val ≠ 0 → f = k0_pay1 (wB m a c ⟨t.val - 1, h⟩)) :
    PtRun m a c t f := by
  by_cases hc : Anew (F := F) (T0 a) (crd a t)
  · by_cases h2 : Used a t
    · exact ptRun_AU m a c t f hc h2
    · exact ptRun_AZ m a c t f hc h2
  · obtain ⟨h0, hw⟩ := wB_kept m a c t hc
    have hf' : f = k0_pay1 (wB m a c t) := by rw [hw]; exact hf _ h0
    by_cases h2 : Used a t
    · exact ptRun_KU m a c t f hc h2 hf'
    · exact ptRun_KZ m a c t f hc h2 hf'

theorem phi_eq (c : Dev nD) (t : Fin ((cfgA a).N + 1)) : (dats m a 0 c).Φ t = Phi m a c t.val := rfl

theorem owes_eq (c : Dev nD) (t : Fin (cfgA a).N) : (dats m a 0 c).owesAt () t.succ = (dats m a 0 c).owesAt () t.castSucc := rfl

set_option maxHeartbeats 1000000 in
/-- The body keeps the invariant at every point. -/
theorem sound_body (c : Dev nD) (t : Fin (cfgA a).N) :
    iprop((dats m a 0 c).Φ t.castSucc ∗ (dats m a 0 c).owesAt () t.castSucc
        ∗ (∃ d, owns (c : Thread nD τ) (ms0 a t) fullShare ((dats m a 0 c).before (0 : Fin 5) t d))
        ∗ (∃ d, owns (c : Thread nD τ) (ms1 a t) fullShare ((dats m a 0 c).before (1 : Fin 5) t d))
        ∗ (∃ d, owns (c : Thread nD τ) (ms2 a t) fullShare ((dats m a 0 c).before (2 : Fin 5) t d))
        ∗ (∃ d, owns (c : Thread nD τ) (ms3 a t) fullShare ((dats m a 0 c).before (3 : Fin 5) t d))
        ∗ (∃ d, owns (c : Thread nD τ) (ms4 a t) fullShare ((dats m a 0 c).before (4 : Fin 5) t d)))
      ⊢ wp frame (wpE (defs₀ (F := F)) Variants.none c none) Set.univ (ptBody a t) fun _ =>
          iprop((dats m a 0 c).Φ t.succ ∗ (dats m a 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats m a 0 c).before w t d))
                  | true => owns (c : Thread nD τ) (((cfgA a).win w).stage ((cfgA a).slots t w)) fullShare ((dats m a 0 c).after w t)
                | false => owns (c : Thread nD τ) (((cfgA a).win w).stage ((cfgA a).slots t w)) fullShare ((dats m a 0 c).after w t)) := by
  rw [bigSep_W0]
  rewrite [not_idle a t]
  simp only [before_0, before_1, before_2, before_3, after_0, after_1, after_2, after_3, after_4]
  rewrite [phi_eq, phi_eq, Fin.val_castSucc, Fin.val_succ, owes_eq]
  unfold Phi
  iintro ⟨⟨⟨%f0, %hf0, HS0⟩, HT0, HT1, HR⟩, Ho, ⟨%d0, H0⟩, ⟨%d1, H1⟩, ⟨%d2, H2⟩, ⟨%d3, H3⟩, ⟨%d4, H4⟩⟩
  iapply (ptRun m a c t f0 hf0 _)
  isplitl [H0 H1 H2 H3 HT0 HT1]
  · isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    iexact HT1
  isplitl [H4]; · iexists _; iexact H4
  isplitl [HS0]; · iexact HS0
  iintro ⟨⟨H0, H1, H2, H3, HT0, HT1⟩, H4, HS0⟩
  isplitl [HS0 HT0 HT1 HR]
  · isplitl [HS0]
    · iexists _; isplitr; swap
      · iexact HS0
      · ipureintro; intro h _; rfl
    isplitl [HT0]
    · iexact HT0
    isplitl [HT1]
    · iexact HT1
    iexact HR
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  iexact H4

theorem body_obligation (c : Dev nD) : BodyObligation (dats m a 0 c) (defs₀ (F := F)) Variants.none () Set.univ := fun t => by
  rw [bigSep_W0]
  exact sound_body m a c t

/-! ## The whole program -/

theorem share_eq (c : Dev nD) (w : Fin (cfgA a).W) : (dats m a 0 c).share w = fullShare := by unfold Dat.share; split <;> rfl

/-- The tables as the region hands them to the pipeline, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg3) ↦{q 0} v 0) ∗ (((c : Thread nD τ).loc main_arg4) ↦{q 1} v 1)) := by
  unfold Pipeline.prefHeld
  rw [show (Finset.univ : Finset (Fin 2)) = insert (0 : Fin 2) {(1 : Fin 2)} from by decide,
    bigSep_insert (by decide), bigSep_singleton]
  rfl

/-- The invariant holds before the first point; -/
theorem phi_first (c : Dev nD) :
    iprop(Pipeline.ΦA spec0 c ∗ Pipeline.ΦT pre0 a.1 c) ⊢ (dats m a 0 c).Φ 0 := by
  rw [phi_eq, Fin.val_zero]
  unfold Pipeline.ΦA Pipeline.ΦT Phi
  rw [prefHeld_eq, scopedRest0_eq]
  iintro ⟨⟨⟨%f0, HS0⟩, HR⟩, HT0, HT1⟩
  isplitl [HS0]
  · iexists f0; isplitr; swap
    · iexact HS0
    · ipureintro; intro h hn; exact absurd rfl hn
  isplitl [HT0]
  · iexact HT0
  isplitl [HT1]
  · iexact HT1
  iexact HR

/-- after the last one it gives back what the region lent. -/
theorem phi_last (c : Dev nD) : (dats m a 0 c).Φ (Fin.last (cfgA a).N) ⊢ Pipeline.ΦA spec0 c := by
  rw [phi_eq, Fin.val_last]
  unfold Pipeline.ΦA Phi
  rw [scopedRest0_eq]
  iintro ⟨⟨%f0, -, HS0⟩, -, -, HR⟩
  isplitl [HS0]
  · iexists f0; iexact HS0
  iexact HR

set_option backward.isDefEq.respectTransparency.types false in
set_option maxHeartbeats 4000000 in
/-- From any memory whose tables hold the contents `a`, every run of the program ends, each array at the computed
    contents, every other buffer as the region found it, and every counter at zero. -/
theorem run_main (ρ : Dev nD → PrngReg) (ha : ∀ (c : Dev nD) k, m ((c.tc : Thread nD τ).loc (pre0.ref k)) = a.1 k) :
    θ_run (defs (F := F)) (onTc (τ := τ) (main (F := F))) (s₀ m ρ)
      (fun r => Pipeline.FramePost (Pipeline.pin (pcfgs (F := F)) fun _ => a) (dats m a) 0 (V m) r ∧ r.2.sem = fun _ => 0) :=
  Pipeline.θ_run_frameP_track (pcfgs (F := F)) (fun _ => a) (dats m a) 0 launch0 (defs₀ (F := F)) Variants.none m ρ main
    (hbody := fun c => (body_obligation m a c).loose) (hshare := share_eq m a) (howed := fun _ _ => rfl)
    (V := V m)
    (hmain := Pipeline.hmainP_prefix (pcfgs (F := F)) 0 (defs₀ (F := F)) Variants.none m main hostOps0 hostOps0_sub hostOps0_fresh main_chain)
    (hA := fun _ _ => rfl)
    (hpf := fun c k => by
      refine Eq.trans ?_ (ha c k)
      fin_cases k
      · exact V_main_arg3 m c
      · exact V_main_arg4 m c)
    (hin := phi_first m a) (hout := phi_last m a)
    (Q' := _) (hQ' := fun _ h => h)

end Cert.Kernel3Ideal.Up

end
-- ==== Proof.UpIdealFrame.lean ====
/- Of the program over the extended reals. The mixture's first product: under its precondition the program's tables are admissible, so every run of it
   ends, with its arguments unchanged. -/
module

public import proofs.«01_k».proof.Proof.UpIdealBody
public import proofs.«01_k».proof.Proof.UpPre

@[expose] public section

set_option maxRecDepth 16384
set_option Elab.async false

noncomputable section

namespace Cert.Kernel3Ideal.Up

open Cert.Kernel3Ideal Cert.Kernel3Ideal.Gen
open Idealize.ShloMosaic
open Idealize.ShloMosaic.TcCoe
open Idealize.SL Idealize.SL.RA Idealize.SL.Sem
open Idealize.ShloMosaic.Pipeline (Dat Cfg Window)
open ValueIdx (ix1 ix2 ix3)

variable {F : FTy → Type} [FloatOps F]

/-- Tables that name experts the weights have are admissible: every block they lead to is inside its array. -/
theorem ok_of_range (pf : pre0.Contents (Elt F)) (h : ∀ j : S224.Idx, ((pf 0 : S224.Idx → BitVec 32) j).toNat < 32) : ok0 pf := by
  have hw : ∀ i : grid0.Coords, cc0_transform_1 k0_off1_inb numel1_S1 pf i 0 < 32 := fun i => h _
  have hw2 : ∀ i : grid0.Coords, cc0_transform_2 k0_off1_inb numel1_S1 pf i 0 < 32 := fun i => h _
  have hc : ∀ i : grid0.Coords, (BitVec.ofNat 32 (i 0).val).toNat < 4 := fun i => by
    have h2 : (i 0).val < 4 := (i 0).isLt
    rw [BitVec.toNat_ofNat]; omega
  refine ⟨fun i => ⟨fun b => ?_, .inl rfl⟩, fun i => ⟨fun b => ?_, .inl rfl⟩⟩
  · match b with
    | ⟨0, _⟩ => show (cc0_transform_1 k0_off1_inb numel1_S1 pf i 0 + 1) * 1 ≤ 32; have := hw i; omega
    | ⟨1, _⟩ => show (0 + 1) * 2048 ≤ 2048; omega
    | ⟨2, _⟩ => show ((BitVec.ofNat 32 (i 0).val).toNat + 1) * 1024 ≤ 4096; have := hc i; omega
  · match b with
    | ⟨0, _⟩ => show (cc0_transform_2 k0_off1_inb numel1_S1 pf i 0 + 1) * 1 ≤ 32; have := hw2 i; omega
    | ⟨1, _⟩ => show (0 + 1) * 1 ≤ 1; omega
    | ⟨2, _⟩ => show ((BitVec.ofNat 32 (i 0).val).toNat + 1) * 1024 ≤ 4096; have := hc i; omega

variable (m : (ℓ : Loc nD τ sig) → Buf (Elt F) ℓ)

/-- The tables' contents in a memory. -/
def tables : pre0.Contents (Elt F) := fun k => m (((0 : Dev nD).tc : Thread nD τ).loc (pre0.ref k))

/-- In every memory in which the words name experts, the tables' contents are admissible. -/
def adm (h : ∀ j : S224.Idx, ((tables m 0 : S224.Idx → BitVec 32) j).toNat < 32) : (pcfg0 (F := F)).Adm := ⟨tables m, ok_of_range _ h⟩

theorem tables_eq (c : Dev nD) (k) : m ((c.tc : Thread nD τ).loc (pre0.ref k)) = tables m k := by
  have hc : c = 0 := Subsingleton.elim (α := Fin 1) c 0
  subst hc; rfl

/-- The arguments at the end of a run. -/
theorem args_kept (a : (pcfg0 (F := F)).Adm) (r : PUnit × MemSt nD τ sig (Elt F))
    (h : Pipeline.FramePost (Pipeline.pin (pcfgs (F := F)) fun _ => a) (dats m a) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 (0 : Fin 5)).trans (((dats m a 0 c).arrAt_in (0 : Fin 5) rfl _).trans (V_main_arg0 m c)),
   ((h c).1 (1 : Fin 5)).trans (((dats m a 0 c).arrAt_in (1 : Fin 5) rfl _).trans (V_main_arg1 m c)),
   ((h c).2 main_arg2 (Pipeline.mem_restRefs_of main_arg2 (by decide) (show ∀ w, (spec0 w).arr.view.ref ≠ main_arg2 from by decide))).trans (V_main_arg2 m c),
   ((h c).2 main_arg3 (Pipeline.mem_restRefs_of main_arg3 (by decide) (show ∀ w, (spec0 w).arr.view.ref ≠ main_arg3 from by decide))).trans (V_main_arg3 m c),
   ((h c).2 main_arg4 (Pipeline.mem_restRefs_of main_arg4 (by decide) (show ∀ w, (spec0 w).arr.view.ref ≠ main_arg4 from by decide))).trans (V_main_arg4 m c)⟩

end Cert.Kernel3Ideal.Up

end
-- ==== Proof.UpSpec.lean ====
/- The mixture's first product, in plain words: row `r` of the result belongs to row block `r / 256`; where that block is
   in use, the row's products with the weights of the block's expert, plus the expert's offsets, come in pairs, and entry
   `n` of the result is the gated product of pair `n`: the even one is the gate, the odd one is what it lets through.
   Where the block is not in use, the row is zero. -/
module

public import proofs.«01_k».proof.Kernel3Ideal
public import Idealize.ShloMosaic.PureOps.Ideal.Laws
public import Idealize.ShloMosaic.Lib.ValueIdx

@[expose] public section

noncomputable section

namespace Cert.UpSpec

open Idealize.ShloMosaic Cert.Kernel3Ideal
open ValueIdx (ix1 ix2 ix3)

/-- The clip's bound, 7, and its negative. -/
abbrev seven : EReal := Ideal.ofBits .f32 0x40E00000#32
abbrev minusSeven : EReal := Ideal.ofBits .f32 0xC0E00000#32
/-- One. -/
abbrev one : EReal := Ideal.ofBits .f32 0x3F800000#32
/-- The gate's slope, 1.702. -/
abbrev slope : EReal := Ideal.ofBits .f32 0x3FD9DB23#32

/-- The gate, capped above. -/
def capped (g : EReal) : EReal := min g seven

/-- What the gate lets through, clipped on both sides, plus one. -/
def lifted (u : EReal) : EReal := min seven (max minusSeven u) + one

/-- The gated product of a pair. -/
def gated (g u : EReal) : EReal := lifted u * (capped g * Ideal.logistic (slope * capped g))

/-- The expert of a row block. -/
def expert (be : S224.Idx → BitVec 32) (g : Fin 224) : Fin 32 := ⟨(be (ix1 g)).toNat % 32, Nat.mod_lt _ (by omega)⟩

/-- A row block is in use: its number is below the word. -/
abbrev InUse (nv : S1.Idx → BitVec 32) (g : Fin 224) : Prop := IntOp.cmpi .slt (BitVec.ofNat 32 g.val) (nv (ix1 (0 : Fin 1))) = 1#1

/-- The row block of a row. -/
abbrev blockOf (r : Fin 57344) : Fin 224 := ⟨r.val / 256, by have := r.isLt; omega⟩

/-- One product with an expert's weights, plus its offset. -/
def prod (x : S57344x2048.Idx → EReal) (w : S32x2048x4096.Idx → EReal) (b : S32x4096.Idx → EReal)
    (e : Fin 32) (r : Fin 57344) (n : Fin 4096) : EReal :=
  (∑ k : Fin 2048, x (ix2 r k) * w (ix3 e k n)) + b (ix2 e n)

/-- One entry of the result. -/
def at' (x : S57344x2048.Idx → EReal) (w : S32x2048x4096.Idx → EReal) (b : S32x4096.Idx → EReal)
    (be : S224.Idx → BitVec 32) (nv : S1.Idx → BitVec 32) (r : Fin 57344) (n : Fin 2048) : EReal :=
  if InUse nv (blockOf r) then
    gated (prod x w b (expert be (blockOf r)) r ⟨2 * n.val, by have := n.isLt; omega⟩)
      (prod x w b (expert be (blockOf r)) r ⟨2 * n.val + 1, by have := n.isLt; omega⟩)
  else 0

/-- The result, as an array. -/
def arr (x : S57344x2048.Idx → EReal) (w : S32x2048x4096.Idx → EReal) (b : S32x4096.Idx → EReal)
    (be : S224.Idx → BitVec 32) (nv : S1.Idx → BitVec 32) : S57344x2048.Idx → EReal :=
  fun i => at' x w b be nv (i 0) (i 1)

end Cert.UpSpec

end
-- ==== Proof.UpPay.lean ====
/- The arithmetic of the mixture's first product over the extended reals: what one of the four column groups of a point
   leaves.  The four are the same computation: 256 columns of products, in pairs; each lane takes the odd entry from its
   neighbour by a rotation, the gated products stand in the even lanes, and a product with a selection of zeros and ones
   gathers them into 128 columns. -/
module

public import proofs.«01_k».proof.Proof.UpIdealLeft
public import proofs.«01_k».proof.Proof.UpSpec
public import Idealize.ShloMosaic.Lib.KernelVsHost
public import Idealize.ShloMosaic.Lib.Pointwise

@[expose] public section

set_option maxRecDepth 16384
set_option Elab.async false

noncomputable section

namespace Cert.Kernel3Ideal.Up

open Cert.Kernel3Ideal Cert.Kernel3Ideal.Gen
open Idealize.ShloMosaic
open Idealize.ShloMosaic.TcCoe

/-- The copy of the weights. -/
theorem pay1_apply (w : Vec Ideal S1x2048x1024 .f32) (k : Fin 2048) (n : Fin 1024) :
    k0_pay1 (F := Ideal) w (ix2 k n) = w (ix3 (0 : Fin 1) k n) := by
  pointwise [k0_pay1]

/-- Zero. -/
theorem pay2_apply (i : Fin 256) (n : Fin 512) : k0_pay2 (F := Ideal) (ix2 i n) = 0 := by
  pointwise [k0_pay2]

variable (x : Vec Ideal S256x2048 .bf16) (w : Vec Ideal S2048x256 .bf16) (b : Vec Ideal S1x1x256 .f32) (s : Vec Ideal S256x128 .bf16)

/-- The lanes' numbers. -/
abbrev lanes : IVec S256x256 32 := iota Kind.tc S256x256 32 [1] iota_S256x256_d1_w32

/-- What a group leaves. -/
def group : FVec Ideal S256x128 .bf16 := k0_pay14 lanes (k0_pay12 x w b) (k0_pay13 x w b) s

/-- The first, second and fourth group are written as the third is. -/
theorem first_eq : k0_pay6 (k0_pay3 x w b) k0_pay4 k0_pay5 s = group x w b s := rfl
theorem second_eq : k0_pay10 (k0_pay7 x w b) (2#32) (k0_pay8 lanes) k0_pay9 s = group x w b s := rfl
theorem fourth_eq : k0_pay17 lanes (k0_pay15 x w) (k0_pay16 b) s = group x w b s := rfl

/-- The products of a block of rows with 256 columns of weights, plus the offsets. -/
theorem pay11_apply (i l : Fin 256) :
    k0_pay11 (F := Ideal) x w b (ix2 i l) = (∑ k : Fin 2048, x (ix2 i k) * w (ix2 k l)) + b (ix3 (0 : Fin 1) (0 : Fin 1) l) := by
  pointwise [k0_pay11, dot_S256x2048_S2048x256_S256x256_1_0_0_1_n_n]

/-- The capped gate. -/
theorem pay12_apply (i l : Fin 256) :
    k0_pay12 (F := Ideal) x w b (ix2 i l) = UpSpec.capped (k0_pay11 (F := Ideal) x w b (ix2 i l)) := rfl

/-- The clipped neighbour, plus one. -/
theorem pay13_apply (i l l' : Fin 256) (h : l'.val = (l.val + 1) % 256) :
    k0_pay13 (F := Ideal) x w b (ix2 i l) = UpSpec.lifted (k0_pay11 (F := Ideal) x w b (ix2 i l')) := by
  unfold k0_pay13
  dsimp only
  refine congrArg (fun z : EReal => z + UpSpec.one) ?_
  refine (dynamicRotate_apply (s := S256x256) 1 255#32 _ rotates_S256x256_d1 (ix2 i l) (ix2 i l') fun q => ?_).trans rfl
  match q with
  | ⟨0, _⟩ => rfl
  | ⟨1, _⟩ =>
    show l'.val = (l.val + 256 - 255 % 256) % 256
    omega

/-- The selecting product of an array. -/
def pick (A : FVec Ideal S256x256 .bf16) : FVec Ideal S256x128 .bf16 :=
  truncf .bf16 (matmul (φ₂ := .bf16) dot_S256x256_S256x128_S256x128_1_0_0_1_n_n none A (shapeCast S256x128 (s : FVec Ideal S256x128 .bf16) shapeCasts_S256x128_S256x128)
    (constant S256x128 .f32 0x00000000#32)) bitsLt_bf16_f32

theorem pick_sum (A : FVec Ideal S256x256 .bf16) (i : Fin 256) (c : Fin 128) :
    pick s A (ix2 i c) = ∑ l : Fin 256, A (ix2 i l) * s (ix2 l c) := by
  pointwise [pick, dot_S256x256_S256x128_S256x128_1_0_0_1_n_n]

/-- Where column `c` of the selection has its one in row `2 c`, the product takes lane `2 c`. -/
theorem pick_apply (hs : ∀ (l : Fin 256) (c : Fin 128), s (ix2 l c) = if l.val = 2 * c.val then 1 else 0)
    (A : FVec Ideal S256x256 .bf16) (i : Fin 256) (c : Fin 128) :
    pick s A (ix2 i c) = A (ix2 i (⟨2 * c.val, by have := c.isLt; omega⟩ : Fin 256)) := by
  rw [pick_sum, Finset.sum_eq_single (⟨2 * c.val, by have := c.isLt; omega⟩ : Fin 256)]
  · rw [hs, if_pos rfl, mul_one]
  · intro l _ hl
    rw [hs, if_neg (fun h => hl (Fin.ext h)), mul_zero]
  · exact fun h => absurd (Finset.mem_univ _) h

/-- Two, as the text finds it. -/
abbrev two : BitVec 32 := Scalar.select (Scalar.cmpi .eq 2#32 0#32) 1#32 2#32

/-- The even lanes. -/
def even : IVec S256x256 1 :=
  have q : IVec S256x256 32 := remsi lanes (broadcast S256x256 two)
  cmpi .eq
    (select (andi (xori (cmpi .slt q (broadcast S256x256 0#32)) (broadcastTo S256x256 (broadcast S256x256 (Scalar.cmpi .slt two 0#32)) broadcasts_S256x256_S256x256))
      (cmpi .ne q (broadcast S256x256 0#32))) (addi q (broadcast S256x256 two)) q)
    (broadcast S256x256 0#32)

/-- One lane's word: its number's remainder by two, with the sign rule of a floored remainder. -/
def evenWord (v : BitVec 32) : BitVec 1 :=
  IntOp.cmpi .eq
    (if (IntOp.cmpi .slt (IntOp.remsi .vector v 2#32) 0#32 ^^^ IntOp.cmpi .slt 2#32 0#32) &&& IntOp.cmpi .ne (IntOp.remsi .vector v 2#32) 0#32 = 1#1
      then IntOp.remsi .vector v 2#32 + 2#32 else IntOp.remsi .vector v 2#32) 0#32

theorem lanes_apply (i l : Fin 256) : lanes (ix2 i l) = BitVec.ofNat 32 l.val := by
  pointwise

theorem even_word (i l : Fin 256) : even (ix2 i l) = evenWord (BitVec.ofNat 32 l.val) := by
  rw [← lanes_apply i l]
  unfold even evenWord
  rw [show two = 2#32 from by decide]
  generalize lanes = q
  rfl

theorem evenWord_two : ∀ c : Fin 128, evenWord (BitVec.ofNat 32 (2 * c.val)) = 1#1 := by decide +kernel

/-- The gated products, in the even lanes. -/
def act : FVec Ideal S256x256 .bf16 :=
  truncf .bf16 (select even (mulf (k0_pay13 x w b) (mulf (k0_pay12 x w b) (logistic (mulf (broadcast S256x256 (Scalar.ofBits (F := Ideal) .f32 0x3FD9DB23#32)) (k0_pay12 x w b)))))
    (broadcast S256x256 (Scalar.ofBits (F := Ideal) .f32 0x00000000#32))) bitsLt_bf16_f32

theorem group_eq : group x w b s = pick s (act x w b) := rfl

/-- A group leaves, in column `c`, the gated product of its columns `2 c` and `2 c + 1`. -/
theorem group_apply (hs : ∀ (l : Fin 256) (c : Fin 128), s (ix2 l c) = if l.val = 2 * c.val then 1 else 0) (i : Fin 256) (c : Fin 128) :
    group x w b s (ix2 i c) = UpSpec.gated
      (k0_pay11 (F := Ideal) x w b (ix2 i (⟨2 * c.val, by have := c.isLt; omega⟩ : Fin 256)))
      (k0_pay11 (F := Ideal) x w b (ix2 i (⟨2 * c.val + 1, by have := c.isLt; omega⟩ : Fin 256))) := by
  rw [group_eq, pick_apply s hs]
  have he : even (ix2 i (⟨2 * c.val, by have := c.isLt; omega⟩ : Fin 256)) = 1#1 := (even_word _ _).trans (evenWord_two c)
  show (if even (ix2 i _) = 1#1 then _ else _) = _
  rw [if_pos he]
  show k0_pay13 (F := Ideal) x w b (ix2 i _) * (k0_pay12 (F := Ideal) x w b (ix2 i _) * Ideal.logistic (UpSpec.slope * k0_pay12 (F := Ideal) x w b (ix2 i _))) = _
  rw [pay13_apply x w b i _ (⟨2 * c.val + 1, by have := c.isLt; omega⟩ : Fin 256) (by show 2 * c.val + 1 = (2 * c.val + 1) % 256; have := c.isLt; omega), pay12_apply]
  rfl

end Cert.Kernel3Ideal.Up

end
-- ==== Proof.UpBlock.lean ====
/- The output block of the mixture's first product over the extended reals: its four column groups together are one
   block of gated products. -/
module

public import proofs.«01_k».proof.Proof.UpIdealLeft
public import proofs.«01_k».proof.Proof.UpPay
public import Idealize.ShloMosaic.Lib.IdealHost
public import Idealize.ShloMosaic.Lib.Pointwise

@[expose] public section

set_option maxRecDepth 16384
set_option Elab.async false

noncomputable section

namespace Cert.Kernel3Ideal.Up

open Cert.Kernel3Ideal Cert.Kernel3Ideal.Gen
open Idealize.ShloMosaic
open Idealize.ShloMosaic.TcCoe Idealize.ShloMosaic.Tactic
open Idealize.SL Idealize.SL.RA Idealize.SL.Sem
open Idealize.ShloMosaic.Pipeline (Dat Cfg Window)

/-- One entry of the products of a block of rows with a block of weights, plus its offset. -/
def entry (x : S256x2048.Idx → EReal) (w : S2048x1024.Idx → EReal) (b : S1x1x1024.Idx → EReal) (i : Fin 256) (l : Fin 1024) : EReal :=
  (∑ k : Fin 2048, x (ix2 i k) * w (ix2 k l)) + b (ix3 (0 : Fin 1) (0 : Fin 1) l)

/-- A block's entry: the gated product of a pair of its products. -/
def blockAt (x : S256x2048.Idx → EReal) (w : S2048x1024.Idx → EReal) (b : S1x1x1024.Idx → EReal) (i : Fin 256) (n : Fin 512) : EReal :=
  UpSpec.gated (entry x w b i ⟨2 * n.val, by have := n.isLt; omega⟩) (entry x w b i ⟨2 * n.val + 1, by have := n.isLt; omega⟩)

section Block

variable (X : S256x2048.Idx → EReal) (W : S2048x1024.Idx → EReal) (B : S1x1x1024.Idx → EReal) (S : S256x128.Idx → EReal)

/-- A column group reads its own columns of the weights and of the offsets. -/
theorem cols_apply (o : Nat) (h2 : ∀ q, (![0, o] : Fin 2 → Nat) q + S2048x256.size q ≤ S2048x1024.size q)
    (h3 : ∀ q, (![0, 0, o] : Fin 3 → Nat) q + S1x1x256.size q ≤ S1x1x1024.size q) (i l : Fin 256) (p : Fin 1024) (hp : p.val = o + l.val) :
    k0_pay11 (F := Ideal) X (View.ld (Val := Elt Ideal) (e' := .bf16) W (Rect.unit ![0, o] S2048x256.size h2))
      (View.ld (Val := Elt Ideal) (e' := .f32) B (Rect.unit ![0, 0, o] S1x1x256.size h3)) (ix2 i l) = entry X W B i p := by
  rw [pay11_apply]
  unfold entry
  have hb : View.ld (Val := Elt Ideal) (e' := .f32) B (Rect.unit ![0, 0, o] S1x1x256.size h3) (ix3 (0 : Fin 1) (0 : Fin 1) l) = B (ix3 (0 : Fin 1) (0 : Fin 1) p) := by
    refine congrArg B (funext fun q => Fin.ext ?_)
    match q with
    | ⟨0, _⟩ => rfl
    | ⟨1, _⟩ => rfl
    | ⟨2, _⟩ => show o + 1 * l.val = p.val; omega
  rw [hb]
  refine congrArg (fun s : EReal => s + _) (Finset.sum_congr rfl fun k _ => congrArg (fun s : EReal => X (ix2 i k) * s) ?_)
  refine congrArg W (funext fun q => Fin.ext ?_)
  match q with
  | ⟨0, _⟩ => show 0 + 1 * k.val = k.val; omega
  | ⟨1, _⟩ => show o + 1 * l.val = p.val; omega

/-- A column group's entry. -/
theorem group_at (hs : ∀ (l : Fin 256) (c : Fin 128), S (ix2 l c) = if l.val = 2 * c.val then 1 else 0)
    (o : Nat) (h2 : ∀ q, (![0, 2 * o] : Fin 2 → Nat) q + S2048x256.size q ≤ S2048x1024.size q)
    (h3 : ∀ q, (![0, 0, 2 * o] : Fin 3 → Nat) q + S1x1x256.size q ≤ S1x1x1024.size q) (i : Fin 256) (c : Fin 128) (n : Fin 512) (hn : n.val = o + c.val) :
    group X (View.ld (Val := Elt Ideal) (e' := .bf16) W (Rect.unit ![0, 2 * o] S2048x256.size h2))
      (View.ld (Val := Elt Ideal) (e' := .f32) B (Rect.unit ![0, 0, 2 * o] S1x1x256.size h3)) S (ix2 i c) = blockAt X W B i n := by
  rw [group_apply _ _ _ _ hs]
  unfold blockAt
  rw [cols_apply X W B (2 * o) h2 h3 i _ ⟨2 * n.val, by have := n.isLt; omega⟩ (by show 2 * n.val = 2 * o + 2 * c.val; omega),
    cols_apply X W B (2 * o) h2 h3 i _ ⟨2 * n.val + 1, by have := n.isLt; omega⟩ (by show 2 * n.val + 1 = 2 * o + (2 * c.val + 1); omega)]

/-- A piece's index in the block. -/
theorem emb_piece (o : Nat) (h : ∀ q, (![0, o] : Fin 2 → Nat) q + S256x128.size q ≤ S256x512.size q) (i : Fin 256) (c : Fin 128) (n : Fin 512) (hn : n.val = o + c.val) :
    (Rect.unit (s := S256x512) ![0, o] S256x128.size h).emb (ix2 i c) = (ix2 i n : S256x512.Idx) := by
  funext q
  apply Fin.ext
  match q with
  | ⟨0, _⟩ => show 0 + 1 * i.val = i.val; omega
  | ⟨1, _⟩ => show o + 1 * c.val = n.val; omega

/-- The pieces tile the block. -/
theorem pieces_cover (y : S256x512.Idx) : ∃ p ∈ pieces (F := Ideal) X W B S, y ∈ p.1.set :=
  View.cover_of_tiledL (pieces (F := Ideal) X W B S) S256x128.size (by sl_kernel_rfl) y

/-- The output block of a row block in use. -/
theorem made_apply (hs : ∀ (l : Fin 256) (c : Fin 128), S (ix2 l c) = if l.val = 2 * c.val then 1 else 0) (i : Fin 256) (n : Fin 512) :
    made (F := Ideal) X W B S (ix2 i n) = blockAt X W B i n := by
  unfold made
  refine (View.canon_apply_of_pieces (Val := Elt Ideal) (S := S256x512) (e := .bf16) (fun y => blockAt X W B (y 0) (y 1)) (pieces (F := Ideal) X W B S) ?_ (ix2 i n) (pieces_cover X W B S _)).trans rfl
  intro p hp x
  have step : ∀ (o : Nat) (h : ∀ q, (![0, o] : Fin 2 → Nat) q + S256x128.size q ≤ S256x512.size q)
      (h2 : ∀ q, (![0, 2 * o] : Fin 2 → Nat) q + S2048x256.size q ≤ S2048x1024.size q)
      (h3 : ∀ q, (![0, 0, 2 * o] : Fin 3 → Nat) q + S1x1x256.size q ≤ S1x1x1024.size q) (y : S256x128.Idx),
      group X (View.ld (Val := Elt Ideal) (e' := .bf16) W (Rect.unit ![0, 2 * o] S2048x256.size h2))
        (View.ld (Val := Elt Ideal) (e' := .f32) B (Rect.unit ![0, 0, 2 * o] S1x1x256.size h3)) S y
        = (fun y : S256x512.Idx => blockAt X W B (y 0) (y 1)) ((Rect.unit (s := S256x512) ![0, o] S256x128.size h).emb y) := by
    intro o h h2 h3 y
    obtain ⟨r, c, rfl⟩ : ∃ (r : Fin 256) (c : Fin 128), y = ix2 r c := ⟨y 0, y 1, (ix2_eta (n0 := 256) (n1 := 128) y).symm⟩
    have ho : o + 128 ≤ 512 := h 1
    have e := emb_piece o h r c ⟨o + c.val, by have := c.isLt; omega⟩ rfl
    rw [show (Rect.unit (s := S256x512) ![0, o] S256x128.size h).emb (ix2 r c) = _ from e]
    exact group_at X W B S hs o h2 h3 r c _ rfl
  unfold pieces at hp
  simp only [List.mem_cons, List.not_mem_nil, or_false] at hp
  rcases hp with rfl | rfl | rfl | rfl
  · exact (congrFun (fourth_eq X _ _ S) x).trans (step 384 inb_S256x512_S256x128_0_384 inb_S2048x1024_S2048x256_0_768 inb_S1x1x1024_S1x1x256_0_0_768 x)
  · exact step 256 inb_S256x512_S256x128_0_256 inb_S2048x1024_S2048x256_0_512 inb_S1x1x1024_S1x1x256_0_0_512 x
  · exact (congrFun (second_eq X _ _ S) x).trans (step 128 inb_S256x512_S256x128_0_128 inb_S2048x1024_S2048x256_0_256 inb_S1x1x1024_S1x1x256_0_0_256 x)
  · exact (congrFun (first_eq X _ _ S) x).trans (step 0 inb_S256x512_S256x128_0_0 inb_S2048x1024_S2048x256_0_0 inb_S1x1x1024_S1x1x256_0_0_0 x)

end Block

end Cert.Kernel3Ideal.Up

end
-- ==== Proof.UpKernel.lean ====
/- The mixture's first product over the extended reals: what each point leaves is its block of the specification, and
   the blocks tile the result. -/
module

public import proofs.«01_k».proof.Proof.UpIdealFrame
public import proofs.«01_k».proof.Proof.UpBlock
public import Idealize.ShloMosaic.Lib.IdealHost
public import Idealize.ShloMosaic.Lib.WordCmp
public import Idealize.ShloMosaic.Lib.Pointwise

@[expose] public section

set_option maxRecDepth 16384
set_option Elab.async false

noncomputable section

namespace Cert.Kernel3Ideal.Up

open Cert.Kernel3Ideal Cert.Kernel3Ideal.Gen
open Idealize.ShloMosaic
open Idealize.ShloMosaic.TcCoe Idealize.ShloMosaic.Tactic
open Idealize.SL Idealize.SL.RA Idealize.SL.Sem
open Idealize.ShloMosaic.Pipeline (Dat Cfg Window)

variable (m : (ℓ : Loc nD τ sig) → Buf (Elt Ideal) ℓ) (a : (pcfg0 (F := Ideal)).Adm)

/-! ## The blocks a point reads -/

theorem ix0_0 (t : Fin (cfgA a).N) : ((cfgA a).win (0 : Fin 5)).index t 0 = t.val % 224 := by
  show (BitVec.ofNat 32 (crd a t 1).val).toNat = _
  rw [crd_row, BitVec.toNat_ofNat]; omega
theorem ix0_1 (t : Fin (cfgA a).N) : ((cfgA a).win (0 : Fin 5)).index t 1 = 0 := rfl

/-- The rows of a point. -/
theorem xB_apply (c : Dev nD) (t : Fin (cfgA a).N) (i : Fin 256) (k : Fin 2048) :
    xB m a c t (ix2 i k) = m (c.tc.loc main_arg0) (ix2 (⟨t.val % 224 * 256 + i.val, by omega⟩ : Fin 57344) k) := by
  unfold xB iblk
  rw [View.read_apply]
  show V m c main_arg0 _ = m (c.tc.loc main_arg0) _
  rw [V_main_arg0]
  congr 1
  funext b
  apply Fin.ext
  match b with
  | ⟨0, _⟩ => show ((cfgA a).win (0 : Fin 5)).index t 0 * 256 + 1 * i.val = t.val % 224 * 256 + i.val; rw [ix0_0]; omega
  | ⟨1, _⟩ => show ((cfgA a).win (0 : Fin 5)).index t 1 * 2048 + 1 * k.val = k.val; rw [ix0_1]; omega

theorem bx_0 (t : Fin (cfgA a).N) : ((cfgA a).win (2 : Fin 5)).index t 0 = (exOf a t).val := tr1_0 a (crd a t)
theorem bx_1 (t : Fin (cfgA a).N) : ((cfgA a).win (2 : Fin 5)).index t 1 = 0 := rfl
theorem bx_2 (t : Fin (cfgA a).N) : ((cfgA a).win (2 : Fin 5)).index t 2 = t.val / 224 := (tr1_2 a (crd a t)).trans (crd_col a t)

/-- The offsets as the region finds them. -/
theorem V_offsets (c : Dev nD) (e : Fin 32) (n : Fin 4096) :
    (V m c main_v0 : Vec Ideal S32x1x4096 .f32) (ix3 e (0 : Fin 1) n) = m (c.tc.loc main_arg2) (ix2 e n) := by
  have h : (V m c main_v0 : Vec Ideal S32x1x4096 .f32)
      = shapeCast S32x1x4096 (m (c.tc.loc main_arg2) : Vec Ideal S32x4096 .f32) shapeCasts_S32x4096_S32x1x4096 := by
    show StableHlo.after hostOps0 (fun b => m (c, b)) main_v0 = _
    after_results
    rfl
  rw [h]
  exact shapeCast_apply _ shapeCasts_S32x4096_S32x1x4096 _ (ix2 e n)
    (by rewrite [Shape.rowMajor_val_two, Shape.rowMajor_val_three]; show e.val * 4096 + n.val = (e.val * 1 + 0) * 4096 + n.val; omega)

/-- The offsets of a point. -/
theorem bB_apply (c : Dev nD) (t : Fin (cfgA a).N) (n : Fin 1024) :
    bB m a c t (ix3 (0 : Fin 1) (0 : Fin 1) n) = m (c.tc.loc main_arg2)
      (ix2 (exOf a t) (⟨(colOf a t).val * 1024 + n.val, by have := (colOf a t).isLt; have := n.isLt; omega⟩ : Fin 4096)) := by
  refine Eq.trans ?_ (V_offsets m c _ _)
  unfold bB iblk
  rw [View.read_apply]
  show V m c main_v0 _ = V m c main_v0 _
  congr 1
  funext b
  apply Fin.ext
  match b with
  | ⟨0, _⟩ => show ((cfgA a).win (2 : Fin 5)).index t 0 * 1 + 1 * 0 = (exOf a t).val; rw [bx_0]; omega
  | ⟨1, _⟩ => show ((cfgA a).win (2 : Fin 5)).index t 1 * 1 + 1 * 0 = 0; rw [bx_1]
  | ⟨2, _⟩ => show ((cfgA a).win (2 : Fin 5)).index t 2 * 1024 + 1 * n.val = t.val / 224 * 1024 + n.val; rw [bx_2]; omega

theorem ix_sel_0 (t : Fin (cfgA a).N) : ((cfgA a).win (3 : Fin 5)).index t 0 = 0 := rfl
theorem ix_sel_1 (t : Fin (cfgA a).N) : ((cfgA a).win (3 : Fin 5)).index t 1 = 0 := rfl

/-- A lane is the double of a column where its number is. -/
theorem double_word : ∀ (l : Fin 256) (c : Fin 128),
    (IntOp.cmpi .eq (BitVec.ofNat 32 l.val) (2#32 * BitVec.ofNat 32 c.val) = 1#1) = (l.val = 2 * c.val) := by
  intro l c
  rw [WordCmp.cmpi_eq_eq]
  refine propext (Iff.trans (b := BitVec.ofNat 32 l.val = 2#32 * BitVec.ofNat 32 c.val) ⟨fun h => ?_, fun h => by rw [decide_eq_true h]; rfl⟩ ⟨fun h => ?_, fun h => ?_⟩)
  · by_contra hn
    rw [decide_eq_false hn] at h
    exact absurd h (by decide)
  · have h' := congrArg BitVec.toNat h
    rw [BitVec.toNat_mul, BitVec.toNat_ofNat, BitVec.toNat_ofNat, BitVec.toNat_ofNat] at h'
    have := l.isLt; have := c.isLt; omega
  · apply BitVec.eq_of_toNat_eq
    rw [BitVec.toNat_mul, BitVec.toNat_ofNat, BitVec.toNat_ofNat, BitVec.toNat_ofNat]
    have := l.isLt; have := c.isLt; omega

/-- The selection as the region finds it: column `c` has its one in row `2 c`. -/
theorem V_selection (c : Dev nD) (l : Fin 256) (q : Fin 128) :
    (V m c main_v8 : Vec Ideal S256x128 .bf16) (ix2 l q) = (if l.val = 2 * q.val then 1 else 0 : EReal) := by
  have h : (V m c main_v8 : Vec Ideal S256x128 .bf16)
      = select (cmpi .eq (iotaInDim S256x128 32 0) (muli (broadcastInDim S256x128 ![] bcast_S_S256x128 (constantI S_ 32 2#32)) (iotaInDim S256x128 32 1)))
        (broadcastInDim S256x128 ![] bcast_S_S256x128 (constant (F := Ideal) S_ .bf16 0x3F80#16))
        (broadcastInDim S256x128 ![] bcast_S_S256x128 (constant (F := Ideal) S_ .bf16 0x0000#16)) := by
    show StableHlo.after hostOps0 (fun b => m (c, b)) main_v8 = _
    after_results
  rw [h]
  show Scalar.select (IntOp.cmpi .eq (BitVec.ofNat 32 l.val) (2#32 * BitVec.ofNat 32 q.val)) (Ideal.ofBits .bf16 0x3F80#16) (Ideal.ofBits .bf16 0x0000#16) = _
  rw [Ideal.ofBits_one_bf16, Ideal.ofBits_zero_bf16]
  exact if_congr (iff_of_eq (double_word l q)) rfl rfl

/-- The selection of a point. -/
theorem sB_apply (c : Dev nD) (t : Fin (cfgA a).N) (l : Fin 256) (q : Fin 128) :
    sB m a c t (ix2 l q) = (if l.val = 2 * q.val then 1 else 0 : EReal) := by
  refine Eq.trans ?_ (V_selection m c l q)
  unfold sB iblk
  rw [View.read_apply]
  show V m c main_v8 _ = V m c main_v8 _
  congr 1
  funext b
  apply Fin.ext
  match b with
  | ⟨0, _⟩ => show ((cfgA a).win (3 : Fin 5)).index t 0 * 256 + 1 * l.val = l.val; rw [ix_sel_0]; omega
  | ⟨1, _⟩ => show ((cfgA a).win (3 : Fin 5)).index t 1 * 128 + 1 * q.val = q.val; rw [ix_sel_1]; omega

/-! ## The result -/

/-- The whole result, as contents of the result array. -/
def result (c : Dev nD) : Buf (Elt Ideal) ((c : Thread nD τ).loc main_v9) :=
  UpSpec.arr (m (c.tc.loc main_arg0)) (m (c.tc.loc main_arg1)) (m (c.tc.loc main_arg2)) (T0 a) (T1 a)

/-- The point's row block is in use where the specification says so. -/
theorem used_eq (t : Fin (cfgA a).N) : Used a t ↔ UpSpec.InUse (T1 a) (rowOf a t) := by
  show k0_cond2 (crd a t) (nUsed (F := Ideal) (T1 a)) = 1#1 ↔ _
  rw [nUsed_eq]
  unfold k0_cond2
  dsimp only
  rw [one_of_two, crd_row]
  rfl

/-- The point's expert is the specification's. -/
theorem expert_eq (t : Fin (cfgA a).N) : UpSpec.expert (T0 a) (rowOf a t) = exOf a t := by
  apply Fin.ext
  have hr : (⟨(crd a t 1).val, (crd a t 1).isLt⟩ : Fin 224) = rowOf a t := Fin.ext (crd_row a t)
  have hw := word_lt a (crd a t)
  show (T0 a (ix1 (rowOf a t))).toNat % 32 = (T0 a (ix1 (⟨(crd a t 1).val, (crd a t 1).isLt⟩ : Fin 224))).toNat
  rw [hr] at hw ⊢
  exact Nat.mod_eq_of_lt hw

/-- An entry of a point's products is the specification's. -/
theorem entry_eq (c : Dev nD) (t : Fin (cfgA a).N) (i : Fin 256) (l : Fin 1024) (p : Fin 4096) (hp : p.val = t.val / 224 * 1024 + l.val) :
    entry (xB m a c t) (k0_pay1 (F := Ideal) (wB m a c t)) (bB m a c t) i l
      = UpSpec.prod (m (c.tc.loc main_arg0)) (m (c.tc.loc main_arg1)) (m (c.tc.loc main_arg2)) (exOf a t)
        (⟨t.val % 224 * 256 + i.val, by omega⟩ : Fin 57344) p := by
  have hp' : p = (⟨(colOf a t).val * 1024 + l.val, by have := (colOf a t).isLt; have := l.isLt; omega⟩ : Fin 4096) := Fin.ext hp
  rw [hp']
  unfold entry UpSpec.prod
  rw [bB_apply]
  refine congrArg (fun s : EReal => s + _) (Finset.sum_congr rfl fun k _ => ?_)
  rw [pay1_apply, xB_apply]
  exact congrArg (fun s : EReal => _ * s) (wB_apply m a c t k l)

/-- What a point leaves, at an index. -/
theorem left_apply (c : Dev nD) (t : Fin (cfgA a).N) (i : Fin 256) (n : Fin 512) :
    left m a c t (ix2 i n) = result m a c
      (ix2 (⟨t.val % 224 * 256 + i.val, by omega⟩ : Fin 57344)
        (⟨t.val / 224 * 512 + n.val, by have h : t.val / 224 < 4 := (colOf a t).isLt; have := n.isLt; omega⟩ : Fin 2048)) := by
  have hblk : UpSpec.blockOf (⟨t.val % 224 * 256 + i.val, by omega⟩ : Fin 57344) = rowOf a t := by
    apply Fin.ext
    show (t.val % 224 * 256 + i.val) / 256 = t.val % 224
    omega
  show _ = UpSpec.at' (m (c.tc.loc main_arg0)) (m (c.tc.loc main_arg1)) (m (c.tc.loc main_arg2)) (T0 a) (T1 a)
    (⟨t.val % 224 * 256 + i.val, by omega⟩ : Fin 57344)
    (⟨t.val / 224 * 512 + n.val, by have h : t.val / 224 < 4 := (colOf a t).isLt; have := n.isLt; omega⟩ : Fin 2048)
  unfold UpSpec.at' left
  rw [hblk, expert_eq]
  by_cases h : Used a t
  · rw [if_pos h, if_pos ((used_eq a t).mp h), made_apply _ _ _ _ (fun l q => sB_apply m a c t l q)]
    unfold blockAt
    have h4 : t.val / 224 < 4 := (colOf a t).isLt
    rw [entry_eq m a c t i ⟨2 * n.val, by have := n.isLt; omega⟩ ⟨2 * (t.val / 224 * 512 + n.val), by have := n.isLt; omega⟩
        (by show 2 * (t.val / 224 * 512 + n.val) = t.val / 224 * 1024 + 2 * n.val; omega),
      entry_eq m a c t i ⟨2 * n.val + 1, by have := n.isLt; omega⟩ ⟨2 * (t.val / 224 * 512 + n.val) + 1, by have := n.isLt; omega⟩
        (by show 2 * (t.val / 224 * 512 + n.val) + 1 = t.val / 224 * 1024 + (2 * n.val + 1); omega)]
  · rw [if_neg h, if_neg (fun h' => h ((used_eq a t).mpr h')), pay2_apply]

theorem ix4_0 (t : Fin (cfgA a).N) : ((cfgA a).win (4 : Fin 5)).index t 0 = t.val % 224 := by
  show (BitVec.ofNat 32 (crd a t 1).val).toNat = _
  rw [crd_row, BitVec.toNat_ofNat]; omega
theorem ix4_1 (t : Fin (cfgA a).N) : ((cfgA a).win (4 : Fin 5)).index t 1 = t.val / 224 := by
  show (BitVec.ofNat 32 (crd a t 0).val).toNat = _
  have h : t.val / 224 < 4 := (colOf a t).isLt
  rw [crd_col, BitVec.toNat_ofNat]; omega

theorem cut4 (t : Fin (cfgA a).N) (X : Vec Ideal S256x512 .bf16) (i : Fin 256) (n : Fin 512) :
    ((cfgA a).win (4 : Fin 5)).cut (crd a t) X (ix2 i n) = X (ix2 i n) :=
  congrArg X (funext fun b => by fin_cases b <;> rfl)

/-- Where an entry of a point's block lies in the result array. -/
theorem emb4 (t : Fin (cfgA a).N) (i : Fin 256) (n : Fin 512) :
    (((cfgA a).win (4 : Fin 5)).blk t).view.emb (ix2 i n)
      = (ix2 (⟨t.val % 224 * 256 + i.val, by omega⟩ : Fin 57344)
        (⟨t.val / 224 * 512 + n.val, by have h : t.val / 224 < 4 := (colOf a t).isLt; have := n.isLt; omega⟩ : Fin 2048) : S57344x2048.Idx) := by
  funext b
  apply Fin.ext
  match b with
  | ⟨0, _⟩ => show ((cfgA a).win (4 : Fin 5)).index t 0 * 256 + 1 * i.val = t.val % 224 * 256 + i.val; rw [ix4_0]; omega
  | ⟨1, _⟩ => show ((cfgA a).win (4 : Fin 5)).index t 1 * 512 + 1 * n.val = t.val / 224 * 512 + n.val; rw [ix4_1]; omega

/-- What a point writes back is its block of the result. -/
theorem flushed_eq (c : Dev nD) (t : Fin (cfgA a).N) :
    (dats m a 0 c).flushed (4 : Fin 5) t = (((cfgA a).win (4 : Fin 5)).blk t).view.read (Elt Ideal) (result m a c) := by
  show ((cfgA a).win (4 : Fin 5)).cut (crd a t) (left m a c t) = _
  funext y
  rw [View.read_apply]
  obtain ⟨i, n, rfl⟩ : ∃ (i : Fin 256) (n : Fin 512), y = ix2 i n := ⟨y 0, y 1, (ix2_eta (n0 := 256) (n1 := 512) y).symm⟩
  rw [cut4, emb4]
  exact left_apply m a c t i n

/-- Every point writes its block back: the next point's block is another. -/
theorem flushes (t : Fin (cfgA a).N) : ((cfgA a).win (4 : Fin 5)).flush t = true :=
  (Pipeline.Window.flush_reads ((cfgA a).win (4 : Fin 5)) rfl 1 (show 1 < grid0.bound 1 by decide) (show grid0.fixedAfter reads0_4 1 = true by decide) (Pipeline.Window.sep_of_coord cc0_transform_4 1 0 (fun _ => rfl) (by decide)) (P := 1) (m := 0) (show grid0.stride 1 = 1 by decide) rfl t).mpr (Nat.mod_one _)

/-- The blocks tile the array: row `r`, column `q` is in the block of point `224 (q / 512) + r / 256`. -/
theorem final_o (c : Dev nD) : (dats m a 0 c).arrAt (4 : Fin 5) (cfgA a).N = result m a c :=
  (dats m a 0 c).arrAt_eq_of_cover (4 : Fin 5) (result m a c) (fun t _ => flushed_eq m a c t) fun x => by
    have h0 : (x 0 : Nat) < 57344 := (x 0).isLt
    have h1 : (x 1 : Nat) < 2048 := (x 1).isLt
    have hN := N_A a
    refine ⟨⟨(x 1 : Nat) / 512 * 224 + (x 0 : Nat) / 256, by omega⟩, flushes a _, ?_⟩
    rw [show (((cfgA a).win (4 : Fin 5)).blk _).view.set = ((View.whole main_v9).slice (((cfgA a).win (4 : Fin 5)).rect _)).set from rfl, View.set_slice_whole, Rect.mem_set_unit]
    intro b
    match b with
    | ⟨0, _⟩ =>
      show ((cfgA a).win (4 : Fin 5)).index _ 0 * 256 ≤ (x 0 : Nat) ∧ (x 0 : Nat) < ((cfgA a).win (4 : Fin 5)).index _ 0 * 256 + 256
      rw [ix4_0]; dsimp only; omega
    | ⟨1, _⟩ =>
      show ((cfgA a).win (4 : Fin 5)).index _ 1 * 512 ≤ (x 1 : Nat) ∧ (x 1 : Nat) < ((cfgA a).win (4 : Fin 5)).index _ 1 * 512 + 512
      rw [ix4_1]; dsimp only; omega

end Cert.Kernel3Ideal.Up

end
-- ==== Proof.UpRef.lean ====
/- The reference of the mixture's first product, read at an index: it is the specification, for words that name experts. -/
module

public import proofs.«01_k».proof.Proof.UpSpec
public import proofs.«01_k».proof.Proof.ExpertTake
public import Idealize.ShloMosaic.Lib.IdealHost
public import proofs.«01_k».proof.Proof.Gen.Reference3Ideal.Read

@[expose] public section
set_option maxRecDepth 16384

noncomputable section

namespace Cert.UpSpec.Ref

open Idealize.ShloMosaic Cert.Reference3Ideal Cert.Reference3Ideal.Gen Cert.Reference3Ideal.Read
open ValueIdx (ix1 ix2 ix3)

variable (x0 : S57344x2048.Idx → EReal) (x1 : S32x2048x4096.Idx → EReal) (x2 : S32x4096.Idx → EReal)
  (x3 : S224.Idx → BitVec 32) (x4 : S1.Idx → BitVec 32)

/-- A word after the wrap of negative words. -/
theorem word_w (h : ∀ j, (x3 j).toNat < 32) (g : Fin 224) : val_main_v7 (F := Ideal) x3 (ix2 g (0 : Fin 1)) = x3 (ix1 g) := by
  rw [val_main_v7_apply, show idx_main_v7 (ix2 g (0 : Fin 1)) = ix1 g from funext fun a => by fin_cases a; rfl,
    val_main_v6_apply, val_main_v3_apply, val_main_v5_apply, val_main_v2_apply, val_main_v4_apply, val_main_c_apply, val_main_c_0_apply]
  exact Take.wrap_word _ (h _)

theorem word_b (h : ∀ j, (x3 j).toNat < 32) (g : Fin 224) : val_main_v15 (F := Ideal) x3 (ix2 g (0 : Fin 1)) = x3 (ix1 g) := by
  rw [val_main_v15_apply, show idx_main_v15 (ix2 g (0 : Fin 1)) = ix1 g from funext fun a => by fin_cases a; rfl,
    val_main_v14_apply, val_main_v11_apply, val_main_v13_apply, val_main_v10_apply, val_main_v12_apply, val_main_c_1_apply, val_main_c_2_apply]
  exact Take.wrap_word _ (h _)

theorem expert_val (h : ∀ j, (x3 j).toNat < 32) (g : Fin 224) : (expert x3 g).val = (x3 (ix1 g)).toNat := Nat.mod_eq_of_lt (h _)

/-- The expert's weights of a row block. -/
theorem weights (h : ∀ j, (x3 j).toNat < 32) (g : Fin 224) (k : Fin 2048) (n : Fin 4096) :
    val_main_v8 (F := Ideal) x1 x3 (ix3 g k n) = x1 (ix3 (expert x3 g) k n) := by
  unfold val_main_v8
  refine Take.slab_apply (N := 32) (R := 2048) (C := 4096) (B := 224)
    gather_S32x2048x4096_S224x1_S224x2048x4096_12_0_n_n_0_1_120484096_wf x1 _ g k n (expert x3 g) ?_
  rw [word_w x3 h, Take.word_toInt _ (h _), expert_val x3 h]

/-- The expert's offsets of a row block. -/
theorem offsets (h : ∀ j, (x3 j).toNat < 32) (g : Fin 224) (n : Fin 4096) :
    val_main_v16 (F := Ideal) x2 x3 (ix2 g n) = x2 (ix2 (expert x3 g) n) := by
  unfold val_main_v16
  refine Routing.gather_row (nb := 32) (B := 4096) (n := 224) gather_S32x4096_S224x1_S224x4096_1_0_n_n_0_1_14096
    rfl rfl rfl rfl rfl x2 _ g n (expert x3 g) ?_ (by omega)
  rw [word_b x3 h, expert_val x3 h, BitVec.ofNat_toNat]
  exact (BitVec.setWidth_eq _).symm

/-- The activation's row. -/
theorem acts (g : Fin 224) (i : Fin 256) (k : Fin 2048) :
    val_main_v1 (F := Ideal) x0 (ix3 g i k) = x0 (ix2 (⟨g.val * 256 + i.val, by omega⟩ : Fin 57344) k) := by
  rw [val_main_v1_apply, val_main_v0_apply]
  show x0 _ = x0 _
  congr 1
  funext a
  apply Fin.ext
  match a with
  | ⟨0, _⟩ => show ((g.val * 256 + i.val) * 2048 + k.val) / 2048 = g.val * 256 + i.val; omega
  | ⟨1, _⟩ => show ((g.val * 256 + i.val) * 2048 + k.val) % 2048 = k.val; omega

/-- Whether a row block is in use. -/
theorem used (g : Fin 224) (i : Fin 256) (n : Fin 2048) :
    val_main_call1_v1 (F := Ideal) x4 (ix3 g i n) = IntOp.cmpi .slt (BitVec.ofNat 32 g.val) (x4 (ix1 (0 : Fin 1))) := by
  rw [val_main_call1_v1_apply, val_main_v41_apply, val_main_v40_apply, val_main_v37_apply, val_main_v39_apply]
  have h : val_main_v38 (F := Ideal) x4 (idx_main_v39 (idx_main_v41 (idx_main_call1_v1 (ix3 g i n)))) = x4 (ix1 (0 : Fin 1)) := by
    rw [show idx_main_v39 (idx_main_v41 (idx_main_call1_v1 (ix3 g i n))) = ValueIdx.ix0 from funext fun a => a.elim0]
    unfold val_main_v38
    exact shapeCast_apply x4 shapeCasts_S1_S_ ValueIdx.ix0 (ix1 (0 : Fin 1)) (by decide)
  rw [h]

/-- The product of a row with its expert's weights, plus the offsets. -/
theorem prod_at (h : ∀ j, (x3 j).toNat < 32) (g : Fin 224) (i : Fin 256) (n : Fin 4096) :
    val_main_v19 (F := Ideal) x0 x1 x2 x3 (ix3 g i n)
      = (∑ k : Fin 2048, x0 (ix2 (⟨g.val * 256 + i.val, by omega⟩ : Fin 57344) k) * x1 (ix3 (expert x3 g) k n)) + x2 (ix2 (expert x3 g) n) := by
  rw [val_main_v19_apply, val_main_v9_apply, val_main_v18_apply, val_main_v17_apply]
  have hb : val_main_v16 (F := Ideal) x2 x3 (idx_main_v17 (idx_main_v18 (ix3 g i n))) = x2 (ix2 (expert x3 g) n) :=
    (congrArg (val_main_v16 (F := Ideal) x2 x3) (show idx_main_v17 (idx_main_v18 (ix3 g i n)) = ix2 g n from
      funext fun a => by fin_cases a <;> rfl)).trans (offsets x2 x3 h g n)
  rw [hb]
  refine congrArg (fun s : EReal => s + x2 (ix2 (expert x3 g) n)) (Finset.sum_congr rfl fun k _ => ?_)
  have hl : val_main_v1 (F := Ideal) x0 (lidx_main_v9 (ix3 g i n) k) = x0 (ix2 (⟨g.val * 256 + i.val, by omega⟩ : Fin 57344) k) :=
    (congrArg (val_main_v1 (F := Ideal) x0) (show lidx_main_v9 (ix3 g i n) k = ix3 g i k from
      funext fun a => by fin_cases a <;> rfl)).trans (acts x0 g i k)
  have hr : val_main_v8 (F := Ideal) x1 x3 (ridx_main_v9 (ix3 g i n) k) = x1 (ix3 (expert x3 g) k n) :=
    (congrArg (val_main_v8 (F := Ideal) x1 x3) (show ridx_main_v9 (ix3 g i n) k = ix3 g k n from
      funext fun a => by fin_cases a <;> rfl)).trans (weights x1 x3 h g k n)
  rw [hl, hr]

/-- The even entries of the products … -/
theorem even_at (g : Fin 224) (i : Fin 256) (n : Fin 2048) :
    val_main_v20 (F := Ideal) x0 x1 x2 x3 (ix3 g i n)
      = val_main_v19 (F := Ideal) x0 x1 x2 x3 (ix3 g i (⟨2 * n.val, by have := n.isLt; omega⟩ : Fin 4096)) := by
  unfold val_main_v20
  generalize val_main_v19 (F := Ideal) x0 x1 x2 x3 = y
  unfold Host.slice
  refine congrArg y (funext fun a => Fin.ext ?_)
  match a with
  | ⟨0, _⟩ => show 0 + 1 * g.val = g.val; omega
  | ⟨1, _⟩ => show 0 + 1 * i.val = i.val; omega
  | ⟨2, _⟩ => show 0 + 2 * n.val = 2 * n.val; omega

/-- … and the odd ones. -/
theorem odd_at (g : Fin 224) (i : Fin 256) (n : Fin 2048) :
    val_main_v23 (F := Ideal) x0 x1 x2 x3 (ix3 g i n)
      = val_main_v19 (F := Ideal) x0 x1 x2 x3 (ix3 g i (⟨2 * n.val + 1, by have := n.isLt; omega⟩ : Fin 4096)) := by
  unfold val_main_v23
  generalize val_main_v19 (F := Ideal) x0 x1 x2 x3 = y
  unfold Host.slice
  refine congrArg y (funext fun a => Fin.ext ?_)
  match a with
  | ⟨0, _⟩ => show 0 + 1 * g.val = g.val; omega
  | ⟨1, _⟩ => show 0 + 1 * i.val = i.val; omega
  | ⟨2, _⟩ => show 1 + 2 * n.val = 2 * n.val + 1; omega

/-- The capped gate. -/
theorem capped_at (j : S224x256x2048.Idx) :
    val_main_v22 (F := Ideal) x0 x1 x2 x3 j = capped (val_main_v20 (F := Ideal) x0 x1 x2 x3 j) := by
  rw [val_main_v22_apply, val_main_v21_apply, val_main_cst_apply]
  rfl

/-- What the gate lets through, clipped, plus one. -/
theorem lifted_at (j : S224x256x2048.Idx) :
    val_main_v26 (F := Ideal) x0 x1 x2 x3 j = lifted (val_main_v23 (F := Ideal) x0 x1 x2 x3 j) := by
  rw [val_main_v26_apply, val_main_v24_apply, val_main_call0_v2_apply, val_main_call0_v1_apply, val_main_call0_v4_apply,
    val_main_call0_v0_apply, val_main_call0_v3_apply, val_main_cst_3_apply, val_main_cst_4_apply, val_main_v25_apply, val_main_cst_5_apply]
  rfl

/-- The written-out sigmoid is the logistic function. -/
theorem sigmoid (z : EReal) : Ideal.div one (one + Ideal.exp (-z)) = Ideal.logistic z := by
  rw [show one = 1 from Ideal.ofBits_one_f32]
  rfl

/-- The gate times its sigmoid. -/
theorem gate_at (j : S224x256x2048.Idx) :
    val_main_v35 (F := Ideal) x0 x1 x2 x3 j
      = capped (val_main_v20 (F := Ideal) x0 x1 x2 x3 j) * Ideal.logistic (slope * capped (val_main_v20 (F := Ideal) x0 x1 x2 x3 j)) := by
  rw [val_main_v35_apply, val_main_v34_apply, val_main_v33_apply, val_main_v32_apply, val_main_v31_apply, val_main_v30_apply,
    val_main_v29_apply, val_main_v28_apply, val_main_v27_apply, val_main_cst_6_apply, val_main_cst_7_apply, val_main_cst_8_apply,
    capped_at, ← sigmoid]
  rfl

/-- The gated product. -/
theorem gated_at (j : S224x256x2048.Idx) :
    val_main_v36 (F := Ideal) x0 x1 x2 x3 j
      = gated (val_main_v20 (F := Ideal) x0 x1 x2 x3 j) (val_main_v23 (F := Ideal) x0 x1 x2 x3 j) := by
  rw [val_main_v36_apply, lifted_at, gate_at]
  rfl

/-- The reference's result is the specification's array. -/
theorem out_eq (h : ∀ j, (x3 j).toNat < 32) : val_main_v44 (F := Ideal) x0 x1 x2 x3 x4 = arr x0 x1 x2 x3 x4 := by
  funext y
  obtain ⟨r, n, rfl⟩ : ∃ (r : Fin 57344) (n : Fin 2048), y = ix2 r n := ⟨y 0, y 1, funext fun a => by fin_cases a <;> rfl⟩
  have hr : r.val / 256 < 224 := by have := r.isLt; omega
  have hi : idx_main_v43 (ix2 r n) = ix3 (⟨r.val / 256, hr⟩ : Fin 224) (⟨r.val % 256, Nat.mod_lt _ (by omega)⟩ : Fin 256) n := by
    have := n.isLt
    funext a
    apply Fin.ext
    match a with
    | ⟨0, _⟩ => show (r.val * 2048 + n.val) / 524288 = r.val / 256; omega
    | ⟨1, _⟩ => show (r.val * 2048 + n.val) / 2048 % 256 = r.val % 256; omega
    | ⟨2, _⟩ => show (r.val * 2048 + n.val) % 2048 = n.val; omega
  have hrow : (⟨r.val / 256 * 256 + r.val % 256, by have := r.isLt; omega⟩ : Fin 57344) = r := Fin.ext (by show r.val / 256 * 256 + r.val % 256 = r.val; omega)
  rw [val_main_v44_apply, val_main_v43_apply, hi, val_main_v42_apply, used, gated_at, even_at, odd_at, prod_at x0 x1 x2 x3 h,
    prod_at x0 x1 x2 x3 h, val_main_call1_v2_apply, val_main_call1_v0_apply, val_main_cst_9_apply]
  show (if _ then _ else _) = at' x0 x1 x2 x3 x4 r n
  unfold at' prod
  dsimp only
  rw [hrow]
  refine if_congr (Iff.rfl) rfl ?_
  exact Ideal.ofBits_zero_f32

end Cert.UpSpec.Ref

end
-- ==== Proof.UpClaims.lean ====
/- The five claims of the mixture's first product. -/
module

public import proofs.«01_k».proof.Defs
public import proofs.«01_k».proof.Proof.UpFrame
public import proofs.«01_k».proof.Proof.UpKernel
public import proofs.«01_k».proof.Proof.UpRef
public import proofs.«01_k».proof.Proof.Gen.Reference3Ideal.Run
public import Idealize.ShloMosaic.Lib.Quiescent

@[expose] public section
set_option maxRecDepth 16384

noncomputable section

namespace Cert.Proof

open Idealize.ShloMosaic Idealize.SL.Sem

/-- Where the words name experts, the kernel returns and leaves its arguments and counters alone. -/
theorem up_frame : Cert.quiescent_Kernel3 := fun m ρ hpre =>
  (θ_run Cert.Kernel3.defs _ _).mono (fun r h => ⟨fun c => Cert.Kernel3.Up.args_kept m _ r h.1 c, h.2⟩)
    (Cert.Kernel3.Up.run_main m
      (Cert.Kernel3.Up.adm m (Cert.Pre_up_experts_in_range.in_range _ _ _ _ _ (hpre 0))) ρ
      (Cert.Kernel3.Up.tables_eq m))

/-- So does its idealization … -/
theorem up_frame_ideal : Cert.quiescent_Kernel3Ideal := fun m ρ hpre =>
  (θ_run Cert.Kernel3Ideal.defs _ _).mono (fun r h => ⟨fun c => Cert.Kernel3Ideal.Up.args_kept m _ r h.1 c, h.2⟩)
    (Cert.Kernel3Ideal.Up.run_main m
      (Cert.Kernel3Ideal.Up.adm m (Cert.Pre_up_experts_in_range.in_range _ _ _ _ _ (hpre 0))) ρ
      (Cert.Kernel3Ideal.Up.tables_eq m))

/-- … and the reference, which is host operations alone. -/
theorem up_frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Over the extended reals the kernel's result is the reference's: both are the specification's array of the same
    arguments. -/
theorem up_algebraic : Cert.algebraic_Kernel3Ideal_Reference3Ideal := by
  intro m ρ m' ρ' hpre hagree
  have hr := Cert.Pre_up_experts_in_range.in_range _ _ _ _ _ (hpre 0)
  refine ⟨fun c => Cert.Kernel3Ideal.Up.result m (Cert.Kernel3Ideal.Up.adm m hr) c, ?_, ?_⟩
  · exact (θ_run Cert.Kernel3Ideal.defs _ _).mono
      (fun r h c => ⟨((h.1 c).1 (4 : Fin 5)).trans (Cert.Kernel3Ideal.Up.final_o m _ c), Cert.Kernel3Ideal.Up.args_kept m _ r h.1 c⟩)
      (Cert.Kernel3Ideal.Up.run_main m (Cert.Kernel3Ideal.Up.adm m hr) ρ (Cert.Kernel3Ideal.Up.tables_eq m))
  · refine (θ_run Cert.Reference3Ideal.defs _ _).mono (fun r h c => ⟨(h c).1.trans ?_, (h c).2⟩)
      (Cert.Reference3Ideal.Value.run (F := Ideal) m' ρ')
    obtain ⟨h0, h1, h2, h3, h4⟩ := hagree c
    have hc : c = 0 := Subsingleton.elim (α := Fin 1) c 0
    subst hc
    rw [Cert.Reference3Ideal.Read.val_main_v44_eq, h0, h1, h2, h3, h4]
    exact UpSpec.Ref.out_eq _ _ _ _ _ hr

end Cert.Proof

end
-- ==== Proof.DenseSpec.lean ====
/- A dense product in plain words: entry (r, n) is the sum over k of x(r, k) · w(k, n). -/
module

public import Idealize.ShloMosaic.PureOps.Ideal.Laws
public import Idealize.ShloMosaic.Lib.ValueIdx

@[expose] public section

noncomputable section

namespace Cert.Dense

open Idealize.ShloMosaic
open ValueIdx (ix1 ix2)

/-- One entry of the product of a matrix `x` and a matrix `w`. -/
def prod {R K C : Nat} (x : (⟨2, ![R, K]⟩ : Shape).Idx → EReal) (w : (⟨2, ![K, C]⟩ : Shape).Idx → EReal)
    (r : Fin R) (n : Fin C) : EReal := ∑ k : Fin K, x (ix2 r k) * w (ix2 k n)

/-- The product with an offset for each column, as an array. -/
def prodPlus {R K C : Nat} (x : (⟨2, ![R, K]⟩ : Shape).Idx → EReal) (w : (⟨2, ![K, C]⟩ : Shape).Idx → EReal)
    (b : (⟨1, ![C]⟩ : Shape).Idx → EReal) : (⟨2, ![R, C]⟩ : Shape).Idx → EReal :=
  fun i => prod x w (i 0) (i 1) + b (ix1 (i 1))

/-- The product alone, as an array. -/
def prodOnly {R K C : Nat} (x : (⟨2, ![R, K]⟩ : Shape).Idx → EReal) (w : (⟨2, ![K, C]⟩ : Shape).Idx → EReal) :
    (⟨2, ![R, C]⟩ : Shape).Idx → EReal :=
  fun i => prod x w (i 0) (i 1)

end Cert.Dense

end
-- ==== Proof.HyBody.lean ====
/- One grid point of the convolution layer's input product: what its body leaves in the copy of the weights and in the
   output block. -/
module

public import proofs.«01_k».proof.Proof.DenseSpec
public import proofs.«01_k».proof.Proof.Gen.Kernel4Ideal.Value
public import Idealize.ShloMosaic.Lib.Pointwise

@[expose] public section
set_option maxRecDepth 16384

noncomputable section

namespace Cert.Hy

open Idealize.ShloMosaic Cert.Kernel4Ideal Cert.Kernel4Ideal.Gen Idealize.ShloMosaic.TcCoe Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl

/-- The copy of a weight block holds the block's numbers. -/
theorem copy_apply (w : Vec Ideal S2048x512 .f32) (k : Fin 2048) (n : Fin 512) :
    k0_pay1 (F := Ideal) w (ix2 k n) = w (ix2 k n) := by
  pointwise [k0_pay1]

/-- The output block: the product of the token block and the copy, plus the offsets. -/
theorem block_apply (x : Vec Ideal S1024x2048 .bf16) (w : Vec Ideal S2048x512 .bf16) (b : Vec Ideal S1x512 .f32)
    (i : Fin 1024) (n : Fin 512) :
    k0_pay2 (F := Ideal) x w b (ix2 i n) = (∑ k : Fin 2048, x (ix2 i k) * w (ix2 k n)) + b (ix2 0 n) := by
  pointwise [k0_pay2, dot_S1024x2048_S2048x512_S1024x512_1_0_0_1_n_n]

section
variable (c : Dev nD) (i : grid0.Coords) (a2 : Memref sig .tc .vmem S1024x2048 .bf16) (h2 : a2.IsWhole)
    (a3 : Memref sig .tc .vmem S2048x512 .f32) (h3 : a3.IsWhole) (a4 : Memref sig .tc .vmem S1x512 .f32) (h4 : a4.IsWhole)
    (a5 : Memref sig .tc .vmem S1024x512 .f32) (h5 : a5.IsWhole) (a6 : Memref sig .tc .vmem S2048x512 .bf16) (h6 : a6.IsWhole)
    (x0 : Vec Ideal S1024x2048 .bf16) (x1 : Vec Ideal S2048x512 .f32) (x2 : Vec Ideal S1x512 .f32)

/-- At the first point of a column block the copy is made anew. -/
theorem copy_first (hc : cond0_0 i) :
    sout0_A_0 (F := Ideal) c i a2 h2 a3 h3 a4 h4 a5 h5 a6 h6 hc x0 x1 x2 = k0_pay1 x1 := by
  unfold sout0_A_0
  rw [View.read_writes_eq_canon _ _ _ (scover0_A_0 c i a2 h2 a3 h3 a4 h4 a5 h5 a6 h6 hc x0 x1 x2)]
  unfold kernelRun0_A
  dsimp only
  sl_unfold_words
  rw [View.canon_unit_zero hz2]
  simp only [View.readAt_eq_ld, h3.read_unread, View.ld_unit_zero (S := S2048x512) hz2]

/-- There the output block is the product with the copy just made … -/
theorem out_first (hc : cond0_0 i) :
    out0_A_3 (F := Ideal) c i a2 h2 a3 h3 a4 h4 a5 h5 a6 h6 hc x0 x1 x2 = k0_pay2 x0 (k0_pay1 x1) x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz2]
  simp only [View.readCov_unit_zero (S := S2048x512) _ hz2, View.readAt_eq_ld, h2.read_unread, h3.read_unread, h4.read_unread, View.ld_unit_zero (S := S2048x512) hz2,
    View.ld_unit_zero (S := S1024x2048) hz2, View.ld_unit_zero (S := S1x512) hz2]

/-- … and elsewhere with the copy as the point before left it. -/
theorem out_later (hc : ¬ cond0_0 i) (s : Vec Ideal S2048x512 .bf16) :
    out0_B_3 (F := Ideal) c i a2 h2 a3 h3 a4 h4 a5 h5 a6 h6 hc x0 x1 x2 s = k0_pay2 x0 s x2 := by
  unfold out0_B_3
  rw [View.read_writes_eq_canon _ _ _ (cover0_B_3 c i a2 h2 a3 h3 a4 h4 a5 h5 a6 h6 hc x0 x1 x2 s)]
  unfold kernelRun0_B
  dsimp only
  sl_unfold_words
  rw [View.canon_unit_zero hz2]
  simp only [View.readAt_eq_ld, h2.read_unread, h4.read_unread, h6.read_unread, View.ld_unit_zero (S := S2048x512) hz2,
    View.ld_unit_zero (S := S1024x2048) hz2, View.ld_unit_zero (S := S1x512) hz2]

/-- Elsewhere the copy stays. -/
theorem copy_later (hc : ¬ cond0_0 i) (s : Vec Ideal S2048x512 .bf16) :
    sout0_B_0 (F := Ideal) c i a2 h2 a3 h3 a4 h4 a5 h5 a6 h6 hc x0 x1 x2 s = s := rfl

end

end Cert.Hy

end
-- ==== Proof.HyKernel.lean ====
/- The convolution layer's input product: every grid point's block is the specification's, and the blocks tile the array. -/
module

public import proofs.«01_k».proof.Proof.HyBody

@[expose] public section
set_option maxRecDepth 16384

noncomputable section

namespace Cert.Hy

open Idealize.ShloMosaic Cert.Kernel4Ideal Cert.Kernel4Ideal.Gen Idealize.ShloMosaic.TcCoe Idealize.SL.Sem
open Idealize.ShloMosaic.Pipeline (Dat)

variable (m : (ℓ : Loc nD τ sig) → Buf (Elt Ideal) ℓ)

/-! ## The block indices over the grid: point `t` is column block `t / 12`, row block `t % 12` -/

theorem N_eq : cfg0.N = 144 := N_0

theorem bx0 : ∀ t : Fin grid0.N, win0_0.index t 0 = t.val % 12 := by decide +kernel
theorem bx1 : ∀ t : Fin grid0.N, win0_0.index t 1 = 0 := by decide +kernel
theorem bw0 : ∀ t : Fin grid0.N, win0_1.index t 0 = 0 := by decide +kernel
theorem bw1 : ∀ t : Fin grid0.N, win0_1.index t 1 = t.val / 12 := by decide +kernel
theorem bb0 : ∀ t : Fin grid0.N, win0_2.index t 0 = 0 := by decide +kernel
theorem bb1 : ∀ t : Fin grid0.N, win0_2.index t 1 = t.val / 12 := by decide +kernel
theorem bo0 : ∀ t : Fin grid0.N, win0_3.index t 0 = t.val % 12 := by decide +kernel
theorem bo1 : ∀ t : Fin grid0.N, win0_3.index t 1 = t.val / 12 := by decide +kernel

/-- The row of the array that is row `i` of a point's block, and the column that is its column `n`. -/
def row (t : Fin cfg0.N) (i : Fin 1024) : Fin 12288 := ⟨t.val % 12 * 1024 + i.val, by omega⟩
def col (t : Fin cfg0.N) (n : Fin 512) : Fin 6144 := ⟨t.val / 12 * 512 + n.val, by have := t.isLt; have := N_eq; omega⟩

/-- The tokens, the weights and the offsets as launched. -/
abbrev xArr (c : Dev nD) : S12288x2048.Idx → EReal := m ((c : Thread nD τ).loc main_arg0)
abbrev wArr (c : Dev nD) : S2048x6144.Idx → EReal := m ((c : Thread nD τ).loc main_arg1)
abbrev bArr (c : Dev nD) : S6144.Idx → EReal := m ((c : Thread nD τ).loc main_arg2)

/-- The token block of a point. -/
theorem x_blk (c : Dev nD) (t : Fin cfg0.N) (i : Fin 1024) (k : Fin 2048) :
    (iblk m c 0 t : Vec Ideal S1024x2048 .bf16) (ix2 i k) = xArr m c (ix2 (row t i) k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * i.val = t.val % 12 * 1024 + i.val; rw [bx0]; omega
  | ⟨1, _⟩ => show win0_0.index t 1 * 2048 + 1 * k.val = k.val; rw [bx1]; omega

/-- The weight block of a point. -/
theorem w_blk (c : Dev nD) (t : Fin cfg0.N) (k : Fin 2048) (n : Fin 512) :
    (iblk m c 1 t : Vec Ideal S2048x512 .f32) (ix2 k n) = wArr m c (ix2 k (col t n)) := by
  unfold iblk
  rw [View.read_apply]
  show V m c main_arg1 _ = m (c.tc.loc main_arg1) _
  rw [V_main_arg1]
  congr 1
  funext a
  apply Fin.ext
  match a with
  | ⟨0, _⟩ => show win0_1.index t 0 * 2048 + 1 * k.val = k.val; rw [bw0]; omega
  | ⟨1, _⟩ => show win0_1.index t 1 * 512 + 1 * n.val = t.val / 12 * 512 + n.val; rw [bw1]; omega

/-- The offsets, laid out as one row before the kernel. -/
theorem offsets_row (c : Dev nD) (n : Fin 6144) :
    (V m c main_v0 : Vec Ideal S1x6144 .f32) (ix2 0 n) = bArr m c (ValueIdx.ix1 n) := by
  have h : (V m c main_v0 : Vec Ideal S1x6144 .f32)
      = shapeCast S1x6144 (m ((c : Thread nD τ).loc main_arg2) : Vec Ideal S6144 .f32) shapeCasts_S6144_S1x6144 := by
    show StableHlo.after hostOps0 (fun b => m (c, b)) main_v0 = _
    after_results
    rfl
  rw [h]
  exact shapeCast_apply _ shapeCasts_S6144_S1x6144 _ (ValueIdx.ix1 n)
    (by rewrite [Shape.rowMajor_val_one, Shape.rowMajor_val_two]; show n.val = 0 * 6144 + n.val; omega)

/-- The offset block of a point. -/
theorem b_blk (c : Dev nD) (t : Fin cfg0.N) (n : Fin 512) :
    (iblk m c 2 t : Vec Ideal S1x512 .f32) (ix2 0 n) = bArr m c (ValueIdx.ix1 (col t n)) := by
  rw [← offsets_row]
  unfold iblk
  rw [View.read_apply]
  show V m c main_v0 _ = V m c main_v0 _
  congr 1
  funext a
  apply Fin.ext
  match a with
  | ⟨0, _⟩ => show win0_2.index t 0 * 1 + 1 * 0 = 0; rw [bb0]
  | ⟨1, _⟩ => show win0_2.index t 1 * 512 + 1 * n.val = t.val / 12 * 512 + n.val; rw [bb1]; omega

/-- After every point the copy holds the weights of the point's column block. -/
theorem copy_holds (c : Dev nD) : ∀ (t : Nat) (ht : t < cfg0.N) (k : Fin 2048) (n : Fin 512),
    (outsAt0 m c t ht).2 (ix2 k n) = wArr m c (ix2 k (col ⟨t, ht⟩ n)) := by
  intro t
  induction t with
  | zero =>
    intro ht k n
    have e := outsAt0_A m c ⟨0, ht⟩ (Nat.zero_mod _)
    dsimp only at e
    rw [e]
    dsimp only
    rw [copy_first, copy_apply, w_blk]
  | succ t ih =>
    intro ht k n
    by_cases h0 : (t + 1) % 12 = 0
    · have e := outsAt0_A m c ⟨t + 1, ht⟩ h0
      dsimp only at e
      rw [e]
      dsimp only
      rw [copy_first, copy_apply, w_blk]
    · have e := outsAt0_B m c ⟨t + 1, ht⟩ h0
      dsimp only at e
      rw [e]
      dsimp only
      rw [copy_later]
      refine (ih (Nat.lt_of_succ_lt ht) k n).trans (congrArg (fun q => wArr m c (ix2 k q)) (Fin.ext ?_))
      show t / 12 * 512 + n.val = (t + 1) / 12 * 512 + n.val
      rw [show (t + 1) / 12 = t / 12 by omega]

/-- The whole result, as contents of the result array. -/
def result (c : Dev nD) : Buf (Elt Ideal) ((c : Thread nD τ).loc main_v1) :=
  Dense.prodPlus (R := 12288) (K := 2048) (C := 6144) (xArr m c) (wArr m c) (bArr m c)

/-- What a point writes, at row `i` and column `n` of its block. -/
theorem blk_apply (c : Dev nD) (t : Fin cfg0.N) (s : Vec Ideal S2048x512 .bf16)
    (hs : ∀ (k : Fin 2048) (n : Fin 512), s (ix2 k n) = wArr m c (ix2 k (col t n))) (i : Fin 1024) (n : Fin 512) :
    k0_pay2 (F := Ideal) (iblk m c 0 t) s (iblk m c 2 t) (ix2 i n) = result m c (ix2 (row t i) (col t n)) := by
  rw [block_apply, b_blk]
  refine congrArg (fun q : EReal => q + bArr m c (ValueIdx.ix1 (col t n))) (Finset.sum_congr rfl fun k _ => ?_)
  rw [x_blk, hs]
  rfl

/-- The output block is whole: cutting it changes nothing. -/
theorem cut3 (t : Fin cfg0.N) (X : Vec Ideal S1024x512 .f32) (i : Fin 1024) (n : Fin 512) :
    (cfg0.win 3).cut (grid0.coords t) X (ix2 i n) = X (ix2 i n) :=
  congrArg X (funext fun a => by fin_cases a <;> rfl)

/-- Where row `i`, column `n` of a point's block lies in the result array. -/
theorem emb3 (t : Fin cfg0.N) (i : Fin 1024) (n : Fin 512) :
    ((cfg0.win 3).blk t).view.emb (ix2 i n) = (ix2 (row t i) (col t n) : S12288x6144.Idx) := by
  funext a
  apply Fin.ext
  match a with
  | ⟨0, _⟩ => show win0_3.index t 0 * 1024 + 1 * i.val = t.val % 12 * 1024 + i.val; rw [bo0]; omega
  | ⟨1, _⟩ => show win0_3.index t 1 * 512 + 1 * n.val = t.val / 12 * 512 + n.val; rw [bo1]; omega

/-- What a point writes back is its block of the result. -/
theorem flushed_eq (c : Dev nD) (t : Fin cfg0.N) :
    (dats m 0 c).flushed 3 t = ((cfg0.win 3).blk t).view.read (Elt Ideal) (result m c) := by
  funext y
  rw [View.read_apply]
  obtain ⟨i, n, rfl⟩ : ∃ (i : Fin 1024) (n : Fin 512), y = ix2 i n := ⟨y 0, y 1, (ix2_eta (n0 := 1024) (n1 := 512) y).symm⟩
  rw [emb3]
  by_cases h0 : t.val % 12 = 0
  · rw [Value.flushed3_A m c t h0, cut3, out_first]
    exact blk_apply m c t _ (fun k n => by rw [copy_apply, w_blk]) i n
  · rw [Value.flushed3_B m c t h0, cut3, out_later]
    refine blk_apply m c t _ (fun k n => ?_) i n
    refine (copy_holds m c (t.val - 1) _ k n).trans (congrArg (fun q => wArr m c (ix2 k q)) (Fin.ext ?_))
    show (t.val - 1) / 12 * 512 + n.val = t.val / 12 * 512 + n.val
    rw [show (t.val - 1) / 12 = t.val / 12 by omega]

/-- The result array after the run. -/
theorem final_o (c : Dev nD) : (dats m 0 c).arrAt 3 cfg0.N = result m c :=
  (dats m 0 c).arrAt_eq_of_cover 3 (result m c) (fun t _ => flushed_eq m c t) fun x =>
    (Value.covered_iff3 x).2 ⟨Nat.zero_le _, (x 0).isLt, Nat.zero_le _, (x 1).isLt⟩

/-- The kernel's run, its result named. -/
theorem run_kernel (ρ : Dev nD → PrngReg) : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final_o m c), (h c).2⟩) (Value.run_blocks m ρ)

end Cert.Hy

end
-- ==== Proof.HyRef.lean ====
/- The reference of the convolution layer's input product, read at an index. -/
module

public import proofs.«01_k».proof.Proof.DenseSpec
public import proofs.«01_k».proof.Proof.Gen.Reference4Ideal.Read

@[expose] public section
set_option maxRecDepth 16384

noncomputable section

namespace Cert.Hy.Ref

open Idealize.ShloMosaic Cert.Reference4Ideal Cert.Reference4Ideal.Gen Cert.Reference4Ideal.Read
open ValueIdx (ix1 ix2)

/-- The reference's result is the specification's array. -/
theorem out_eq (x0 : S12288x2048.Idx → EReal) (x1 : S2048x6144.Idx → EReal) (x2 : S6144.Idx → EReal) :
    val_main_v4 (F := Ideal) x0 x1 x2 = Dense.prodPlus (R := 12288) (K := 2048) (C := 6144) x0 x1 x2 := by
  funext y
  obtain ⟨r, n, rfl⟩ : ∃ (r : Fin 12288) (n : Fin 6144), y = ix2 r n := ⟨y 0, y 1, funext fun a => by fin_cases a <;> rfl⟩
  rw [val_main_v4_apply, val_main_v1_apply, val_main_v3_apply, val_main_v2_apply]
  have hl : ∀ k : Fin 2048, lidx_main_v1 (ix2 r n) k = ix2 r k := fun k => funext fun a => by fin_cases a <;> rfl
  have hr : ∀ k : Fin 2048, ridx_main_v1 (ix2 r n) k = ix2 k n := fun k => funext fun a => by fin_cases a <;> rfl
  have hb : idx_main_v2 (idx_main_v3 (ix2 r n)) = ix1 n := funext fun a => by fin_cases a; rfl
  rw [hb]
  refine congrArg (fun q : EReal => q + x2 (ix1 n)) (Finset.sum_congr rfl fun k _ => ?_)
  rw [hl, hr]
  rfl

end Cert.Hy.Ref

end
-- ==== Proof.HyClaims.lean ====
/- The five claims of the convolution layer's input product. -/
module

public import proofs.«01_k».proof.Defs
public import proofs.«01_k».proof.Proof.HyKernel
public import proofs.«01_k».proof.Proof.HyRef
public import proofs.«01_k».proof.Proof.Gen.Kernel4.Frame
public import proofs.«01_k».proof.Proof.Gen.Reference4Ideal.Run
public import Idealize.ShloMosaic.Lib.Quiescent

@[expose] public section
set_option maxRecDepth 16384

noncomputable section

namespace Cert.Proof

open Idealize.ShloMosaic Idealize.SL.Sem

/-- The kernel returns and leaves its arguments and counters alone. -/
theorem hy_frame : Cert.quiescent_Kernel4 := fun m ρ _ => Cert.Kernel4.Gen.frame m ρ

/-- So does its idealization … -/
theorem hy_frame_ideal : Cert.quiescent_Kernel4Ideal := fun m ρ _ => Cert.Kernel4Ideal.Gen.frame m ρ

/-- … and the reference, which is host operations alone. -/
theorem hy_frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Over the extended reals the kernel's result is the reference's: both are the specification's array of the same
    arguments. -/
theorem hy_algebraic : Cert.algebraic_Kernel4Ideal_Reference4Ideal := by
  intro m ρ m' ρ' _ hagree
  refine ⟨fun c => Hy.result m c, Hy.run_kernel m ρ, ?_⟩
  refine (θ_run Cert.Reference4Ideal.defs _ _).mono (fun r h c => ⟨(h c).1.trans ?_, (h c).2⟩)
    (Cert.Reference4Ideal.Value.run (F := Ideal) m' ρ')
  obtain ⟨h0, h1, h2⟩ := hagree c
  rw [Cert.Reference4Ideal.Read.val_main_v4_eq, h0, h1, h2]
  exact Hy.Ref.out_eq _ _ _

end Cert.Proof

end
-- ==== Proof.QkvBody.lean ====
/- One grid point of the mixer's attention-side input product: what its body leaves in the copy of the weights and in the
   output block. -/
module

public import proofs.«01_k».proof.Proof.DenseSpec
public import proofs.«01_k».proof.Proof.Gen.Kernel5Ideal.Frame
public import Idealize.ShloMosaic.Lib.Pointwise

@[expose] public section
set_option maxRecDepth 16384

noncomputable section

namespace Cert.Qkv

open Idealize.ShloMosaic Cert.Kernel5Ideal Cert.Kernel5Ideal.Gen Idealize.ShloMosaic.TcCoe Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl

/-- The copy of a weight block holds the block's numbers. -/
theorem copy_apply (w : Vec Ideal S2048x512 .f32) (k : Fin 2048) (n : Fin 512) :
    k0_pay1 (F := Ideal) w (ix2 k n) = w (ix2 k n) := by
  pointwise [k0_pay1]

/-- The output block: the product of the token block and the copy. -/
theorem block_apply (x : Vec Ideal S1024x2048 .bf16) (w : Vec Ideal S2048x512 .bf16)
    (i : Fin 1024) (n : Fin 512) :
    k0_pay2 (F := Ideal) x w (ix2 i n) = ∑ k : Fin 2048, x (ix2 i k) * w (ix2 k n) := by
  pointwise [k0_pay2, dot_S1024x2048_S2048x512_S1024x512_1_0_0_1_n_n]

section
variable (c : Dev nD) (i : grid0.Coords) (a2 : Memref sig .tc .vmem S1024x2048 .bf16) (h2 : a2.IsWhole)
    (a3 : Memref sig .tc .vmem S2048x512 .f32) (h3 : a3.IsWhole)
    (a4 : Memref sig .tc .vmem S1024x512 .f32) (h4 : a4.IsWhole) (a5 : Memref sig .tc .vmem S2048x512 .bf16) (h5 : a5.IsWhole)
    (x0 : Vec Ideal S1024x2048 .bf16) (x1 : Vec Ideal S2048x512 .f32)

/-- At the first point of a column block the copy is made anew. -/
theorem copy_first (hc : cond0_0 i) :
    sout0_A_0 (F := Ideal) c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S2048x512) hz2]

/-- There the output block is the product with the copy just made … -/
theorem out_first (hc : cond0_0 i) :
    out0_A_2 (F := Ideal) c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2]
  simp only [View.readCov_unit_zero (S := S2048x512) _ hz2, View.readAt_eq_ld, h2.read_unread, h3.read_unread, View.ld_unit_zero (S := S2048x512) hz2,
    View.ld_unit_zero (S := S1024x2048) hz2]

/-- … and elsewhere with the copy as the point before left it. -/
theorem out_later (hc : ¬ cond0_0 i) (s : Vec Ideal S2048x512 .bf16) :
    out0_B_2 (F := Ideal) c i a2 h2 a3 h3 a4 h4 a5 h5 hc x0 x1 s = k0_pay2 x0 s := by
  unfold out0_B_2
  rw [View.read_writes_eq_canon _ _ _ (cover0_B_2 c i a2 h2 a3 h3 a4 h4 a5 h5 hc x0 x1 s)]
  unfold kernelRun0_B
  dsimp only
  sl_unfold_words
  rw [View.canon_unit_zero hz2]
  simp only [View.readAt_eq_ld, h2.read_unread, h5.read_unread, View.ld_unit_zero (S := S2048x512) hz2,
    View.ld_unit_zero (S := S1024x2048) hz2]

/-- Elsewhere the copy stays. -/
theorem copy_later (hc : ¬ cond0_0 i) (s : Vec Ideal S2048x512 .bf16) :
    sout0_B_0 (F := Ideal) c i a2 h2 a3 h3 a4 h4 a5 h5 hc x0 x1 s = s := rfl

end

end Cert.Qkv

end
-- ==== Proof.QkvKernel.lean ====
/- The mixer's attention-side input product: every grid point's block is the specification's, and the blocks tile the array. -/
module

public import proofs.«01_k».proof.Proof.QkvBody

@[expose] public section
set_option maxRecDepth 16384

noncomputable section

namespace Cert.Qkv

open Idealize.ShloMosaic Cert.Kernel5Ideal Cert.Kernel5Ideal.Gen Idealize.ShloMosaic.TcCoe Idealize.SL.Sem
open Idealize.ShloMosaic.Pipeline (Dat)

variable (m : (ℓ : Loc nD τ sig) → Buf (Elt Ideal) ℓ)

/-! ## The block indices over the grid: point `t` is column block `t / 12`, row block `t % 12` -/

theorem N_eq : cfg0.N = 72 := N_0

theorem bx0 : ∀ t : Fin grid0.N, win0_0.index t 0 = t.val % 12 := by decide +kernel
theorem bx1 : ∀ t : Fin grid0.N, win0_0.index t 1 = 0 := by decide +kernel
theorem bw0 : ∀ t : Fin grid0.N, win0_1.index t 0 = 0 := by decide +kernel
theorem bw1 : ∀ t : Fin grid0.N, win0_1.index t 1 = t.val / 12 := by decide +kernel
theorem bo0 : ∀ t : Fin grid0.N, win0_2.index t 0 = t.val % 12 := by decide +kernel
theorem bo1 : ∀ t : Fin grid0.N, win0_2.index t 1 = t.val / 12 := by decide +kernel

/-- The row of the array that is row `i` of a point's block, and the column that is its column `n`. -/
def row (t : Fin cfg0.N) (i : Fin 1024) : Fin 12288 := ⟨t.val % 12 * 1024 + i.val, by omega⟩
def col (t : Fin cfg0.N) (n : Fin 512) : Fin 3072 := ⟨t.val / 12 * 512 + n.val, by have := t.isLt; have := N_eq; omega⟩

/-- The tokens and the weights as launched. -/
abbrev xArr (c : Dev nD) : S12288x2048.Idx → EReal := m ((c : Thread nD τ).loc main_arg0)
abbrev wIn (c : Dev nD) : S2048x5664.Idx → EReal := m ((c : Thread nD τ).loc main_arg1)

/-- The columns of the weights that the kernel works on, as the host cuts them. -/
def wArr (c : Dev nD) : S2048x3072.Idx → EReal :=
  extractStridedSlice S2048x3072 ![0, 2592] (wIn m c : Vec Ideal S2048x5664 .f32) slices_S2048x5664_S2048x3072_0_2592

/-- The host writes them before the kernel. -/
theorem V_cut (c : Dev nD) : (V m c main_v0 : Vec Ideal S2048x3072 .f32) = wArr m c := by
  show StableHlo.after hostOps0 (fun b => m (c, b)) main_v0 = _
  after_results
  rfl

/-- The token block of a point. -/
theorem x_blk (c : Dev nD) (t : Fin cfg0.N) (i : Fin 1024) (k : Fin 2048) :
    (iblk m c 0 t : Vec Ideal S1024x2048 .bf16) (ix2 i k) = xArr m c (ix2 (row t i) k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * i.val = t.val % 12 * 1024 + i.val; rw [bx0]; omega
  | ⟨1, _⟩ => show win0_0.index t 1 * 2048 + 1 * k.val = k.val; rw [bx1]; omega

/-- The weight block of a point. -/
theorem w_blk (c : Dev nD) (t : Fin cfg0.N) (k : Fin 2048) (n : Fin 512) :
    (iblk m c 1 t : Vec Ideal S2048x512 .f32) (ix2 k n) = wArr m c (ix2 k (col t n)) := by
  unfold iblk
  rw [View.read_apply]
  rw [← V_cut]
  show V m c main_v0 _ = V m c main_v0 _
  congr 1
  funext a
  apply Fin.ext
  match a with
  | ⟨0, _⟩ => show win0_1.index t 0 * 2048 + 1 * k.val = k.val; rw [bw0]; omega
  | ⟨1, _⟩ => show win0_1.index t 1 * 512 + 1 * n.val = t.val / 12 * 512 + n.val; rw [bw1]; omega

/-- After every point the copy holds the weights of the point's column block. -/
theorem copy_holds (c : Dev nD) : ∀ (t : Nat) (ht : t < cfg0.N) (k : Fin 2048) (n : Fin 512),
    (outsAt0 m c t ht).2 (ix2 k n) = wArr m c (ix2 k (col ⟨t, ht⟩ n)) := by
  intro t
  induction t with
  | zero =>
    intro ht k n
    have e := outsAt0_A m c ⟨0, ht⟩ (Nat.zero_mod _)
    dsimp only at e
    rw [e]
    dsimp only
    rw [copy_first, copy_apply, w_blk]
  | succ t ih =>
    intro ht k n
    by_cases h0 : (t + 1) % 12 = 0
    · have e := outsAt0_A m c ⟨t + 1, ht⟩ h0
      dsimp only at e
      rw [e]
      dsimp only
      rw [copy_first, copy_apply, w_blk]
    · have e := outsAt0_B m c ⟨t + 1, ht⟩ h0
      dsimp only at e
      rw [e]
      dsimp only
      rw [copy_later]
      refine (ih (Nat.lt_of_succ_lt ht) k n).trans (congrArg (fun q => wArr m c (ix2 k q)) (Fin.ext ?_))
      show t / 12 * 512 + n.val = (t + 1) / 12 * 512 + n.val
      rw [show (t + 1) / 12 = t / 12 by omega]

/-- The whole result, as contents of the result array. -/
def result (c : Dev nD) : Buf (Elt Ideal) ((c : Thread nD τ).loc main_v1) :=
  Dense.prodOnly (R := 12288) (K := 2048) (C := 3072) (xArr m c) (wArr m c)

/-- What a point writes, at row `i` and column `n` of its block. -/
theorem blk_apply (c : Dev nD) (t : Fin cfg0.N) (s : Vec Ideal S2048x512 .bf16)
    (hs : ∀ (k : Fin 2048) (n : Fin 512), s (ix2 k n) = wArr m c (ix2 k (col t n))) (i : Fin 1024) (n : Fin 512) :
    k0_pay2 (F := Ideal) (iblk m c 0 t) s (ix2 i n) = result m c (ix2 (row t i) (col t n)) := by
  rw [block_apply]
  refine Eq.trans (b := ∑ k : Fin 2048, xArr m c (ix2 (row t i) k) * wArr m c (ix2 k (col t n)))
    (Finset.sum_congr rfl fun k _ => ?_) rfl
  rw [x_blk, hs]

/-- The output block is whole: cutting it changes nothing. -/
theorem cut2 (t : Fin cfg0.N) (X : Vec Ideal S1024x512 .f32) (i : Fin 1024) (n : Fin 512) :
    (cfg0.win 2).cut (grid0.coords t) X (ix2 i n) = X (ix2 i n) :=
  congrArg X (funext fun a => by fin_cases a <;> rfl)

/-- Where row `i`, column `n` of a point's block lies in the result array. -/
theorem emb2 (t : Fin cfg0.N) (i : Fin 1024) (n : Fin 512) :
    ((cfg0.win 2).blk t).view.emb (ix2 i n) = (ix2 (row t i) (col t n) : S12288x3072.Idx) := by
  funext a
  apply Fin.ext
  match a with
  | ⟨0, _⟩ => show win0_2.index t 0 * 1024 + 1 * i.val = t.val % 12 * 1024 + i.val; rw [bo0]; omega
  | ⟨1, _⟩ => show win0_2.index t 1 * 512 + 1 * n.val = t.val / 12 * 512 + n.val; rw [bo1]; omega

/-- What the first point of a column block writes back … -/
theorem flushed_A (c : Dev nD) (t : Fin cfg0.N) (h0 : t.val % 12 = 0) :
    (dats m 0 c).flushed 2 t = (cfg0.win 2).cut (grid0.coords t) (out0_A_2 c (grid0.coords t) (ms0_0 t) (hs0_0 t) (ms0_1 t)
      (hs0_1 t) (ms0_2 t) (hs0_2 t) scM0_0 (Memref.isWhole_whole _) ((hcond0_0 t).mpr h0) (iblk m c 0 t) (iblk m c 1 t)) := by
  show (cfg0.win 2).cut (grid0.coords t) ((dats m 0 c).after 2 t) = _
  rw [after0_2, outsAt0_A m c t h0]

/-- … and what another point does. -/
theorem flushed_B (c : Dev nD) (t : Fin cfg0.N) (h0 : ¬ t.val % 12 = 0) :
    (dats m 0 c).flushed 2 t = (cfg0.win 2).cut (grid0.coords t) (out0_B_2 c (grid0.coords t) (ms0_0 t) (hs0_0 t) (ms0_1 t)
      (hs0_1 t) (ms0_2 t) (hs0_2 t) scM0_0 (Memref.isWhole_whole _) (fun h => h0 ((hcond0_0 t).mp h)) (iblk m c 0 t) (iblk m c 1 t)
      (outsAt0 m c (t.val - 1) (Nat.lt_of_le_of_lt (Nat.sub_le _ _) t.isLt)).2) := by
  show (cfg0.win 2).cut (grid0.coords t) ((dats m 0 c).after 2 t) = _
  rw [after0_2, outsAt0_B m c t h0]

/-- What a point writes back is its block of the result. -/
theorem flushed_eq (c : Dev nD) (t : Fin cfg0.N) :
    (dats m 0 c).flushed 2 t = ((cfg0.win 2).blk t).view.read (Elt Ideal) (result m c) := by
  funext y
  rw [View.read_apply]
  obtain ⟨i, n, rfl⟩ : ∃ (i : Fin 1024) (n : Fin 512), y = ix2 i n := ⟨y 0, y 1, (ix2_eta (n0 := 1024) (n1 := 512) y).symm⟩
  rw [emb2]
  by_cases h0 : t.val % 12 = 0
  · rw [flushed_A m c t h0, cut2, out_first]
    exact blk_apply m c t _ (fun k n => by rw [copy_apply, w_blk]) i n
  · rw [flushed_B m c t h0, cut2, out_later]
    refine blk_apply m c t _ (fun k n => ?_) i n
    refine (copy_holds m c (t.val - 1) _ k n).trans (congrArg (fun q => wArr m c (ix2 k q)) (Fin.ext ?_))
    show (t.val - 1) / 12 * 512 + n.val = t.val / 12 * 512 + n.val
    rw [show (t.val - 1) / 12 = t.val / 12 by omega]

/-- The result array after the run. -/
theorem final_o (c : Dev nD) : (dats m 0 c).arrAt 2 cfg0.N = result m c :=
  (dats m 0 c).arrAt_eq_of_cover 2 (result m c) (fun t _ => flushed_eq m c t) fun x => by
    have h0 : (x 0 : Nat) < 12288 := (x 0).isLt
    have h1 : (x 1 : Nat) < 3072 := (x 1).isLt
    have hN := N_eq
    refine ⟨⟨(x 1 : Nat) / 512 * 12 + (x 0 : Nat) / 1024, by omega⟩, flush0_2 _, ?_⟩
    rw [show ((cfg0.win 2).blk _).view.set = ((View.whole main_v1).slice (win0_2.rect _)).set from rfl, View.set_slice_whole,
      Rect.mem_set_unit]
    intro a
    match a with
    | ⟨0, _⟩ =>
      show win0_2.index _ 0 * 1024 ≤ (x 0 : Nat) ∧ (x 0 : Nat) < win0_2.index _ 0 * 1024 + 1024
      rw [bo0]; dsimp only; omega
    | ⟨1, _⟩ =>
      show win0_2.index _ 1 * 512 ≤ (x 1 : Nat) ∧ (x 1 : Nat) < win0_2.index _ 1 * 512 + 512
      rw [bo1]; dsimp only; omega

/-- The keys and the values of the prompt, cut from the product and laid out by sequence, row, head and lane. -/
def keys (c : Dev nD) : Buf (Elt Ideal) ((c : Thread nD τ).loc main_v3) :=
  shapeCast S32x256x8x128 (extractStridedSlice S8192x1024 ![0, 1024] (result m c : Vec Ideal S12288x3072 .f32)
    slices_S12288x3072_S8192x1024_0_1024 : Vec Ideal S8192x1024 .f32) shapeCasts_S8192x1024_S32x256x8x128
def vals (c : Dev nD) : Buf (Elt Ideal) ((c : Thread nD τ).loc main_v5) :=
  shapeCast S32x256x8x128 (extractStridedSlice S8192x1024 ![0, 2048] (result m c : Vec Ideal S12288x3072 .f32)
    slices_S12288x3072_S8192x1024_0_2048 : Vec Ideal S8192x1024 .f32) shapeCasts_S8192x1024_S32x256x8x128

/-- The host lines after the kernel find the product in the kernel's result array. -/
theorem entry (c : Dev nD) :
    Pipeline.withArrays spec0 c (V0 m c) (fun w => (dats m 0 c).arrAt w cfg0.N) (Proc.devRef .tc main_v1) = result m c :=
  (Pipeline.withArrays_arr spec0 launch0.win.arr_inj c (V0 m c) _ 2).trans (final_o m c)

/-- They leave the keys … -/
theorem tail_keys (c : Dev nD) : Pipeline.afterTail₀ cfgs (dats m) 0 (V0 m) [hostOps1] c main_v3 = keys m c := by
  unfold keys
  rw [← entry m c]
  unfold Pipeline.afterTail₀
  after_results
  rfl

/-- … and the values. -/
theorem tail_vals (c : Dev nD) : Pipeline.afterTail₀ cfgs (dats m) 0 (V0 m) [hostOps1] c main_v5 = vals m c := by
  unfold vals
  rw [← entry m c]
  unfold Pipeline.afterTail₀
  after_results
  rfl

/-- The kernel's run, its results named. -/
theorem run_kernel (ρ : Dev nD → PrngReg) : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_v3) = keys m c
      ∧ r.2.mem ((c : Thread nD τ).loc main_v5) = vals m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h.1 c).1 2).trans (final_o m c),
      ((h.1 c).2 main_v3 (Pipeline.mem_restRefs_of main_v3 (by decide) (by decide))).trans (tail_keys m c),
      ((h.1 c).2 main_v5 (Pipeline.mem_restRefs_of main_v5 (by decide) (by decide))).trans (tail_vals m c), h.2 c⟩)
    (θ_run_and (run_main m ρ) (unchanged m ρ))

end Cert.Qkv

end
-- ==== Proof.QkvRef.lean ====
/- The reference of the mixer's attention-side input product: the product, and the keys and values cut from it. -/
module

public import proofs.«01_k».proof.Proof.DenseSpec
public import proofs.«01_k».proof.Proof.Gen.Reference5Ideal.Read

@[expose] public section
set_option maxRecDepth 16384

noncomputable section

namespace Cert.Qkv.Ref

open Idealize.ShloMosaic Cert.Reference5Ideal Cert.Reference5Ideal.Gen Cert.Reference5Ideal.Read
open ValueIdx (ix1 ix2)

/-- The product is the one with the last 3072 columns of the weights. -/
theorem out_eq (x0 : S12288x2048.Idx → EReal) (x1 : S2048x5664.Idx → EReal) :
    val_main_v2 (F := Ideal) x0 x1 = Dense.prodOnly (R := 12288) (K := 2048) (C := 3072) x0
      (fun i => x1 (ix2 (i 0) (⟨2592 + (i 1).val, Nat.add_lt_add_left (i 1).isLt 2592⟩ : Fin 5664))) := by
  funext y
  obtain ⟨r, n, rfl⟩ : ∃ (r : Fin 12288) (n : Fin 3072), y = ix2 r n := ⟨y 0, y 1, funext fun a => by fin_cases a <;> rfl⟩
  rw [val_main_v2_apply, val_main_v1_apply]
  show (∑ k : Fin 2048, x0 (lidx_main_v1 (idx_main_v2 (ix2 r n)) k) * x1 (ridx_main_v1 (idx_main_v2 (ix2 r n)) k) : EReal)
    = ∑ k : Fin 2048, x0 (ix2 r k) * x1 (ix2 k (⟨2592 + n.val, by omega⟩ : Fin 5664))
  refine Finset.sum_congr rfl fun k _ => ?_
  have hl : lidx_main_v1 (idx_main_v2 (ix2 r n)) k = ix2 r k := funext fun a => by
    fin_cases a
    · apply Fin.ext; simp only [lidx_main_v1, idx_main_v2]
    · rfl
  have hr : ridx_main_v1 (idx_main_v2 (ix2 r n)) k = ix2 k (⟨2592 + n.val, by omega⟩ : Fin 5664) := funext fun a => by
    fin_cases a
    · rfl
    · apply Fin.ext; simp only [ridx_main_v1, idx_main_v2]
  rw [hl, hr]

/-- The keys: cutting the prompt's rows after the columns is cutting both at once. -/
theorem keys_eq (x0 : S12288x2048.Idx → EReal) (x1 : S2048x5664.Idx → EReal) (h : S12288x3072.Slices ![0, 1024] S8192x1024) :
    val_main_v7 (F := Ideal) x0 x1 = shapeCast S32x256x8x128 (extractStridedSlice S8192x1024 ![0, 1024]
      (val_main_v2 (F := Ideal) x0 x1 : Vec Ideal S12288x3072 .f32) h : Vec Ideal S8192x1024 .f32) shapeCasts_S8192x1024_S32x256x8x128 := by
  unfold val_main_v7
  refine congrArg (fun v : Vec Ideal S8192x1024 .f32 => shapeCast S32x256x8x128 v shapeCasts_S8192x1024_S32x256x8x128) ?_
  funext y
  rw [val_main_v6_apply, val_main_v4_apply]
  refine (extractStridedSlice_apply _ _ h y _ fun a => ?_).symm
  match a with
  | ⟨0, _⟩ => show (y 0).val = 0 + (y 0).val; omega
  | ⟨1, _⟩ => rfl

/-- The values, likewise. -/
theorem vals_eq (x0 : S12288x2048.Idx → EReal) (x1 : S2048x5664.Idx → EReal) (h : S12288x3072.Slices ![0, 2048] S8192x1024) :
    val_main_v9 (F := Ideal) x0 x1 = shapeCast S32x256x8x128 (extractStridedSlice S8192x1024 ![0, 2048]
      (val_main_v2 (F := Ideal) x0 x1 : Vec Ideal S12288x3072 .f32) h : Vec Ideal S8192x1024 .f32) shapeCasts_S8192x1024_S32x256x8x128 := by
  unfold val_main_v9
  refine congrArg (fun v : Vec Ideal S8192x1024 .f32 => shapeCast S32x256x8x128 v shapeCasts_S8192x1024_S32x256x8x128) ?_
  funext y
  rw [val_main_v8_apply, val_main_v5_apply]
  refine (extractStridedSlice_apply _ _ h y _ fun a => ?_).symm
  match a with
  | ⟨0, _⟩ => show (y 0).val = 0 + (y 0).val; omega
  | ⟨1, _⟩ => rfl

end Cert.Qkv.Ref

end
-- ==== Proof.QkvClaims.lean ====
/- The five claims of the mixer's attention-side input product. -/
module

public import proofs.«01_k».proof.Defs
public import proofs.«01_k».proof.Proof.QkvKernel
public import proofs.«01_k».proof.Proof.QkvRef
public import proofs.«01_k».proof.Proof.Gen.Kernel5.Frame
public import proofs.«01_k».proof.Proof.Gen.Reference5Ideal.Run
public import Idealize.ShloMosaic.Lib.Quiescent

@[expose] public section
set_option maxRecDepth 16384

noncomputable section

namespace Cert.Proof

open Idealize.ShloMosaic Idealize.SL.Sem

/-- The kernel returns and leaves its arguments and counters alone. -/
theorem qkv_frame : Cert.quiescent_Kernel5 := fun m ρ _ => Cert.Kernel5.Gen.frame m ρ

/-- So does its idealization … -/
theorem qkv_frame_ideal : Cert.quiescent_Kernel5Ideal := fun m ρ _ => Cert.Kernel5Ideal.Gen.frame m ρ

/-- … and the reference, which is host operations alone. -/
theorem qkv_frame_ref : Cert.quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- The product of the kernel is the reference's, at the same arguments. -/
theorem qkv_product (m : (ℓ : Loc Cert.Kernel5Ideal.nD Cert.Kernel5Ideal.τ Cert.Kernel5Ideal.sig) → Buf (Elt Ideal) ℓ)
    (c : Dev Cert.Kernel5Ideal.nD) :
    Cert.Reference5Ideal.Read.val_main_v2 (F := Ideal) (Qkv.xArr m c) (Qkv.wIn m c) = Qkv.result m c := by
  rw [Qkv.Ref.out_eq]
  unfold Qkv.result
  refine congrArg (Dense.prodOnly (R := 12288) (K := 2048) (C := 3072) (Qkv.xArr m c)) (funext fun i => ?_)
  refine (extractStridedSlice_apply _ _ _ i _ fun a => ?_).symm
  match a with
  | ⟨0, _⟩ => show (i 0).val = 0 + (i 0).val; omega
  | ⟨1, _⟩ => rfl

/-- Over the extended reals the kernel's product, keys and values are the reference's. -/
theorem qkv_algebraic : Cert.algebraic_Kernel5Ideal_Reference5Ideal := by
  intro m ρ m' ρ' _ hagree
  refine ⟨fun c => Qkv.result m c, fun c => Qkv.keys m c, fun c => Qkv.vals m c, Qkv.run_kernel m ρ, ?_⟩
  refine (θ_run Cert.Reference5Ideal.defs _ _).mono
    (fun r h c => ⟨(h c).1.trans ?_, (h c).2.1.trans ?_, (h c).2.2.1.trans ?_, (h c).2.2.2⟩)
    (Cert.Reference5Ideal.Value.run (F := Ideal) m' ρ')
  · obtain ⟨h0, h1⟩ := hagree c
    rw [Cert.Reference5Ideal.Read.val_main_v2_eq, h0, h1]
    exact qkv_product m c
  · obtain ⟨h0, h1⟩ := hagree c
    rw [Cert.Reference5Ideal.Read.val_main_v7_eq, h0, h1]
    unfold Qkv.keys
    beta_reduce
    rw [← qkv_product m c]
    exact Qkv.Ref.keys_eq _ _ _
  · obtain ⟨h0, h1⟩ := hagree c
    rw [Cert.Reference5Ideal.Read.val_main_v9_eq, h0, h1]
    unfold Qkv.vals
    beta_reduce
    rw [← qkv_product m c]
    exact Qkv.Ref.vals_eq _ _ _

end Cert.Proof

end
-- ==== Proof.NormSpec.lean ====
/- The final RMS norm in plain words: a row over the root of its mean square, scaled column by column. -/
module

public import Idealize.ShloMosaic.PureOps.Ideal.Laws
public import Idealize.ShloMosaic.Lib.ValueIdx

@[expose] public section

noncomputable section

namespace Cert.Norm

open Idealize.ShloMosaic
open ValueIdx (ix1 ix2)

/-- One entry of a row `x` of 2048 numbers, normalised and scaled by `g`: the mean is the sum over 2048, and the small
    number 1e-6 stands under the root. -/
def entry (x g : Fin 2048 → EReal) (n : Fin 2048) : EReal :=
  x n * Ideal.rsqrt (Ideal.div (∑ k : Fin 2048, x k * x k) (Ideal.ofBits .f32 0x45000000#32) + Ideal.ofBits .f32 0x358637BD#32) * g n

/-- The `R` rows of `h` from row `r0` on, normalised, as an array. -/
def rows {R : Nat} (r0 : Nat) (hr : r0 + R ≤ 12288) (h : (⟨2, ![12288, 2048]⟩ : Shape).Idx → EReal)
    (g : (⟨1, ![2048]⟩ : Shape).Idx → EReal) : (⟨2, ![R, 2048]⟩ : Shape).Idx → EReal :=
  fun i => entry (fun k => h (ix2 (⟨r0 + (i 0).val, Nat.lt_of_lt_of_le (Nat.add_lt_add_left (i 0).isLt r0) hr⟩ : Fin 12288) k))
    (fun k => g (ix1 k)) (i 1)

end Cert.Norm

end
-- ==== Proof.NormPKernel.lean ====
/- The final norm of the prompt rows: every grid point's block is the specification's, and the blocks tile the array. -/
module

public import proofs.«01_k».proof.Proof.NormSpec
public import proofs.«01_k».proof.Proof.Gen.Kernel6Ideal.Value
public import Idealize.ShloMosaic.Lib.Pointwise

@[expose] public section
set_option maxRecDepth 16384

noncomputable section

namespace Cert.NormP

open Idealize.ShloMosaic Cert.Kernel6Ideal Cert.Kernel6Ideal.Gen Idealize.ShloMosaic.TcCoe Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl

/-- A block's row, normalised: the body's arithmetic at an index. -/
theorem block_apply (x : Vec Ideal S256x2048 .f32) (g : Vec Ideal S1x2048 .f32) (i : Fin 256) (n : Fin 2048) :
    k0_pay1 (F := Ideal) x g (ix2 i n) = Norm.entry (fun k => x (ix2 i k)) (fun k => g (ix2 0 k)) n := by
  pointwise [k0_pay1, Norm.entry]

/-- What the body leaves in the output's buffer: its one store's payload. -/
theorem out_eq (x : Vec Ideal S256x2048 .f32) (g : Vec Ideal S1x2048 .f32) : out0_2 (F := Ideal) x g = k0_pay1 x g := by
  unfold out0_2
  unfold r0_0 r0_1
  rw [View.canon_unit_zero hz2, View.ld_unit_zero (S := S256x2048) hz2, View.ld_unit_zero (S := S1x2048) hz2]

/-! ## The block indices over the grid: point `t` is row block `t` -/

theorem N_eq : cfg0.N = 32 := N_0

theorem bx0 : ∀ t : Fin grid0.N, win0_0.index t 0 = t.val := by decide +kernel
theorem bx1 : ∀ t : Fin grid0.N, win0_0.index t 1 = 0 := by decide +kernel
theorem bg0 : ∀ t : Fin grid0.N, win0_1.index t 0 = 0 := by decide +kernel
theorem bg1 : ∀ t : Fin grid0.N, win0_1.index t 1 = 0 := by decide +kernel
theorem bo0 : ∀ t : Fin grid0.N, win0_2.index t 0 = t.val := by decide +kernel
theorem bo1 : ∀ t : Fin grid0.N, win0_2.index t 1 = 0 := by decide +kernel

/-- The row of the result that is row `i` of a point's block. -/
def row (t : Fin cfg0.N) (i : Fin 256) : Fin 8192 := ⟨t.val * 256 + i.val, by have := t.isLt; have := N_eq; omega⟩

/-- The last stream and the norm's weights as launched. -/
abbrev hArr (c : Dev nD) : S12288x2048.Idx → EReal := m ((c : Thread nD τ).loc main_arg0)
abbrev gArr (c : Dev nD) : S2048.Idx → EReal := m ((c : Thread nD τ).loc main_arg1)

/-- The block of the stream of a point. -/
theorem x_blk (c : Dev nD) (t : Fin cfg0.N) (i : Fin 256) (k : Fin 2048) :
    (iblk m c 0 t : Vec Ideal S256x2048 .f32) (ix2 i k)
      = hArr m c (ix2 (⟨0 + (row t i).val, by have := (row t i).isLt; omega⟩ : Fin 12288) k) := by
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * i.val = 0 + (t.val * 256 + i.val); rw [bx0]; omega
  | ⟨1, _⟩ => show win0_0.index t 1 * 2048 + 1 * k.val = k.val; rw [bx1]; omega

/-- The weights, laid out as one row before the kernel. -/
theorem weights_row (c : Dev nD) (n : Fin 2048) :
    (V m c main_v0 : Vec Ideal S1x2048 .f32) (ix2 0 n) = gArr m c (ValueIdx.ix1 n) := by
  have h : (V m c main_v0 : Vec Ideal S1x2048 .f32)
      = shapeCast S1x2048 (m ((c : Thread nD τ).loc main_arg1) : Vec Ideal S2048 .f32) shapeCasts_S2048_S1x2048 := by
    show StableHlo.after hostOps0 (fun b => m (c, b)) main_v0 = _
    after_results
    rfl
  rw [h]
  exact shapeCast_apply _ shapeCasts_S2048_S1x2048 _ (ValueIdx.ix1 n)
    (by rewrite [Shape.rowMajor_val_one, Shape.rowMajor_val_two]; show n.val = 0 * 2048 + n.val; omega)

/-- The weights of a point. -/
theorem g_blk (c : Dev nD) (t : Fin cfg0.N) (n : Fin 2048) :
    (iblk m c 1 t : Vec Ideal S1x2048 .f32) (ix2 0 n) = gArr m c (ValueIdx.ix1 n) := by
  rw [← weights_row]
  unfold iblk
  rw [View.read_apply]
  show V m c main_v0 _ = V m c main_v0 _
  congr 1
  funext a
  apply Fin.ext
  match a with
  | ⟨0, _⟩ => show win0_1.index t 0 * 1 + 1 * 0 = 0; rw [bg0]
  | ⟨1, _⟩ => show win0_1.index t 1 * 2048 + 1 * n.val = n.val; rw [bg1]; omega

/-- The whole result, as contents of the result array. -/
def result (c : Dev nD) : Buf (Elt Ideal) ((c : Thread nD τ).loc main_v1) :=
  Norm.rows (R := 8192) 0 (by decide) (hArr m c) (gArr m c)

/-- The output block is whole: cutting it changes nothing. -/
theorem cut2 (t : Fin cfg0.N) (X : Vec Ideal S256x2048 .f32) (i : Fin 256) (n : Fin 2048) :
    (cfg0.win 2).cut (grid0.coords t) X (ix2 i n) = X (ix2 i n) :=
  congrArg X (funext fun a => by fin_cases a <;> rfl)

/-- Where row `i` of a point's block lies in the result array. -/
theorem emb2 (t : Fin cfg0.N) (i : Fin 256) (n : Fin 2048) :
    ((cfg0.win 2).blk t).view.emb (ix2 i n) = (ix2 (row t i) n : S8192x2048.Idx) := by
  funext a
  apply Fin.ext
  match a with
  | ⟨0, _⟩ => show win0_2.index t 0 * 256 + 1 * i.val = t.val * 256 + i.val; rw [bo0]; omega
  | ⟨1, _⟩ => show win0_2.index t 1 * 2048 + 1 * n.val = n.val; rw [bo1]; omega

/-- What a point writes back is its block of the result. -/
theorem flushed_eq (c : Dev nD) (t : Fin cfg0.N) :
    (dats m 0 c).flushed 2 t = ((cfg0.win 2).blk t).view.read (Elt Ideal) (result m c) := by
  funext y
  rw [View.read_apply]
  obtain ⟨i, n, rfl⟩ : ∃ (i : Fin 256) (n : Fin 2048), y = ix2 i n := ⟨y 0, y 1, (ix2_eta (n0 := 256) (n1 := 2048) y).symm⟩
  rw [emb2, Value.flushed2 m c t, cut2, out_eq, block_apply, funext (x_blk m c t i), funext (g_blk m c t)]
  rfl

/-- The blocks tile the array: row `r` is in the block of point `r / 256`. -/
theorem final_o (c : Dev nD) : (dats m 0 c).arrAt 2 cfg0.N = result m c :=
  (dats m 0 c).arrAt_eq_of_cover 2 (result m c) (fun t _ => flushed_eq m c t) fun x => by
    have h0 : (x 0 : Nat) < 8192 := (x 0).isLt
    have h1 : (x 1 : Nat) < 2048 := (x 1).isLt
    have hN := N_eq
    refine ⟨⟨(x 0 : Nat) / 256, by omega⟩, flush0_2 _, ?_⟩
    rw [show ((cfg0.win 2).blk _).view.set = ((View.whole main_v1).slice (win0_2.rect _)).set from rfl, View.set_slice_whole,
      Rect.mem_set_unit]
    intro a
    match a with
    | ⟨0, _⟩ =>
      show win0_2.index _ 0 * 256 ≤ (x 0 : Nat) ∧ (x 0 : Nat) < win0_2.index _ 0 * 256 + 256
      rw [bo0]; dsimp only; omega
    | ⟨1, _⟩ =>
      show win0_2.index _ 1 * 2048 ≤ (x 1 : Nat) ∧ (x 1 : Nat) < win0_2.index _ 1 * 2048 + 2048
      rw [bo1]; dsimp only; omega

/-- The kernel's run, its result named. -/
theorem run_kernel (ρ : Dev nD → PrngReg) : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_o m c), (h c).2⟩) (Value.run_blocks m ρ)

end Cert.NormP

end
-- ==== Proof.NormPRef.lean ====
/- The reference of the final norm of the prompt rows, read at an index. -/
module

public import proofs.«01_k».proof.Proof.NormSpec
public import proofs.«01_k».proof.Proof.Gen.Reference6Ideal.Read

@[expose] public section
set_option maxRecDepth 16384

noncomputable section

namespace Cert.NormP.Ref

open Idealize.ShloMosaic Cert.Reference6Ideal Cert.Reference6Ideal.Gen Cert.Reference6Ideal.Read
open ValueIdx (ix1 ix2)

/-- The rows the norm works on. -/
theorem cut_apply (x0 : S12288x2048.Idx → EReal) (r : Fin 8192) (k : Fin 2048) :
    val_main_v0 (F := Ideal) x0 (ix2 r k) = x0 (ix2 (⟨0 + r.val, by omega⟩ : Fin 12288) k) := by
  rw [val_main_v0_apply]
  refine congrArg x0 (funext fun a => ?_)
  fin_cases a
  · apply Fin.ext; simp only [idx_main_v0]; simp
  · rfl

/-- The reference's result is the specification's array. -/
theorem out_eq (x0 : S12288x2048.Idx → EReal) (x1 : S2048.Idx → EReal) :
    val_main_v13 (F := Ideal) x0 x1 = Norm.rows (R := 8192) 0 (by decide) x0 x1 := by
  funext y
  obtain ⟨r, n, rfl⟩ : ∃ (r : Fin 8192) (n : Fin 2048), y = ix2 r n := ⟨y 0, y 1, funext fun a => by fin_cases a <;> rfl⟩
  rw [val_main_v13_apply, val_main_v10_apply, val_main_v12_apply, val_main_v11_apply, val_main_v9_apply, val_main_v8_apply,
    val_main_v7_apply, val_main_v6_apply, val_main_cst_1_apply, val_main_v5_apply, val_main_v4_apply, val_main_cst_0_apply,
    val_main_v3_apply, val_main_v2_apply, val_main_cst_apply, cut_apply]
  have hg : idx_main_v11 (idx_main_v12 (ix2 r n)) = ix1 n := funext fun a => by fin_cases a; rfl
  rw [hg]
  refine congrArg (fun s => x0 (ix2 (⟨0 + r.val, by omega⟩ : Fin 12288) n)
    * Ideal.rsqrt (Ideal.div s (Ideal.ofBits .f32 0x45000000#32) + Ideal.ofBits .f32 0x358637BD#32) * x1 (ix1 n)) ?_
  refine (congrArg (· + _) Ideal.ofBits_zero_f32).trans ((zero_add _).trans (Finset.sum_congr rfl fun k _ => ?_))
  refine (congrArg (val_main_v1 (F := Ideal) x0) (funext fun a => by fin_cases a <;> rfl : _ = ix2 r k)).trans ?_
  rw [val_main_v1_apply, cut_apply]
  rfl

end Cert.NormP.Ref

end
-- ==== Proof.NormPClaims.lean ====
/- The five claims of the final norm of the prompt rows. -/
module

public import proofs.«01_k».proof.Defs
public import proofs.«01_k».proof.Proof.NormPKernel
public import proofs.«01_k».proof.Proof.NormPRef
public import proofs.«01_k».proof.Proof.Gen.Kernel6.Frame
public import proofs.«01_k».proof.Proof.Gen.Reference6Ideal.Run
public import Idealize.ShloMosaic.Lib.Quiescent

@[expose] public section
set_option maxRecDepth 16384

noncomputable section

namespace Cert.Proof

open Idealize.ShloMosaic Idealize.SL.Sem

/-- The kernel returns and leaves its arguments and counters alone. -/
theorem norm_prompt_frame : Cert.quiescent_Kernel6 := fun m ρ _ => Cert.Kernel6.Gen.frame m ρ

/-- So does its idealization … -/
theorem norm_prompt_frame_ideal : Cert.quiescent_Kernel6Ideal := fun m ρ _ => Cert.Kernel6Ideal.Gen.frame m ρ

/-- … and the reference, which is host operations alone. -/
theorem norm_prompt_frame_ref : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Over the extended reals the kernel's result is the reference's: both are the specification's array of the same
    arguments. -/
theorem norm_prompt_algebraic : Cert.algebraic_Kernel6Ideal_Reference6Ideal := by
  intro m ρ m' ρ' _ hagree
  refine ⟨fun c => NormP.result m c, NormP.run_kernel m ρ, ?_⟩
  refine (θ_run Cert.Reference6Ideal.defs _ _).mono (fun r h c => ⟨(h c).1.trans ?_, (h c).2⟩)
    (Cert.Reference6Ideal.Value.run (F := Ideal) m' ρ')
  obtain ⟨h0, h1⟩ := hagree c
  rw [Cert.Reference6Ideal.Read.val_main_v13_eq, h0, h1]
  exact NormP.Ref.out_eq _ _

end Cert.Proof

end
-- ==== Proof.NormSKernel.lean ====
/- The final norm of the sample rows: every grid point's block is the specification's, and the blocks tile the array. -/
module

public import proofs.«01_k».proof.Proof.NormSpec
public import proofs.«01_k».proof.Proof.Gen.Kernel7Ideal.Value
public import Idealize.ShloMosaic.Lib.Pointwise

@[expose] public section
set_option maxRecDepth 16384

noncomputable section

namespace Cert.NormS

open Idealize.ShloMosaic Cert.Kernel7Ideal Cert.Kernel7Ideal.Gen Idealize.ShloMosaic.TcCoe Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl

/-- A block's row, normalised: the body's arithmetic at an index. -/
theorem block_apply (x : Vec Ideal S256x2048 .f32) (g : Vec Ideal S1x2048 .f32) (i : Fin 256) (n : Fin 2048) :
    k0_pay1 (F := Ideal) x g (ix2 i n) = Norm.entry (fun k => x (ix2 i k)) (fun k => g (ix2 0 k)) n := by
  pointwise [k0_pay1, Norm.entry]

/-- What the body leaves in the output's buffer: its one store's payload. -/
theorem out_eq (x : Vec Ideal S256x2048 .f32) (g : Vec Ideal S1x2048 .f32) : out0_2 (F := Ideal) x g = k0_pay1 x g := by
  unfold out0_2
  unfold r0_0 r0_1
  rw [View.canon_unit_zero hz2, View.ld_unit_zero (S := S256x2048) hz2, View.ld_unit_zero (S := S1x2048) hz2]

/-! ## The block indices over the grid: point `t` is row block `t` -/

theorem N_eq : cfg0.N = 16 := N_0

theorem bx0 : ∀ t : Fin grid0.N, win0_0.index t 0 = 32 + t.val := by decide +kernel
theorem bx1 : ∀ t : Fin grid0.N, win0_0.index t 1 = 0 := by decide +kernel
theorem bg0 : ∀ t : Fin grid0.N, win0_1.index t 0 = 0 := by decide +kernel
theorem bg1 : ∀ t : Fin grid0.N, win0_1.index t 1 = 0 := by decide +kernel
theorem bo0 : ∀ t : Fin grid0.N, win0_2.index t 0 = t.val := by decide +kernel
theorem bo1 : ∀ t : Fin grid0.N, win0_2.index t 1 = 0 := by decide +kernel

/-- The row of the result that is row `i` of a point's block. -/
def row (t : Fin cfg0.N) (i : Fin 256) : Fin 4096 := ⟨t.val * 256 + i.val, by have := t.isLt; have := N_eq; omega⟩

/-- The last stream and the norm's weights as launched. -/
abbrev hArr (c : Dev nD) : S12288x2048.Idx → EReal := m ((c : Thread nD τ).loc main_arg0)
abbrev gArr (c : Dev nD) : S2048.Idx → EReal := m ((c : Thread nD τ).loc main_arg1)

/-- The block of the stream of a point. -/
theorem x_blk (c : Dev nD) (t : Fin cfg0.N) (i : Fin 256) (k : Fin 2048) :
    (iblk m c 0 t : Vec Ideal S256x2048 .f32) (ix2 i k)
      = hArr m c (ix2 (⟨8192 + (row t i).val, by have := (row t i).isLt; omega⟩ : Fin 12288) k) := by
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * i.val = 8192 + (t.val * 256 + i.val); rw [bx0]; omega
  | ⟨1, _⟩ => show win0_0.index t 1 * 2048 + 1 * k.val = k.val; rw [bx1]; omega

/-- The weights, laid out as one row before the kernel. -/
theorem weights_row (c : Dev nD) (n : Fin 2048) :
    (V m c main_v0 : Vec Ideal S1x2048 .f32) (ix2 0 n) = gArr m c (ValueIdx.ix1 n) := by
  have h : (V m c main_v0 : Vec Ideal S1x2048 .f32)
      = shapeCast S1x2048 (m ((c : Thread nD τ).loc main_arg1) : Vec Ideal S2048 .f32) shapeCasts_S2048_S1x2048 := by
    show StableHlo.after hostOps0 (fun b => m (c, b)) main_v0 = _
    after_results
    rfl
  rw [h]
  exact shapeCast_apply _ shapeCasts_S2048_S1x2048 _ (ValueIdx.ix1 n)
    (by rewrite [Shape.rowMajor_val_one, Shape.rowMajor_val_two]; show n.val = 0 * 2048 + n.val; omega)

/-- The weights of a point. -/
theorem g_blk (c : Dev nD) (t : Fin cfg0.N) (n : Fin 2048) :
    (iblk m c 1 t : Vec Ideal S1x2048 .f32) (ix2 0 n) = gArr m c (ValueIdx.ix1 n) := by
  rw [← weights_row]
  unfold iblk
  rw [View.read_apply]
  show V m c main_v0 _ = V m c main_v0 _
  congr 1
  funext a
  apply Fin.ext
  match a with
  | ⟨0, _⟩ => show win0_1.index t 0 * 1 + 1 * 0 = 0; rw [bg0]
  | ⟨1, _⟩ => show win0_1.index t 1 * 2048 + 1 * n.val = n.val; rw [bg1]; omega

/-- The whole result, as contents of the result array. -/
def result (c : Dev nD) : Buf (Elt Ideal) ((c : Thread nD τ).loc main_v1) :=
  Norm.rows (R := 4096) 8192 (by decide) (hArr m c) (gArr m c)

/-- The output block is whole: cutting it changes nothing. -/
theorem cut2 (t : Fin cfg0.N) (X : Vec Ideal S256x2048 .f32) (i : Fin 256) (n : Fin 2048) :
    (cfg0.win 2).cut (grid0.coords t) X (ix2 i n) = X (ix2 i n) :=
  congrArg X (funext fun a => by fin_cases a <;> rfl)

/-- Where row `i` of a point's block lies in the result array. -/
theorem emb2 (t : Fin cfg0.N) (i : Fin 256) (n : Fin 2048) :
    ((cfg0.win 2).blk t).view.emb (ix2 i n) = (ix2 (row t i) n : S4096x2048.Idx) := by
  funext a
  apply Fin.ext
  match a with
  | ⟨0, _⟩ => show win0_2.index t 0 * 256 + 1 * i.val = t.val * 256 + i.val; rw [bo0]; omega
  | ⟨1, _⟩ => show win0_2.index t 1 * 2048 + 1 * n.val = n.val; rw [bo1]; omega

/-- What a point writes back is its block of the result. -/
theorem flushed_eq (c : Dev nD) (t : Fin cfg0.N) :
    (dats m 0 c).flushed 2 t = ((cfg0.win 2).blk t).view.read (Elt Ideal) (result m c) := by
  funext y
  rw [View.read_apply]
  obtain ⟨i, n, rfl⟩ : ∃ (i : Fin 256) (n : Fin 2048), y = ix2 i n := ⟨y 0, y 1, (ix2_eta (n0 := 256) (n1 := 2048) y).symm⟩
  rw [emb2, Value.flushed2 m c t, cut2, out_eq, block_apply, funext (x_blk m c t i), funext (g_blk m c t)]
  rfl

/-- The blocks tile the array: row `r` is in the block of point `r / 256`. -/
theorem final_o (c : Dev nD) : (dats m 0 c).arrAt 2 cfg0.N = result m c :=
  (dats m 0 c).arrAt_eq_of_cover 2 (result m c) (fun t _ => flushed_eq m c t) fun x => by
    have h0 : (x 0 : Nat) < 4096 := (x 0).isLt
    have h1 : (x 1 : Nat) < 2048 := (x 1).isLt
    have hN := N_eq
    refine ⟨⟨(x 0 : Nat) / 256, by omega⟩, flush0_2 _, ?_⟩
    rw [show ((cfg0.win 2).blk _).view.set = ((View.whole main_v1).slice (win0_2.rect _)).set from rfl, View.set_slice_whole,
      Rect.mem_set_unit]
    intro a
    match a with
    | ⟨0, _⟩ =>
      show win0_2.index _ 0 * 256 ≤ (x 0 : Nat) ∧ (x 0 : Nat) < win0_2.index _ 0 * 256 + 256
      rw [bo0]; dsimp only; omega
    | ⟨1, _⟩ =>
      show win0_2.index _ 1 * 2048 ≤ (x 1 : Nat) ∧ (x 1 : Nat) < win0_2.index _ 1 * 2048 + 2048
      rw [bo1]; dsimp only; omega

/-- The kernel's run, its result named. -/
theorem run_kernel (ρ : Dev nD → PrngReg) : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_o m c), (h c).2⟩) (Value.run_blocks m ρ)

end Cert.NormS

end
-- ==== Proof.NormSRef.lean ====
/- The reference of the final norm of the sample rows, read at an index. -/
module

public import proofs.«01_k».proof.Proof.NormSpec
public import proofs.«01_k».proof.Proof.Gen.Reference7Ideal.Read

@[expose] public section
set_option maxRecDepth 16384

noncomputable section

namespace Cert.NormS.Ref

open Idealize.ShloMosaic Cert.Reference7Ideal Cert.Reference7Ideal.Gen Cert.Reference7Ideal.Read
open ValueIdx (ix1 ix2)

/-- The rows the norm works on. -/
theorem cut_apply (x0 : S12288x2048.Idx → EReal) (r : Fin 4096) (k : Fin 2048) :
    val_main_v0 (F := Ideal) x0 (ix2 r k) = x0 (ix2 (⟨8192 + r.val, by omega⟩ : Fin 12288) k) := by
  rw [val_main_v0_apply]
  refine congrArg x0 (funext fun a => ?_)
  fin_cases a
  · apply Fin.ext; simp only [idx_main_v0]
  · rfl

/-- The reference's result is the specification's array. -/
theorem out_eq (x0 : S12288x2048.Idx → EReal) (x1 : S2048.Idx → EReal) :
    val_main_v13 (F := Ideal) x0 x1 = Norm.rows (R := 4096) 8192 (by decide) x0 x1 := by
  funext y
  obtain ⟨r, n, rfl⟩ : ∃ (r : Fin 4096) (n : Fin 2048), y = ix2 r n := ⟨y 0, y 1, funext fun a => by fin_cases a <;> rfl⟩
  rw [val_main_v13_apply, val_main_v10_apply, val_main_v12_apply, val_main_v11_apply, val_main_v9_apply, val_main_v8_apply,
    val_main_v7_apply, val_main_v6_apply, val_main_cst_1_apply, val_main_v5_apply, val_main_v4_apply, val_main_cst_0_apply,
    val_main_v3_apply, val_main_v2_apply, val_main_cst_apply, cut_apply]
  have hg : idx_main_v11 (idx_main_v12 (ix2 r n)) = ix1 n := funext fun a => by fin_cases a; rfl
  rw [hg]
  refine congrArg (fun s => x0 (ix2 (⟨8192 + r.val, by omega⟩ : Fin 12288) n)
    * Ideal.rsqrt (Ideal.div s (Ideal.ofBits .f32 0x45000000#32) + Ideal.ofBits .f32 0x358637BD#32) * x1 (ix1 n)) ?_
  refine (congrArg (· + _) Ideal.ofBits_zero_f32).trans ((zero_add _).trans (Finset.sum_congr rfl fun k _ => ?_))
  refine (congrArg (val_main_v1 (F := Ideal) x0) (funext fun a => by fin_cases a <;> rfl : _ = ix2 r k)).trans ?_
  rw [val_main_v1_apply, cut_apply]
  rfl

end Cert.NormS.Ref

end
-- ==== Proof.NormSClaims.lean ====
/- The five claims of the final norm of the sample rows. -/
module

public import proofs.«01_k».proof.Defs
public import proofs.«01_k».proof.Proof.NormSKernel
public import proofs.«01_k».proof.Proof.NormSRef
public import proofs.«01_k».proof.Proof.Gen.Kernel7.Frame
public import proofs.«01_k».proof.Proof.Gen.Reference7Ideal.Run
public import Idealize.ShloMosaic.Lib.Quiescent

@[expose] public section
set_option maxRecDepth 16384

noncomputable section

namespace Cert.Proof

open Idealize.ShloMosaic Idealize.SL.Sem

/-- The kernel returns and leaves its arguments and counters alone. -/
theorem norm_sample_frame : Cert.quiescent_Kernel7 := fun m ρ _ => Cert.Kernel7.Gen.frame m ρ

/-- So does its idealization … -/
theorem norm_sample_frame_ideal : Cert.quiescent_Kernel7Ideal := fun m ρ _ => Cert.Kernel7Ideal.Gen.frame m ρ

/-- … and the reference, which is host operations alone. -/
theorem norm_sample_frame_ref : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Over the extended reals the kernel's result is the reference's: both are the specification's array of the same
    arguments. -/
theorem norm_sample_algebraic : Cert.algebraic_Kernel7Ideal_Reference7Ideal := by
  intro m ρ m' ρ' _ hagree
  refine ⟨fun c => NormS.result m c, NormS.run_kernel m ρ, ?_⟩
  refine (θ_run Cert.Reference7Ideal.defs _ _).mono (fun r h c => ⟨(h c).1.trans ?_, (h c).2⟩)
    (Cert.Reference7Ideal.Value.run (F := Ideal) m' ρ')
  obtain ⟨h0, h1⟩ := hagree c
  rw [Cert.Reference7Ideal.Read.val_main_v13_eq, h0, h1]
  exact NormS.Ref.out_eq _ _

end Cert.Proof

end
-- ==== Proof.SsdBody.lean ====
/- One grid point of the mixer's scan-side input product: what its body leaves in the copy of the weights and in the
   output block. -/
module

public import proofs.«01_k».proof.Proof.DenseSpec
public import proofs.«01_k».proof.Proof.Gen.Kernel8Ideal.Value
public import Idealize.ShloMosaic.Lib.Pointwise

@[expose] public section
set_option maxRecDepth 16384

noncomputable section

namespace Cert.Ssd

open Idealize.ShloMosaic Cert.Kernel8Ideal Cert.Kernel8Ideal.Gen Idealize.ShloMosaic.TcCoe Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl

/-- The copy of a weight block holds the block's numbers. -/
theorem copy_apply (w : Vec Ideal S2048x512 .f32) (k : Fin 2048) (n : Fin 512) :
    k0_pay1 (F := Ideal) w (ix2 k n) = w (ix2 k n) := by
  pointwise [k0_pay1]

/-- The output block: the product of the token block and the copy. -/
theorem block_apply (x : Vec Ideal S1024x2048 .bf16) (w : Vec Ideal S2048x512 .bf16)
    (i : Fin 1024) (n : Fin 512) :
    k0_pay2 (F := Ideal) x w (ix2 i n) = ∑ k : Fin 2048, x (ix2 i k) * w (ix2 k n) := by
  pointwise [k0_pay2, dot_S1024x2048_S2048x512_S1024x512_1_0_0_1_n_n]

section
variable (c : Dev nD) (i : grid0.Coords) (a2 : Memref sig .tc .vmem S1024x2048 .bf16) (h2 : a2.IsWhole)
    (a3 : Memref sig .tc .vmem S2048x512 .f32) (h3 : a3.IsWhole)
    (a4 : Memref sig .tc .vmem S1024x512 .f32) (h4 : a4.IsWhole) (a5 : Memref sig .tc .vmem S2048x512 .bf16) (h5 : a5.IsWhole)
    (x0 : Vec Ideal S1024x2048 .bf16) (x1 : Vec Ideal S2048x512 .f32)

/-- At the first point of a column block the copy is made anew. -/
theorem copy_first (hc : cond0_0 i) :
    sout0_A_0 (F := Ideal) c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero hz2]
  simp only [View.readAt_eq_ld, h3.read_unread, View.ld_unit_zero (S := S2048x512) hz2]

/-- There the output block is the product with the copy just made … -/
theorem out_first (hc : cond0_0 i) :
    out0_A_2 (F := Ideal) c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2]
  simp only [View.readCov_unit_zero (S := S2048x512) _ hz2, View.readAt_eq_ld, h2.read_unread, h3.read_unread, View.ld_unit_zero (S := S2048x512) hz2,
    View.ld_unit_zero (S := S1024x2048) hz2]

/-- … and elsewhere with the copy as the point before left it. -/
theorem out_later (hc : ¬ cond0_0 i) (s : Vec Ideal S2048x512 .bf16) :
    out0_B_2 (F := Ideal) c i a2 h2 a3 h3 a4 h4 a5 h5 hc x0 x1 s = k0_pay2 x0 s := by
  unfold out0_B_2
  rw [View.read_writes_eq_canon _ _ _ (cover0_B_2 c i a2 h2 a3 h3 a4 h4 a5 h5 hc x0 x1 s)]
  unfold kernelRun0_B
  dsimp only
  sl_unfold_words
  rw [View.canon_unit_zero hz2]
  simp only [View.readAt_eq_ld, h2.read_unread, h5.read_unread, View.ld_unit_zero (S := S2048x512) hz2,
    View.ld_unit_zero (S := S1024x2048) hz2]

/-- Elsewhere the copy stays. -/
theorem copy_later (hc : ¬ cond0_0 i) (s : Vec Ideal S2048x512 .bf16) :
    sout0_B_0 (F := Ideal) c i a2 h2 a3 h3 a4 h4 a5 h5 hc x0 x1 s = s := rfl

end

end Cert.Ssd

end
-- ==== Proof.SsdKernel.lean ====
/- The mixer's scan-side input product: every grid point's block is the specification's, and the blocks tile the array. -/
module

public import proofs.«01_k».proof.Proof.SsdBody

@[expose] public section
set_option maxRecDepth 16384

noncomputable section

namespace Cert.Ssd

open Idealize.ShloMosaic Cert.Kernel8Ideal Cert.Kernel8Ideal.Gen Idealize.ShloMosaic.TcCoe Idealize.SL.Sem
open Idealize.ShloMosaic.Pipeline (Dat)

variable (m : (ℓ : Loc nD τ sig) → Buf (Elt Ideal) ℓ)

/-! ## The block indices over the grid: point `t` is column block `t / 12`, row block `t % 12` -/

theorem N_eq : cfg0.N = 60 := N_0

theorem bx0 : ∀ t : Fin grid0.N, win0_0.index t 0 = t.val % 12 := by decide +kernel
theorem bx1 : ∀ t : Fin grid0.N, win0_0.index t 1 = 0 := by decide +kernel
theorem bw0 : ∀ t : Fin grid0.N, win0_1.index t 0 = 0 := by decide +kernel
theorem bw1 : ∀ t : Fin grid0.N, win0_1.index t 1 = t.val / 12 := by decide +kernel
theorem bo0 : ∀ t : Fin grid0.N, win0_2.index t 0 = t.val % 12 := by decide +kernel
theorem bo1 : ∀ t : Fin grid0.N, win0_2.index t 1 = t.val / 12 := by decide +kernel

/-- The row of the array that is row `i` of a point's block, and the column that is its column `n`. -/
def row (t : Fin cfg0.N) (i : Fin 1024) : Fin 12288 := ⟨t.val % 12 * 1024 + i.val, by omega⟩
def col (t : Fin cfg0.N) (n : Fin 512) : Fin 2560 := ⟨t.val / 12 * 512 + n.val, by have := t.isLt; have := N_eq; omega⟩

/-- The same column of the weights, which are wider. -/
def wcol (n : Fin 2560) : Fin 5664 := ⟨n.val, by omega⟩

/-- The tokens and the weights as launched. -/
abbrev xArr (c : Dev nD) : S12288x2048.Idx → EReal := m ((c : Thread nD τ).loc main_arg0)
abbrev wArr (c : Dev nD) : S2048x5664.Idx → EReal := m ((c : Thread nD τ).loc main_arg1)

/-- The token block of a point. -/
theorem x_blk (c : Dev nD) (t : Fin cfg0.N) (i : Fin 1024) (k : Fin 2048) :
    (iblk m c 0 t : Vec Ideal S1024x2048 .bf16) (ix2 i k) = xArr m c (ix2 (row t i) k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * i.val = t.val % 12 * 1024 + i.val; rw [bx0]; omega
  | ⟨1, _⟩ => show win0_0.index t 1 * 2048 + 1 * k.val = k.val; rw [bx1]; omega

/-- The weight block of a point. -/
theorem w_blk (c : Dev nD) (t : Fin cfg0.N) (k : Fin 2048) (n : Fin 512) :
    (X0_1 m c t : Vec Ideal S2048x512 .f32) (ix2 k n) = wArr m c (ix2 k (wcol (col t n))) := by
  unfold X0_1 Pipeline.Window.fill
  rw [dif_pos (moved0_1 t _)]
  unfold iblk
  rw [View.read_apply]
  show V m c main_arg1 _ = m (c.tc.loc main_arg1) _
  rw [V_main_arg1]
  congr 1
  funext a
  apply Fin.ext
  match a with
  | ⟨0, _⟩ => show win0_1.index t 0 * 2048 + 1 * k.val = k.val; rw [bw0]; omega
  | ⟨1, _⟩ => show win0_1.index t 1 * 512 + 1 * n.val = t.val / 12 * 512 + n.val; rw [bw1]; omega

/-- After every point the copy holds the weights of the point's column block. -/
theorem copy_holds (c : Dev nD) : ∀ (t : Nat) (ht : t < cfg0.N) (k : Fin 2048) (n : Fin 512),
    (outsAt0 m c t ht).2 (ix2 k n) = wArr m c (ix2 k (wcol (col ⟨t, ht⟩ n))) := by
  intro t
  induction t with
  | zero =>
    intro ht k n
    have e := outsAt0_A m c ⟨0, ht⟩ (Nat.zero_mod _)
    dsimp only at e
    rw [e]
    dsimp only
    rw [copy_first, copy_apply, w_blk]
  | succ t ih =>
    intro ht k n
    by_cases h0 : (t + 1) % 12 = 0
    · have e := outsAt0_A m c ⟨t + 1, ht⟩ h0
      dsimp only at e
      rw [e]
      dsimp only
      rw [copy_first, copy_apply, w_blk]
    · have e := outsAt0_B m c ⟨t + 1, ht⟩ h0
      dsimp only at e
      rw [e]
      dsimp only
      rw [copy_later]
      refine (ih (Nat.lt_of_succ_lt ht) k n).trans (congrArg (fun q => wArr m c (ix2 k q)) (Fin.ext ?_))
      show t / 12 * 512 + n.val = (t + 1) / 12 * 512 + n.val
      rw [show (t + 1) / 12 = t / 12 by omega]

/-- The whole result, as contents of the result array. -/
def result (c : Dev nD) : Buf (Elt Ideal) ((c : Thread nD τ).loc main_v0) :=
  Dense.prodOnly (R := 12288) (K := 2048) (C := 2560) (xArr m c) (fun i => wArr m c (ix2 (i 0) (wcol (i 1))))

/-- What a point writes, at row `i` and column `n` of its block. -/
theorem blk_apply (c : Dev nD) (t : Fin cfg0.N) (s : Vec Ideal S2048x512 .bf16)
    (hs : ∀ (k : Fin 2048) (n : Fin 512), s (ix2 k n) = wArr m c (ix2 k (wcol (col t n)))) (i : Fin 1024) (n : Fin 512) :
    k0_pay2 (F := Ideal) (iblk m c 0 t) s (ix2 i n) = result m c (ix2 (row t i) (col t n)) := by
  rw [block_apply]
  refine Eq.trans (b := ∑ k : Fin 2048, xArr m c (ix2 (row t i) k) * wArr m c (ix2 k (wcol (col t n))))
    (Finset.sum_congr rfl fun k _ => ?_) rfl
  rw [x_blk, hs]

/-- The output block is whole: cutting it changes nothing. -/
theorem cut2 (t : Fin cfg0.N) (X : Vec Ideal S1024x512 .f32) (i : Fin 1024) (n : Fin 512) :
    (cfg0.win 2).cut (grid0.coords t) X (ix2 i n) = X (ix2 i n) :=
  congrArg X (funext fun a => by fin_cases a <;> rfl)

/-- Where row `i`, column `n` of a point's block lies in the result array. -/
theorem emb2 (t : Fin cfg0.N) (i : Fin 1024) (n : Fin 512) :
    ((cfg0.win 2).blk t).view.emb (ix2 i n) = (ix2 (row t i) (col t n) : S12288x2560.Idx) := by
  funext a
  apply Fin.ext
  match a with
  | ⟨0, _⟩ => show win0_2.index t 0 * 1024 + 1 * i.val = t.val % 12 * 1024 + i.val; rw [bo0]; omega
  | ⟨1, _⟩ => show win0_2.index t 1 * 512 + 1 * n.val = t.val / 12 * 512 + n.val; rw [bo1]; omega

/-- What a point writes back is its block of the result. -/
theorem flushed_eq (c : Dev nD) (t : Fin cfg0.N) :
    (dats m 0 c).flushed 2 t = ((cfg0.win 2).blk t).view.read (Elt Ideal) (result m c) := by
  funext y
  rw [View.read_apply]
  obtain ⟨i, n, rfl⟩ : ∃ (i : Fin 1024) (n : Fin 512), y = ix2 i n := ⟨y 0, y 1, (ix2_eta (n0 := 1024) (n1 := 512) y).symm⟩
  rw [emb2]
  by_cases h0 : t.val % 12 = 0
  · rw [Value.flushed2_A m c t h0, cut2, out_first]
    exact blk_apply m c t _ (fun k n => by rw [copy_apply, w_blk]) i n
  · rw [Value.flushed2_B m c t h0, cut2, out_later]
    refine blk_apply m c t _ (fun k n => ?_) i n
    refine (copy_holds m c (t.val - 1) _ k n).trans (congrArg (fun q => wArr m c (ix2 k q)) (Fin.ext ?_))
    show (t.val - 1) / 12 * 512 + n.val = t.val / 12 * 512 + n.val
    rw [show (t.val - 1) / 12 = t.val / 12 by omega]

/-- The result array after the run. -/
theorem final_o (c : Dev nD) : (dats m 0 c).arrAt 2 cfg0.N = result m c :=
  (dats m 0 c).arrAt_eq_of_cover 2 (result m c) (fun t _ => flushed_eq m c t) fun x =>
    (Value.covered_iff2 x).2 ⟨Nat.zero_le _, (x 0).isLt, Nat.zero_le _, (x 1).isLt⟩

/-- The kernel's run, its result named. -/
theorem run_kernel (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_o m c), (h c).2⟩) (Value.run_blocks m ρ)

end Cert.Ssd

end
-- ==== Proof.SsdRef.lean ====
/- The reference of the mixer's scan-side input product, read at an index. -/
module

public import proofs.«01_k».proof.Proof.DenseSpec
public import proofs.«01_k».proof.Proof.Gen.Reference8Ideal.Read

@[expose] public section
set_option maxRecDepth 16384

noncomputable section

namespace Cert.Ssd.Ref

open Idealize.ShloMosaic Cert.Reference8Ideal Cert.Reference8Ideal.Gen Cert.Reference8Ideal.Read
open ValueIdx (ix1 ix2)

/-- The reference's result is the product with the first 2560 columns of the weights. -/
theorem out_eq (x0 : S12288x2048.Idx → EReal) (x1 : S2048x5664.Idx → EReal) :
    val_main_v2 (F := Ideal) x0 x1 = Dense.prodOnly (R := 12288) (K := 2048) (C := 2560) x0
      (fun i => x1 (ix2 (i 0) (⟨(i 1).val, Nat.lt_of_lt_of_le (i 1).isLt (by decide)⟩ : Fin 5664))) := by
  funext y
  obtain ⟨r, n, rfl⟩ : ∃ (r : Fin 12288) (n : Fin 2560), y = ix2 r n := ⟨y 0, y 1, funext fun a => by fin_cases a <;> rfl⟩
  rw [val_main_v2_apply, val_main_v1_apply]
  show (∑ k : Fin 2048, x0 (lidx_main_v1 (idx_main_v2 (ix2 r n)) k) * x1 (ridx_main_v1 (idx_main_v2 (ix2 r n)) k) : EReal)
    = ∑ k : Fin 2048, x0 (ix2 r k) * x1 (ix2 k (⟨n.val, by omega⟩ : Fin 5664))
  refine Finset.sum_congr rfl fun k _ => ?_
  have hl : lidx_main_v1 (idx_main_v2 (ix2 r n)) k = ix2 r k := funext fun a => by
    fin_cases a
    · apply Fin.ext; simp only [lidx_main_v1, idx_main_v2]
    · rfl
  have hr : ridx_main_v1 (idx_main_v2 (ix2 r n)) k = ix2 k (⟨n.val, by omega⟩ : Fin 5664) := funext fun a => by
    fin_cases a
    · rfl
    · apply Fin.ext; simp only [ridx_main_v1, idx_main_v2]
  rw [hl, hr]

end Cert.Ssd.Ref

end
-- ==== Proof.SsdClaims.lean ====
/- The five claims of the mixer's scan-side input product. -/
module

public import proofs.«01_k».proof.Defs
public import proofs.«01_k».proof.Proof.SsdKernel
public import proofs.«01_k».proof.Proof.SsdRef
public import proofs.«01_k».proof.Proof.Gen.Kernel8.Frame
public import proofs.«01_k».proof.Proof.Gen.Reference8Ideal.Run
public import Idealize.ShloMosaic.Lib.Quiescent

@[expose] public section
set_option maxRecDepth 16384

noncomputable section

namespace Cert.Proof

open Idealize.ShloMosaic Idealize.SL.Sem

/-- The kernel returns and leaves its arguments and counters alone. -/
theorem ssd_frame : Cert.quiescent_Kernel8 := fun m ρ _ => Cert.Kernel8.Gen.frame m ρ

/-- So does its idealization … -/
theorem ssd_frame_ideal : Cert.quiescent_Kernel8Ideal := fun m ρ _ => Cert.Kernel8Ideal.Gen.frame m ρ

/-- … and the reference, which is host operations alone. -/
theorem ssd_frame_ref : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Over the extended reals the kernel's result is the reference's: both are the specification's array of the same
    arguments. -/
theorem ssd_algebraic : Cert.algebraic_Kernel8Ideal_Reference8Ideal := by
  intro m ρ m' ρ' _ hagree
  refine ⟨fun c => Ssd.result m c, Ssd.run_kernel m ρ, ?_⟩
  refine (θ_run Cert.Reference8Ideal.defs _ _).mono (fun r h c => ⟨(h c).1.trans ?_, (h c).2⟩)
    (Cert.Reference8Ideal.Value.run (F := Ideal) m' ρ')
  obtain ⟨h0, h1⟩ := hagree c
  rw [Cert.Reference8Ideal.Read.val_main_v2_eq, h0, h1]
  exact Ssd.Ref.out_eq _ _

end Cert.Proof

end
-- ==== Proof.GateSpec.lean ====
/- A mixer's output product with its gate: which row of the conditioning a token takes, and the gated sum. -/
module

public import proofs.«01_k».proof.Proof.DenseSpec

@[expose] public section

noncomputable section

namespace Cert.Gate

open Idealize.ShloMosaic
open ValueIdx (ix1 ix2 ix3)

/-- The conditioning of a token: one for the 8192 prompt tokens, one for each of the two sample sequences of 2048. -/
def condOf (r : Fin 12288) : Fin 3 := if r.val < 8192 then 0 else if r.val < 10240 then 1 else 2

/-- Row 2 of a token's conditioning: the gate of the layer's mixer. -/
def gate (mod : (⟨3, ![3, 8, 2048]⟩ : Shape).Idx → EReal) (r : Fin 12288) (n : Fin 2048) : EReal := mod (ix3 (condOf r) 2 n)

/-- The stream plus the gated mix. -/
def add (h : (⟨2, ![12288, 2048]⟩ : Shape).Idx → EReal) (mod : (⟨3, ![3, 8, 2048]⟩ : Shape).Idx → EReal)
    (mix : Fin 12288 → Fin 2048 → EReal) : (⟨2, ![12288, 2048]⟩ : Shape).Idx → EReal :=
  fun i => h (ix2 (i 0) (i 1)) + gate mod (i 0) (i 1) * mix (i 0) (i 1)

/-- A token's number against a bound, as the signed comparison of words that decides it. -/
theorem below (r : Nat) (hr : r < 12288) (b : Nat) (hb : b < 12288) :
    IntOp.cmpi .slt (BitVec.ofNat 32 r) (BitVec.ofNat 32 b) = if r < b then 1#1 else 0#1 := by
  have e : ∀ x : Nat, x < 12288 → (BitVec.ofNat 32 x).toInt = (x : Int) := fun x hx => by
    have ht : (BitVec.ofNat 32 x).toNat = x := by rw [BitVec.toNat_ofNat]; omega
    rw [BitVec.toInt_eq_toNat_of_lt (by rw [ht]; omega), ht]
  have h : (BitVec.ofNat 32 r).slt (BitVec.ofNat 32 b) = decide (r < b) := by
    rw [Bool.eq_iff_iff, BitVec.slt_iff_toInt_lt, e r hr, e b hb, decide_eq_true_iff]
    omega
  show BitVec.ofBool ((BitVec.ofNat 32 r).slt (BitVec.ofNat 32 b)) = _
  rw [h]
  by_cases hlt : r < b <;> simp [hlt]

end Cert.Gate

end
-- ==== Proof.HyOutBody.lean ====
/- One grid point of the convolution layer's output product: what its body leaves in the copy of the weights and in the
   output block. -/
module

public import proofs.«01_k».proof.Proof.GateSpec
public import proofs.«01_k».proof.Proof.Gen.Kernel9Ideal.Value
public import Idealize.ShloMosaic.Lib.Pointwise

@[expose] public section
set_option maxRecDepth 16384

noncomputable section

namespace Cert.HyOut

open Idealize.ShloMosaic Cert.Kernel9Ideal Cert.Kernel9Ideal.Gen Idealize.ShloMosaic.TcCoe Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl

/-- The copy of a weight block holds the block's numbers. -/
theorem copy_apply (w : Vec Ideal S2048x512 .f32) (k : Fin 2048) (n : Fin 512) :
    k0_pay1 (F := Ideal) w (ix2 k n) = w (ix2 k n) := by
  pointwise [k0_pay1]

/-- The output block: the product of the token block and the copy, plus the offsets, gated and added to the stream's block. -/
theorem block_apply (x : Vec Ideal S1024x2048 .bf16) (w : Vec Ideal S2048x512 .bf16) (b : Vec Ideal S1x512 .f32)
    (h : Vec Ideal S1024x512 .f32) (g : Vec Ideal S1x1x512 .f32)
    (i : Fin 1024) (n : Fin 512) :
    k0_pay2 (F := Ideal) x w b h g (ix2 i n)
      = h (ix2 i n) + g (ix3 0 0 n) * ((∑ k : Fin 2048, x (ix2 i k) * w (ix2 k n)) + b (ix2 0 n)) := by
  pointwise [k0_pay2, dot_S1024x2048_S2048x512_S1024x512_1_0_0_1_n_n]

/-- The row of the conditioning block that is the gate. -/
def gateRow (x : Vec Ideal S1x8x512 .f32) : Vec Ideal S1x1x512 .f32 :=
  View.ld x (Rect.unit (s := S1x8x512) ![0, 2, 0] S1x1x512.size inb_S1x8x512_S1x1x512_0_2_0)

theorem gateRow_apply (x : Vec Ideal S1x8x512 .f32) (n : Fin 512) : gateRow x (ix3 0 0 n) = x (ix3 0 2 n) := by
  refine congrArg x (funext fun a => Fin.ext ?_)
  match a with
  | ⟨0, _⟩ => rfl
  | ⟨1, _⟩ => rfl
  | ⟨2, _⟩ => show 0 + 1 * n.val = n.val; omega

section
variable (c : Dev nD) (i : grid0.Coords) (a2 : Memref sig .tc .vmem S1024x2048 .bf16) (h2 : a2.IsWhole)
    (a3 : Memref sig .tc .vmem S2048x512 .f32) (h3 : a3.IsWhole) (a4 : Memref sig .tc .vmem S1x512 .f32) (h4 : a4.IsWhole)
    (a5 : Memref sig .tc .vmem S1024x512 .f32) (h5 : a5.IsWhole)
    (a6 : Memref sig .tc .vmem S1x8x512 .f32) (h6 : a6.IsWhole) (a7 : Memref sig .tc .vmem S1024x512 .f32) (h7 : a7.IsWhole)
    (a8 : Memref sig .tc .vmem S2048x512 .bf16) (h8 : a8.IsWhole)
    (x0 : Vec Ideal S1024x2048 .bf16) (x1 : Vec Ideal S2048x512 .f32) (x2 : Vec Ideal S1x512 .f32)
    (x3 : Vec Ideal S1024x512 .f32) (x4 : Vec Ideal S1x8x512 .f32)

/-- At the first point of a column block the copy is made anew. -/
theorem copy_first (hc : cond0_0 i) :
    sout0_A_0 (F := Ideal) c i a2 h2 a3 h3 a4 h4 a5 h5 a6 h6 a7 h7 a8 h8 hc x0 x1 x2 x3 x4 = k0_pay1 x1 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_unit_zero hz2]
  simp only [View.readAt_eq_ld, h3.read_unread, View.ld_unit_zero (S := S2048x512) hz2]

/-- There the output block is the product with the copy just made … -/
theorem out_first (hc : cond0_0 i) :
    out0_A_5 (F := Ideal) c i a2 h2 a3 h3 a4 h4 a5 h5 a6 h6 a7 h7 a8 h8 hc x0 x1 x2 x3 x4 = k0_pay2 x0 (k0_pay1 x1) x2 x3 (gateRow x4) := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_unit_zero hz2]
  simp only [View.readCov_unit_zero (S := S2048x512) _ hz2, View.readAt_eq_ld, h2.read_unread, h3.read_unread, h4.read_unread, h5.read_unread, h6.read_unread, View.ld_unit_zero (S := S2048x512) hz2,
    View.ld_unit_zero (S := S1024x2048) hz2, View.ld_unit_zero (S := S1x512) hz2, View.ld_unit_zero (S := S1024x512) hz2]
  rfl

/-- … and elsewhere with the copy as the point before left it. -/
theorem out_later (hc : ¬ cond0_0 i) (s : Vec Ideal S2048x512 .bf16) :
    out0_B_5 (F := Ideal) c i a2 h2 a3 h3 a4 h4 a5 h5 a6 h6 a7 h7 a8 h8 hc x0 x1 x2 x3 x4 s = k0_pay2 x0 s x2 x3 (gateRow x4) := by
  unfold out0_B_5
  rw [View.read_writes_eq_canon _ _ _ (cover0_B_5 c i a2 h2 a3 h3 a4 h4 a5 h5 a6 h6 a7 h7 a8 h8 hc x0 x1 x2 x3 x4 s)]
  unfold kernelRun0_B
  dsimp only
  sl_unfold_words
  rw [View.canon_unit_zero hz2]
  simp only [View.readAt_eq_ld, h2.read_unread, h4.read_unread, h5.read_unread, h6.read_unread, h8.read_unread, View.ld_unit_zero (S := S2048x512) hz2,
    View.ld_unit_zero (S := S1024x2048) hz2, View.ld_unit_zero (S := S1x512) hz2, View.ld_unit_zero (S := S1024x512) hz2]
  rfl

/-- Elsewhere the copy stays. -/
theorem copy_later (hc : ¬ cond0_0 i) (s : Vec Ideal S2048x512 .bf16) :
    sout0_B_0 (F := Ideal) c i a2 h2 a3 h3 a4 h4 a5 h5 a6 h6 a7 h7 a8 h8 hc x0 x1 x2 x3 x4 s = s := rfl

end

end Cert.HyOut

end
-- ==== Proof.HyOutKernel.lean ====
/- The convolution layer's output product: every grid point's block is the specification's, and the blocks tile the array. -/
module

public import proofs.«01_k».proof.Proof.HyOutBody

@[expose] public section
set_option maxRecDepth 16384

noncomputable section

namespace Cert.HyOut

open Idealize.ShloMosaic Cert.Kernel9Ideal Cert.Kernel9Ideal.Gen Idealize.ShloMosaic.TcCoe Idealize.SL.Sem
open Idealize.ShloMosaic.Pipeline (Dat)

variable (m : (ℓ : Loc nD τ sig) → Buf (Elt Ideal) ℓ)

/-! ## The block indices over the grid: point `t` is column block `t / 12`, row block `t % 12` -/

theorem N_eq : cfg0.N = 48 := N_0

theorem bx0 : ∀ t : Fin grid0.N, win0_0.index t 0 = t.val % 12 := by decide +kernel
theorem bx1 : ∀ t : Fin grid0.N, win0_0.index t 1 = 0 := by decide +kernel
theorem bw0 : ∀ t : Fin grid0.N, win0_1.index t 0 = 0 := by decide +kernel
theorem bw1 : ∀ t : Fin grid0.N, win0_1.index t 1 = t.val / 12 := by decide +kernel
theorem bb0 : ∀ t : Fin grid0.N, win0_2.index t 0 = 0 := by decide +kernel
theorem bb1 : ∀ t : Fin grid0.N, win0_2.index t 1 = t.val / 12 := by decide +kernel
theorem bh0 : ∀ t : Fin grid0.N, win0_3.index t 0 = t.val % 12 := by decide +kernel
theorem bh1 : ∀ t : Fin grid0.N, win0_3.index t 1 = t.val / 12 := by decide +kernel
theorem bm0 : ∀ t : Fin grid0.N, win0_4.index t 0 = if t.val % 12 < 8 then 0 else if t.val % 12 < 10 then 1 else 2 := by decide +kernel
theorem bm1 : ∀ t : Fin grid0.N, win0_4.index t 1 = 0 := by decide +kernel
theorem bm2 : ∀ t : Fin grid0.N, win0_4.index t 2 = t.val / 12 := by decide +kernel
theorem bo0 : ∀ t : Fin grid0.N, win0_5.index t 0 = t.val % 12 := by decide +kernel
theorem bo1 : ∀ t : Fin grid0.N, win0_5.index t 1 = t.val / 12 := by decide +kernel

/-- The row of the array that is row `i` of a point's block, and the column that is its column `n`. -/
def row (t : Fin cfg0.N) (i : Fin 1024) : Fin 12288 := ⟨t.val % 12 * 1024 + i.val, by omega⟩
def col (t : Fin cfg0.N) (n : Fin 512) : Fin 2048 := ⟨t.val / 12 * 512 + n.val, by have := t.isLt; have := N_eq; omega⟩

/-- The mixed tokens, the weights, the offsets, the stream and the conditioning as launched. -/
abbrev xArr (c : Dev nD) : S12288x2048.Idx → EReal := m ((c : Thread nD τ).loc main_arg0)
abbrev wArr (c : Dev nD) : S2048x2048.Idx → EReal := m ((c : Thread nD τ).loc main_arg3)
abbrev hArr (c : Dev nD) : S12288x2048.Idx → EReal := m ((c : Thread nD τ).loc main_arg1)
abbrev mArr (c : Dev nD) : S3x8x2048.Idx → EReal := m ((c : Thread nD τ).loc main_arg2)
abbrev bArr (c : Dev nD) : S2048.Idx → EReal := m ((c : Thread nD τ).loc main_arg4)

/-- The token block of a point. -/
theorem x_blk (c : Dev nD) (t : Fin cfg0.N) (i : Fin 1024) (k : Fin 2048) :
    (iblk m c 0 t : Vec Ideal S1024x2048 .bf16) (ix2 i k) = xArr m c (ix2 (row t i) k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * i.val = t.val % 12 * 1024 + i.val; rw [bx0]; omega
  | ⟨1, _⟩ => show win0_0.index t 1 * 2048 + 1 * k.val = k.val; rw [bx1]; omega

/-- The weight block of a point. -/
theorem w_blk (c : Dev nD) (t : Fin cfg0.N) (k : Fin 2048) (n : Fin 512) :
    (iblk m c 1 t : Vec Ideal S2048x512 .f32) (ix2 k n) = wArr m c (ix2 k (col t n)) := by
  unfold iblk
  rw [View.read_apply]
  show V m c main_arg3 _ = m (c.tc.loc main_arg3) _
  rw [V_main_arg3]
  congr 1
  funext a
  apply Fin.ext
  match a with
  | ⟨0, _⟩ => show win0_1.index t 0 * 2048 + 1 * k.val = k.val; rw [bw0]; omega
  | ⟨1, _⟩ => show win0_1.index t 1 * 512 + 1 * n.val = t.val / 12 * 512 + n.val; rw [bw1]; omega

/-- The offsets, laid out as one row before the kernel. -/
theorem offsets_row (c : Dev nD) (n : Fin 2048) :
    (V m c main_v0 : Vec Ideal S1x2048 .f32) (ix2 0 n) = bArr m c (ValueIdx.ix1 n) := by
  have h : (V m c main_v0 : Vec Ideal S1x2048 .f32)
      = shapeCast S1x2048 (m ((c : Thread nD τ).loc main_arg4) : Vec Ideal S2048 .f32) shapeCasts_S2048_S1x2048 := by
    show StableHlo.after hostOps0 (fun b => m (c, b)) main_v0 = _
    after_results
    rfl
  rw [h]
  exact shapeCast_apply _ shapeCasts_S2048_S1x2048 _ (ValueIdx.ix1 n)
    (by rewrite [Shape.rowMajor_val_one, Shape.rowMajor_val_two]; show n.val = 0 * 2048 + n.val; omega)

/-- The offset block of a point. -/
theorem b_blk (c : Dev nD) (t : Fin cfg0.N) (n : Fin 512) :
    (iblk m c 2 t : Vec Ideal S1x512 .f32) (ix2 0 n) = bArr m c (ValueIdx.ix1 (col t n)) := by
  rw [← offsets_row]
  unfold iblk
  rw [View.read_apply]
  show V m c main_v0 _ = V m c main_v0 _
  congr 1
  funext a
  apply Fin.ext
  match a with
  | ⟨0, _⟩ => show win0_2.index t 0 * 1 + 1 * 0 = 0; rw [bb0]
  | ⟨1, _⟩ => show win0_2.index t 1 * 512 + 1 * n.val = t.val / 12 * 512 + n.val; rw [bb1]; omega

/-- The block of the stream of a point. -/
theorem h_blk (c : Dev nD) (t : Fin cfg0.N) (i : Fin 1024) (n : Fin 512) :
    (iblk m c 3 t : Vec Ideal S1024x512 .f32) (ix2 i n) = hArr m c (ix2 (row t i) (col t n)) := by
  unfold iblk
  rw [View.read_apply]
  show V m c main_arg1 _ = m (c.tc.loc main_arg1) _
  rw [V_main_arg1]
  congr 1
  funext a
  apply Fin.ext
  match a with
  | ⟨0, _⟩ => show win0_3.index t 0 * 1024 + 1 * i.val = t.val % 12 * 1024 + i.val; rw [bh0]; omega
  | ⟨1, _⟩ => show win0_3.index t 1 * 512 + 1 * n.val = t.val / 12 * 512 + n.val; rw [bh1]; omega

/-- The block of the conditioning of a point: all its tokens take the same one. -/
theorem m_blk (c : Dev nD) (t : Fin cfg0.N) (i : Fin 1024) (n : Fin 512) :
    (iblk m c 4 t : Vec Ideal S1x8x512 .f32) (ix3 0 2 n) = Gate.gate (mArr m c) (row t i) (col t n) := by
  have hc : (Gate.condOf (row t i)).val = if t.val % 12 < 8 then 0 else if t.val % 12 < 10 then 1 else 2 := by
    have hr : (row t i).val = t.val % 12 * 1024 + i.val := rfl
    unfold Gate.condOf
    rw [hr]
    have := i.isLt
    by_cases h8 : t.val % 12 < 8
    · rw [if_pos h8, if_pos (by omega)]; rfl
    · rw [if_neg h8, if_neg (by omega)]
      by_cases h10 : t.val % 12 < 10
      · rw [if_pos h10, if_pos (by omega)]; rfl
      · rw [if_neg h10, if_neg (by omega)]; rfl
  unfold iblk Gate.gate
  rw [View.read_apply]
  show V m c main_arg2 _ = m (c.tc.loc main_arg2) _
  rw [V_main_arg2]
  congr 1
  funext a
  apply Fin.ext
  match a with
  | ⟨0, _⟩ => show win0_4.index t 0 * 1 + 1 * 0 = (Gate.condOf (row t i)).val; rw [bm0, hc]; omega
  | ⟨1, _⟩ => show win0_4.index t 1 * 8 + 1 * 2 = 2; rw [bm1]
  | ⟨2, _⟩ => show win0_4.index t 2 * 512 + 1 * n.val = t.val / 12 * 512 + n.val; rw [bm2]; omega

/-- After every point the copy holds the weights of the point's column block. -/
theorem copy_holds (c : Dev nD) : ∀ (t : Nat) (ht : t < cfg0.N) (k : Fin 2048) (n : Fin 512),
    (outsAt0 m c t ht).2 (ix2 k n) = wArr m c (ix2 k (col ⟨t, ht⟩ n)) := by
  intro t
  induction t with
  | zero =>
    intro ht k n
    have e := outsAt0_A m c ⟨0, ht⟩ (Nat.zero_mod _)
    dsimp only at e
    rw [e]
    dsimp only
    rw [copy_first, copy_apply, w_blk]
  | succ t ih =>
    intro ht k n
    by_cases h0 : (t + 1) % 12 = 0
    · have e := outsAt0_A m c ⟨t + 1, ht⟩ h0
      dsimp only at e
      rw [e]
      dsimp only
      rw [copy_first, copy_apply, w_blk]
    · have e := outsAt0_B m c ⟨t + 1, ht⟩ h0
      dsimp only at e
      rw [e]
      dsimp only
      rw [copy_later]
      refine (ih (Nat.lt_of_succ_lt ht) k n).trans (congrArg (fun q => wArr m c (ix2 k q)) (Fin.ext ?_))
      show t / 12 * 512 + n.val = (t + 1) / 12 * 512 + n.val
      rw [show (t + 1) / 12 = t / 12 by omega]

/-- The whole result, as contents of the result array. -/
def result (c : Dev nD) : Buf (Elt Ideal) ((c : Thread nD τ).loc main_v1) :=
  Gate.add (hArr m c) (mArr m c) fun r n =>
    Dense.prod (R := 12288) (K := 2048) (C := 2048) (xArr m c) (wArr m c) r n + bArr m c (ValueIdx.ix1 n)

/-- What a point writes, at row `i` and column `n` of its block. -/
theorem blk_apply (c : Dev nD) (t : Fin cfg0.N) (s : Vec Ideal S2048x512 .bf16)
    (hs : ∀ (k : Fin 2048) (n : Fin 512), s (ix2 k n) = wArr m c (ix2 k (col t n))) (i : Fin 1024) (n : Fin 512) :
    k0_pay2 (F := Ideal) (iblk m c 0 t) s (iblk m c 2 t) (iblk m c 3 t) (gateRow (iblk m c 4 t)) (ix2 i n)
      = result m c (ix2 (row t i) (col t n)) := by
  rw [block_apply, gateRow_apply, b_blk, h_blk, m_blk m c t i n]
  refine congrArg (fun q : EReal => hArr m c (ix2 (row t i) (col t n)) + Gate.gate (mArr m c) (row t i) (col t n)
    * (q + bArr m c (ValueIdx.ix1 (col t n)))) (Finset.sum_congr rfl fun k _ => ?_)
  rw [x_blk, hs]
  rfl

/-- The output block is whole: cutting it changes nothing. -/
theorem cut5 (t : Fin cfg0.N) (X : Vec Ideal S1024x512 .f32) (i : Fin 1024) (n : Fin 512) :
    (cfg0.win 5).cut (grid0.coords t) X (ix2 i n) = X (ix2 i n) :=
  congrArg X (funext fun a => by fin_cases a <;> rfl)

/-- Where row `i`, column `n` of a point's block lies in the result array. -/
theorem emb5 (t : Fin cfg0.N) (i : Fin 1024) (n : Fin 512) :
    ((cfg0.win 5).blk t).view.emb (ix2 i n) = (ix2 (row t i) (col t n) : S12288x2048.Idx) := by
  funext a
  apply Fin.ext
  match a with
  | ⟨0, _⟩ => show win0_5.index t 0 * 1024 + 1 * i.val = t.val % 12 * 1024 + i.val; rw [bo0]; omega
  | ⟨1, _⟩ => show win0_5.index t 1 * 512 + 1 * n.val = t.val / 12 * 512 + n.val; rw [bo1]; omega

/-- What a point writes back is its block of the result. -/
theorem flushed_eq (c : Dev nD) (t : Fin cfg0.N) :
    (dats m 0 c).flushed 5 t = ((cfg0.win 5).blk t).view.read (Elt Ideal) (result m c) := by
  funext y
  rw [View.read_apply]
  obtain ⟨i, n, rfl⟩ : ∃ (i : Fin 1024) (n : Fin 512), y = ix2 i n := ⟨y 0, y 1, (ix2_eta (n0 := 1024) (n1 := 512) y).symm⟩
  rw [emb5]
  by_cases h0 : t.val % 12 = 0
  · rw [Value.flushed5_A m c t h0, cut5, out_first]
    exact blk_apply m c t _ (fun k n => by rw [copy_apply, w_blk]) i n
  · rw [Value.flushed5_B m c t h0, cut5, out_later]
    refine blk_apply m c t _ (fun k n => ?_) i n
    refine (copy_holds m c (t.val - 1) _ k n).trans (congrArg (fun q => wArr m c (ix2 k q)) (Fin.ext ?_))
    show (t.val - 1) / 12 * 512 + n.val = t.val / 12 * 512 + n.val
    rw [show (t.val - 1) / 12 = t.val / 12 by omega]

/-- The result array after the run. -/
theorem final_o (c : Dev nD) : (dats m 0 c).arrAt 5 cfg0.N = result m c :=
  (dats m 0 c).arrAt_eq_of_cover 5 (result m c) (fun t _ => flushed_eq m c t) fun x =>
    (Value.covered_iff5 x).2 ⟨Nat.zero_le _, (x 0).isLt, Nat.zero_le _, (x 1).isLt⟩

/-- The kernel's run, its result named. -/
theorem run_kernel (ρ : Dev nD → PrngReg) : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_o m c), (h c).2⟩) (Value.run_blocks m ρ)

end Cert.HyOut

end
-- ==== Proof.HyOutRef.lean ====
/- The reference of the convolution layer's output product, read at an index. -/
module

public import proofs.«01_k».proof.Proof.GateSpec
public import proofs.«01_k».proof.Proof.Gen.Reference9Ideal.Read

@[expose] public section
set_option maxRecDepth 16384

noncomputable section

namespace Cert.HyOut.Ref

open Idealize.ShloMosaic Cert.Reference9Ideal Cert.Reference9Ideal.Gen Cert.Reference9Ideal.Read
open ValueIdx (ix1 ix2 ix3)

/-- The mix: the product plus the offsets. -/
theorem mix_apply (x0 : S12288x2048.Idx → EReal) (x3 : S2048x2048.Idx → EReal) (x4 : S2048.Idx → EReal) (r : Fin 12288)
    (n : Fin 2048) :
    val_main_v4 (F := Ideal) x0 x3 x4 (ix2 r n) = Dense.prod (R := 12288) (K := 2048) (C := 2048) x0 x3 r n + x4 (ix1 n) := by
  rw [val_main_v4_apply, val_main_v1_apply, val_main_v3_apply, val_main_v2_apply]
  have hl : ∀ k : Fin 2048, lidx_main_v1 (ix2 r n) k = ix2 r k := fun k => funext fun a => by fin_cases a <;> rfl
  have hr : ∀ k : Fin 2048, ridx_main_v1 (ix2 r n) k = ix2 k n := fun k => funext fun a => by fin_cases a <;> rfl
  have hb : idx_main_v2 (idx_main_v3 (ix2 r n)) = ix1 n := funext fun a => by fin_cases a; rfl
  rw [hb]
  refine congrArg (fun q : EReal => q + x4 (ix1 n)) (Finset.sum_congr rfl fun k _ => ?_)
  rw [hl, hr]
  rfl

/-- The mixer's gates: row 2 of each conditioning. -/
theorem gates_apply (x2 : S3x8x2048.Idx → EReal) (q : Fin 3) (n : Fin 2048) :
    val_main_v6 (F := Ideal) x2 (ix2 q n) = x2 (ix3 q 2 n) := by
  rw [val_main_v6_apply, val_main_v5_apply]
  refine congrArg x2 (funext fun a => Fin.ext ?_)
  have := q.isLt
  have := n.isLt
  match a with
  | ⟨0, _⟩ => show (q.val * 2048 + n.val) / 2048 = q.val; omega
  | ⟨1, _⟩ => rfl
  | ⟨2, _⟩ => show (q.val * 2048 + n.val) % 2048 = n.val; omega

/-- The gate of a token: the comparisons of its number pick its conditioning. -/
theorem gate_apply (x2 : S3x8x2048.Idx → EReal) (r : Fin 12288) (n : Fin 2048) :
    val_main_v19 (F := Ideal) x2 (ix2 r n) = Gate.gate x2 r n := by
  have g0 : val_main_call1_v1 (F := Ideal) x2 (ix2 r n) = x2 (ix3 0 2 n) := by
    rw [val_main_call1_v1_apply, val_main_v11_apply, val_main_v10_apply, ← gates_apply x2 0 n]
    exact congrArg _ (funext fun a => Fin.ext (by fin_cases a <;> simp))
  have g1 : val_main_call0_v1 (F := Ideal) x2 (ix2 r n) = x2 (ix3 1 2 n) := by
    rw [val_main_call0_v1_apply, val_main_v15_apply, val_main_v14_apply, ← gates_apply x2 1 n]
    exact congrArg _ (funext fun a => Fin.ext (by fin_cases a <;> simp))
  have g2 : val_main_call0_v2 (F := Ideal) x2 (ix2 r n) = x2 (ix3 2 2 n) := by
    rw [val_main_call0_v2_apply, val_main_v17_apply, val_main_v16_apply, ← gates_apply x2 2 n]
    exact congrArg _ (funext fun a => Fin.ext (by fin_cases a <;> simp))
  have c1 : val_main_call1_v0 (F := Ideal) (ix2 r n) = if r.val < 8192 then 1#1 else 0#1 := by
    rw [val_main_call1_v0_apply, val_main_v9_apply, val_main_v7_apply, val_main_v8_apply, val_main_c_apply]
    exact Gate.below r.val r.isLt 8192 (by decide)
  have c0 : val_main_call0_v0 (F := Ideal) (ix2 r n) = if r.val < 10240 then 1#1 else 0#1 := by
    rw [val_main_call0_v0_apply, val_main_v13_apply, val_main_v7_apply, val_main_v12_apply, val_main_c_0_apply]
    exact Gate.below r.val r.isLt 10240 (by decide)
  rw [val_main_v19_apply, c1, g0, val_main_v18_apply, c0, g1, g2]
  unfold Gate.gate Gate.condOf
  by_cases h8 : r.val < 8192
  · rw [if_pos h8, if_pos h8]; rfl
  · rw [if_neg h8, if_neg h8]
    by_cases h10 : r.val < 10240
    · rw [if_pos h10, if_pos h10]; rfl
    · rw [if_neg h10, if_neg h10]; rfl

/-- The reference's result is the specification's array. -/
theorem out_eq (x0 x1 : S12288x2048.Idx → EReal) (x2 : S3x8x2048.Idx → EReal) (x3 : S2048x2048.Idx → EReal)
    (x4 : S2048.Idx → EReal) :
    val_main_v21 (F := Ideal) x0 x1 x2 x3 x4 = Gate.add x1 x2 fun r n =>
      Dense.prod (R := 12288) (K := 2048) (C := 2048) x0 x3 r n + x4 (ix1 n) := by
  funext y
  obtain ⟨r, n, rfl⟩ : ∃ (r : Fin 12288) (n : Fin 2048), y = ix2 r n := ⟨y 0, y 1, funext fun a => by fin_cases a <;> rfl⟩
  rw [val_main_v21_apply, val_main_v20_apply, gate_apply, mix_apply]
  rfl

end Cert.HyOut.Ref

end
-- ==== Proof.HyOutClaims.lean ====
/- The five claims of the convolution layer's output product. -/
module

public import proofs.«01_k».proof.Defs
public import proofs.«01_k».proof.Proof.HyOutKernel
public import proofs.«01_k».proof.Proof.HyOutRef
public import proofs.«01_k».proof.Proof.Gen.Kernel9.Frame
public import proofs.«01_k».proof.Proof.Gen.Reference9Ideal.Run
public import Idealize.ShloMosaic.Lib.Quiescent

@[expose] public section
set_option maxRecDepth 16384

noncomputable section

namespace Cert.Proof

open Idealize.ShloMosaic Idealize.SL.Sem

/-- The kernel returns and leaves its arguments and counters alone. -/
theorem hy_out_frame : Cert.quiescent_Kernel9 := fun m ρ _ => Cert.Kernel9.Gen.frame m ρ

/-- So does its idealization … -/
theorem hy_out_frame_ideal : Cert.quiescent_Kernel9Ideal := fun m ρ _ => Cert.Kernel9Ideal.Gen.frame m ρ

/-- … and the reference, which is host operations alone. -/
theorem hy_out_frame_ref : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Over the extended reals the kernel's result is the reference's: both are the specification's array of the same
    arguments. -/
theorem hy_out_algebraic : Cert.algebraic_Kernel9Ideal_Reference9Ideal := by
  intro m ρ m' ρ' _ hagree
  refine ⟨fun c => HyOut.result m c, HyOut.run_kernel m ρ, ?_⟩
  refine (θ_run Cert.Reference9Ideal.defs _ _).mono (fun r h c => ⟨(h c).1.trans ?_, (h c).2⟩)
    (Cert.Reference9Ideal.Value.run (F := Ideal) m' ρ')
  obtain ⟨h0, h1, h2, h3, h4⟩ := hagree c
  rw [Cert.Reference9Ideal.Read.val_main_v21_eq, h0, h1, h2, h3, h4]
  exact HyOut.Ref.out_eq _ _ _ _ _

end Cert.Proof

end
-- ==== Proof.JoinSpec.lean ====
/- The product of two matrices laid side by side with one matrix of weights, in plain words. -/
module

public import proofs.«01_k».proof.Proof.GateSpec

@[expose] public section

noncomputable section

namespace Cert.Join

open Idealize.ShloMosaic
open ValueIdx (ix1 ix2 ix3)

/-- A row of the weights' upper half, and one of their lower half. -/
def upper (k : Fin 1024) : Fin 2048 := ⟨k.val, by omega⟩
def lower (k : Fin 1024) : Fin 2048 := ⟨1024 + k.val, by omega⟩

/-- One entry of the product: the first matrix meets the weights' upper half, the second their lower half. -/
def prod (x y : (⟨2, ![12288, 1024]⟩ : Shape).Idx → EReal) (w : (⟨2, ![2048, 2048]⟩ : Shape).Idx → EReal)
    (r : Fin 12288) (n : Fin 2048) : EReal :=
  (∑ k : Fin 1024, x (ix2 r k) * w (ix2 (upper k) n)) + ∑ k : Fin 1024, y (ix2 r k) * w (ix2 (lower k) n)

/-- A sum over 2048 indices is the sum over the first half plus the sum over the second. -/
theorem sum_halves (f : Fin 2048 → EReal) :
    (∑ k : Fin 2048, f k) = (∑ k : Fin 1024, f (upper k)) + ∑ k : Fin 1024, f (lower k) :=
  Fin.sum_univ_add (a := 1024) (b := 1024) f

end Cert.Join

end
-- ==== Proof.MixOutBody.lean ====
/- One grid point of the first layer's output product: what its body leaves in the copy of the weights and in the
   output block. -/
module

public import proofs.«01_k».proof.Proof.JoinSpec
public import proofs.«01_k».proof.Proof.Gen.Kernel10Ideal.Value
public import Idealize.ShloMosaic.Lib.Pointwise
public import Idealize.ShloMosaic.Lib.Pipeline.ReadBack

@[expose] public section
set_option maxRecDepth 16384

noncomputable section

namespace Cert.MixOut

open Idealize.ShloMosaic Cert.Kernel10Ideal Cert.Kernel10Ideal.Gen Idealize.ShloMosaic.TcCoe Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl

/-- The copy of a weight block holds the block's numbers. -/
theorem copy_apply (w : Vec Ideal S2048x512 .f32) (k : Fin 2048) (n : Fin 512) :
    k0_pay1 (F := Ideal) w (ix2 k n) = w (ix2 k n) := by
  pointwise [k0_pay1]

/-- The output block: the two token blocks times the halves of the copy, gated and added to the stream's block. -/
theorem block_apply (x : Vec Ideal S1024x1024 .bf16) (u : Vec Ideal S1024x512 .bf16) (y : Vec Ideal S1024x1024 .bf16)
    (l : Vec Ideal S1024x512 .bf16) (h : Vec Ideal S1024x512 .f32) (g : Vec Ideal S1x1x512 .f32)
    (i : Fin 1024) (n : Fin 512) :
    k0_pay2 (F := Ideal) x u y l h g (ix2 i n)
      = h (ix2 i n) + g (ix3 0 0 n) * ((∑ k : Fin 1024, x (ix2 i k) * u (ix2 k n)) + ∑ k : Fin 1024, y (ix2 i k) * l (ix2 k n)) := by
  pointwise [k0_pay2, dot_S1024x1024_S1024x512_S1024x512_1_0_0_1_n_n]

/-- The upper half of a copy of the weights, and its lower half. -/
def top (s : Vec Ideal S2048x512 .bf16) : Vec Ideal S1024x512 .bf16 :=
  View.ld s (Rect.unit (s := S2048x512) ![0, 0] S1024x512.size inb_S2048x512_S1024x512_0_0)
def bot (s : Vec Ideal S2048x512 .bf16) : Vec Ideal S1024x512 .bf16 :=
  View.ld s (Rect.unit (s := S2048x512) ![1024, 0] S1024x512.size inb_S2048x512_S1024x512_1024_0)

theorem top_apply (s : Vec Ideal S2048x512 .bf16) (k : Fin 1024) (n : Fin 512) : top s (ix2 k n) = s (ix2 (Join.upper k) n) := by
  refine congrArg s (funext fun a => Fin.ext ?_)
  match a with
  | ⟨0, _⟩ => show 0 + 1 * k.val = k.val; omega
  | ⟨1, _⟩ => show 0 + 1 * n.val = n.val; omega

theorem bot_apply (s : Vec Ideal S2048x512 .bf16) (k : Fin 1024) (n : Fin 512) : bot s (ix2 k n) = s (ix2 (Join.lower k) n) := by
  refine congrArg s (funext fun a => Fin.ext ?_)
  match a with
  | ⟨0, _⟩ => show 1024 + 1 * k.val = 1024 + k.val; omega
  | ⟨1, _⟩ => show 0 + 1 * n.val = n.val; omega

/-- A load of any part of the copy after a store of the whole reads the stored numbers. -/
theorem load_copy (v : View sig .tc .vmem S2048x512 .bf16) (Z : Vec Ideal S2048x512 .bf16) (q : Rect S2048x512) :
    v.readCov (Val := Elt Ideal) [⟨Rect.unit (s := S2048x512) ![0, 0] S2048x512.size inb_S2048x512_S2048x512_0_0, Z⟩] q.toLoadRect
      = View.ld Z q :=
  View.readCov_fill v _ Z [] q fun a => congrFun hz2 a

/-- The row of the conditioning block that is the gate. -/
def gateRow (x : Vec Ideal S1x8x512 .f32) : Vec Ideal S1x1x512 .f32 :=
  View.ld x (Rect.unit (s := S1x8x512) ![0, 2, 0] S1x1x512.size inb_S1x8x512_S1x1x512_0_2_0)

theorem gateRow_apply (x : Vec Ideal S1x8x512 .f32) (n : Fin 512) : gateRow x (ix3 0 0 n) = x (ix3 0 2 n) := by
  refine congrArg x (funext fun a => Fin.ext ?_)
  match a with
  | ⟨0, _⟩ => rfl
  | ⟨1, _⟩ => rfl
  | ⟨2, _⟩ => show 0 + 1 * n.val = n.val; omega

section
variable (c : Dev nD) (i : grid0.Coords) (a2 : Memref sig .tc .vmem S1024x1024 .bf16) (h2 : a2.IsWhole)
    (a3 : Memref sig .tc .vmem S1024x1024 .bf16) (h3 : a3.IsWhole) (a4 : Memref sig .tc .vmem S2048x512 .f32) (h4 : a4.IsWhole)
    (a5 : Memref sig .tc .vmem S1024x512 .f32) (h5 : a5.IsWhole)
    (a6 : Memref sig .tc .vmem S1x8x512 .f32) (h6 : a6.IsWhole) (a7 : Memref sig .tc .vmem S1024x512 .f32) (h7 : a7.IsWhole)
    (a8 : Memref sig .tc .vmem S2048x512 .bf16) (h8 : a8.IsWhole)
    (x0 : Vec Ideal S1024x1024 .bf16) (x1 : Vec Ideal S1024x1024 .bf16) (x2 : Vec Ideal S2048x512 .f32)
    (x3 : Vec Ideal S1024x512 .f32) (x4 : Vec Ideal S1x8x512 .f32)

/-- At the first point of a column block the copy is made anew. -/
theorem copy_first (hc : cond0_0 i) :
    sout0_A_0 (F := Ideal) c i a2 h2 a3 h3 a4 h4 a5 h5 a6 h6 a7 h7 a8 h8 hc x0 x1 x2 x3 x4 = k0_pay1 x2 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_unit_zero hz2]
  simp only [View.readAt_eq_ld, h4.read_unread, View.ld_unit_zero (S := S2048x512) hz2]

/-- There the output block is the product with the copy just made … -/
theorem out_first (hc : cond0_0 i) :
    out0_A_5 (F := Ideal) c i a2 h2 a3 h3 a4 h4 a5 h5 a6 h6 a7 h7 a8 h8 hc x0 x1 x2 x3 x4 = k0_pay2 x0 (top (k0_pay1 x2)) x1 (bot (k0_pay1 x2)) x3 (gateRow x4) := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_unit_zero hz2]
  simp only [View.readAt_eq_ld, h2.read_unread, h3.read_unread, h4.read_unread, h5.read_unread, h6.read_unread, View.ld_unit_zero (S := S2048x512) hz2,
    View.ld_unit_zero (S := S1024x1024) hz2, View.ld_unit_zero (S := S1024x512) hz2]
  exact congrArg₂ (fun u l => k0_pay2 x0 u x1 l x3 (gateRow x4)) (load_copy a8.view (k0_pay1 x2) _) (load_copy a8.view (k0_pay1 x2) _)

/-- … and elsewhere with the copy as the point before left it. -/
theorem out_later (hc : ¬ cond0_0 i) (s : Vec Ideal S2048x512 .bf16) :
    out0_B_5 (F := Ideal) c i a2 h2 a3 h3 a4 h4 a5 h5 a6 h6 a7 h7 a8 h8 hc x0 x1 x2 x3 x4 s = k0_pay2 x0 (top s) x1 (bot s) x3 (gateRow x4) := by
  unfold out0_B_5
  rw [View.read_writes_eq_canon _ _ _ (cover0_B_5 c i a2 h2 a3 h3 a4 h4 a5 h5 a6 h6 a7 h7 a8 h8 hc x0 x1 x2 x3 x4 s)]
  unfold kernelRun0_B
  dsimp only
  sl_unfold_words
  rw [View.canon_unit_zero hz2]
  simp only [View.readAt_eq_ld, h2.read_unread, h3.read_unread, h4.read_unread, h5.read_unread, h6.read_unread, h8.read_unread, View.ld_unit_zero (S := S2048x512) hz2,
    View.ld_unit_zero (S := S1024x1024) hz2, View.ld_unit_zero (S := S1024x512) hz2]
  rfl

/-- Elsewhere the copy stays. -/
theorem copy_later (hc : ¬ cond0_0 i) (s : Vec Ideal S2048x512 .bf16) :
    sout0_B_0 (F := Ideal) c i a2 h2 a3 h3 a4 h4 a5 h5 a6 h6 a7 h7 a8 h8 hc x0 x1 x2 x3 x4 s = s := rfl

end

end Cert.MixOut

end
-- ==== Proof.MixOutKernel.lean ====
/- The first layer's output product: every grid point's block is the specification's, and the blocks tile the array. -/
module

public import proofs.«01_k».proof.Proof.MixOutBody

@[expose] public section
set_option maxRecDepth 16384

noncomputable section

namespace Cert.MixOut

open Idealize.ShloMosaic Cert.Kernel10Ideal Cert.Kernel10Ideal.Gen Idealize.ShloMosaic.TcCoe Idealize.SL.Sem
open Idealize.ShloMosaic.Pipeline (Dat)

variable (m : (ℓ : Loc nD τ sig) → Buf (Elt Ideal) ℓ)

/-! ## The block indices over the grid: point `t` is column block `t / 12`, row block `t % 12` -/

theorem N_eq : cfg0.N = 48 := N_0

theorem bx0 : ∀ t : Fin grid0.N, win0_0.index t 0 = t.val % 12 := by decide +kernel
theorem bx1 : ∀ t : Fin grid0.N, win0_0.index t 1 = 0 := by decide +kernel
theorem by0 : ∀ t : Fin grid0.N, win0_1.index t 0 = t.val % 12 := by decide +kernel
theorem by1 : ∀ t : Fin grid0.N, win0_1.index t 1 = 0 := by decide +kernel
theorem bw0 : ∀ t : Fin grid0.N, win0_2.index t 0 = 0 := by decide +kernel
theorem bw1 : ∀ t : Fin grid0.N, win0_2.index t 1 = t.val / 12 := by decide +kernel
theorem bh0 : ∀ t : Fin grid0.N, win0_3.index t 0 = t.val % 12 := by decide +kernel
theorem bh1 : ∀ t : Fin grid0.N, win0_3.index t 1 = t.val / 12 := by decide +kernel
theorem bm0 : ∀ t : Fin grid0.N, win0_4.index t 0 = if t.val % 12 < 8 then 0 else if t.val % 12 < 10 then 1 else 2 := by decide +kernel
theorem bm1 : ∀ t : Fin grid0.N, win0_4.index t 1 = 0 := by decide +kernel
theorem bm2 : ∀ t : Fin grid0.N, win0_4.index t 2 = t.val / 12 := by decide +kernel
theorem bo0 : ∀ t : Fin grid0.N, win0_5.index t 0 = t.val % 12 := by decide +kernel
theorem bo1 : ∀ t : Fin grid0.N, win0_5.index t 1 = t.val / 12 := by decide +kernel

/-- The row of the array that is row `i` of a point's block, and the column that is its column `n`. -/
def row (t : Fin cfg0.N) (i : Fin 1024) : Fin 12288 := ⟨t.val % 12 * 1024 + i.val, by omega⟩
def col (t : Fin cfg0.N) (n : Fin 512) : Fin 2048 := ⟨t.val / 12 * 512 + n.val, by have := t.isLt; have := N_eq; omega⟩

/-- The scan's part of the mixed tokens, the attention's, the weights, the stream and the conditioning as launched. -/
abbrev xArr (c : Dev nD) : S12288x1024.Idx → EReal := m ((c : Thread nD τ).loc main_arg0)
abbrev yArr (c : Dev nD) : S12288x1024.Idx → EReal := m ((c : Thread nD τ).loc main_arg1)
abbrev wArr (c : Dev nD) : S2048x2048.Idx → EReal := m ((c : Thread nD τ).loc main_arg4)
abbrev hArr (c : Dev nD) : S12288x2048.Idx → EReal := m ((c : Thread nD τ).loc main_arg2)
abbrev mArr (c : Dev nD) : S3x8x2048.Idx → EReal := m ((c : Thread nD τ).loc main_arg3)

/-- The block of the scan's part of a point. -/
theorem x_blk (c : Dev nD) (t : Fin cfg0.N) (i : Fin 1024) (k : Fin 1024) :
    (iblk m c 0 t : Vec Ideal S1024x1024 .bf16) (ix2 i k) = xArr m c (ix2 (row t i) k) := by
  unfold iblk
  rw [View.read_apply]
  show V m c main_arg0 _ = m (c.tc.loc main_arg0) _
  rw [V_main_arg0]
  congr 1
  funext a
  apply Fin.ext
  match a with
  | ⟨0, _⟩ => show win0_0.index t 0 * 1024 + 1 * i.val = t.val % 12 * 1024 + i.val; rw [bx0]; omega
  | ⟨1, _⟩ => show win0_0.index t 1 * 1024 + 1 * k.val = k.val; rw [bx1]; omega

/-- The block of the attention's part of a point. -/
theorem y_blk (c : Dev nD) (t : Fin cfg0.N) (i : Fin 1024) (k : Fin 1024) :
    (iblk m c 1 t : Vec Ideal S1024x1024 .bf16) (ix2 i k) = yArr m c (ix2 (row t i) k) := by
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * i.val = t.val % 12 * 1024 + i.val; rw [by0]; omega
  | ⟨1, _⟩ => show win0_1.index t 1 * 1024 + 1 * k.val = k.val; rw [by1]; omega

/-- The weight block of a point. -/
theorem w_blk (c : Dev nD) (t : Fin cfg0.N) (k : Fin 2048) (n : Fin 512) :
    (iblk m c 2 t : Vec Ideal S2048x512 .f32) (ix2 k n) = wArr m c (ix2 k (col t n)) := by
  unfold iblk
  rw [View.read_apply]
  show V m c main_arg4 _ = m (c.tc.loc main_arg4) _
  rw [V_main_arg4]
  congr 1
  funext a
  apply Fin.ext
  match a with
  | ⟨0, _⟩ => show win0_2.index t 0 * 2048 + 1 * k.val = k.val; rw [bw0]; omega
  | ⟨1, _⟩ => show win0_2.index t 1 * 512 + 1 * n.val = t.val / 12 * 512 + n.val; rw [bw1]; omega

/-- The block of the stream of a point. -/
theorem h_blk (c : Dev nD) (t : Fin cfg0.N) (i : Fin 1024) (n : Fin 512) :
    (iblk m c 3 t : Vec Ideal S1024x512 .f32) (ix2 i n) = hArr m c (ix2 (row t i) (col t n)) := by
  unfold iblk
  rw [View.read_apply]
  show V m c main_arg2 _ = m (c.tc.loc main_arg2) _
  rw [V_main_arg2]
  congr 1
  funext a
  apply Fin.ext
  match a with
  | ⟨0, _⟩ => show win0_3.index t 0 * 1024 + 1 * i.val = t.val % 12 * 1024 + i.val; rw [bh0]; omega
  | ⟨1, _⟩ => show win0_3.index t 1 * 512 + 1 * n.val = t.val / 12 * 512 + n.val; rw [bh1]; omega

/-- The block of the conditioning of a point: all its tokens take the same one. -/
theorem m_blk (c : Dev nD) (t : Fin cfg0.N) (i : Fin 1024) (n : Fin 512) :
    (iblk m c 4 t : Vec Ideal S1x8x512 .f32) (ix3 0 2 n) = Gate.gate (mArr m c) (row t i) (col t n) := by
  have hc : (Gate.condOf (row t i)).val = if t.val % 12 < 8 then 0 else if t.val % 12 < 10 then 1 else 2 := by
    have hr : (row t i).val = t.val % 12 * 1024 + i.val := rfl
    unfold Gate.condOf
    rw [hr]
    have := i.isLt
    by_cases h8 : t.val % 12 < 8
    · rw [if_pos h8, if_pos (by omega)]; rfl
    · rw [if_neg h8, if_neg (by omega)]
      by_cases h10 : t.val % 12 < 10
      · rw [if_pos h10, if_pos (by omega)]; rfl
      · rw [if_neg h10, if_neg (by omega)]; rfl
  unfold iblk Gate.gate
  rw [View.read_apply]
  show V m c main_arg3 _ = m (c.tc.loc main_arg3) _
  rw [V_main_arg3]
  congr 1
  funext a
  apply Fin.ext
  match a with
  | ⟨0, _⟩ => show win0_4.index t 0 * 1 + 1 * 0 = (Gate.condOf (row t i)).val; rw [bm0, hc]; omega
  | ⟨1, _⟩ => show win0_4.index t 1 * 8 + 1 * 2 = 2; rw [bm1]
  | ⟨2, _⟩ => show win0_4.index t 2 * 512 + 1 * n.val = t.val / 12 * 512 + n.val; rw [bm2]; omega

/-- After every point the copy holds the weights of the point's column block. -/
theorem copy_holds (c : Dev nD) : ∀ (t : Nat) (ht : t < cfg0.N) (k : Fin 2048) (n : Fin 512),
    (outsAt0 m c t ht).2 (ix2 k n) = wArr m c (ix2 k (col ⟨t, ht⟩ n)) := by
  intro t
  induction t with
  | zero =>
    intro ht k n
    have e := outsAt0_A m c ⟨0, ht⟩ (Nat.zero_mod _)
    dsimp only at e
    rw [e]
    dsimp only
    rw [copy_first, copy_apply, w_blk]
  | succ t ih =>
    intro ht k n
    by_cases h0 : (t + 1) % 12 = 0
    · have e := outsAt0_A m c ⟨t + 1, ht⟩ h0
      dsimp only at e
      rw [e]
      dsimp only
      rw [copy_first, copy_apply, w_blk]
    · have e := outsAt0_B m c ⟨t + 1, ht⟩ h0
      dsimp only at e
      rw [e]
      dsimp only
      rw [copy_later]
      refine (ih (Nat.lt_of_succ_lt ht) k n).trans (congrArg (fun q => wArr m c (ix2 k q)) (Fin.ext ?_))
      show t / 12 * 512 + n.val = (t + 1) / 12 * 512 + n.val
      rw [show (t + 1) / 12 = t / 12 by omega]

/-- The whole result, as contents of the result array. -/
def result (c : Dev nD) : Buf (Elt Ideal) ((c : Thread nD τ).loc main_v0) :=
  Gate.add (hArr m c) (mArr m c) fun r n =>
    Join.prod (xArr m c) (yArr m c) (wArr m c) r n

/-- What a point writes, at row `i` and column `n` of its block. -/
theorem blk_apply (c : Dev nD) (t : Fin cfg0.N) (s : Vec Ideal S2048x512 .bf16)
    (hs : ∀ (k : Fin 2048) (n : Fin 512), s (ix2 k n) = wArr m c (ix2 k (col t n))) (i : Fin 1024) (n : Fin 512) :
    k0_pay2 (F := Ideal) (iblk m c 0 t) (top s) (iblk m c 1 t) (bot s) (iblk m c 3 t) (gateRow (iblk m c 4 t)) (ix2 i n)
      = result m c (ix2 (row t i) (col t n)) := by
  rw [block_apply, gateRow_apply, h_blk, m_blk m c t i n]
  refine congrArg (fun q : EReal => hArr m c (ix2 (row t i) (col t n)) + Gate.gate (mArr m c) (row t i) (col t n) * q)
    (congrArg₂ (fun a b : EReal => a + b) (Finset.sum_congr rfl fun k _ => ?_) (Finset.sum_congr rfl fun k _ => ?_))
  · rw [x_blk, top_apply, hs]
    rfl
  · rw [y_blk, bot_apply, hs]
    rfl

/-- The output block is whole: cutting it changes nothing. -/
theorem cut5 (t : Fin cfg0.N) (X : Vec Ideal S1024x512 .f32) (i : Fin 1024) (n : Fin 512) :
    (cfg0.win 5).cut (grid0.coords t) X (ix2 i n) = X (ix2 i n) :=
  congrArg X (funext fun a => by fin_cases a <;> rfl)

/-- Where row `i`, column `n` of a point's block lies in the result array. -/
theorem emb5 (t : Fin cfg0.N) (i : Fin 1024) (n : Fin 512) :
    ((cfg0.win 5).blk t).view.emb (ix2 i n) = (ix2 (row t i) (col t n) : S12288x2048.Idx) := by
  funext a
  apply Fin.ext
  match a with
  | ⟨0, _⟩ => show win0_5.index t 0 * 1024 + 1 * i.val = t.val % 12 * 1024 + i.val; rw [bo0]; omega
  | ⟨1, _⟩ => show win0_5.index t 1 * 512 + 1 * n.val = t.val / 12 * 512 + n.val; rw [bo1]; omega

/-- What a point writes back is its block of the result. -/
theorem flushed_eq (c : Dev nD) (t : Fin cfg0.N) :
    (dats m 0 c).flushed 5 t = ((cfg0.win 5).blk t).view.read (Elt Ideal) (result m c) := by
  funext y
  rw [View.read_apply]
  obtain ⟨i, n, rfl⟩ : ∃ (i : Fin 1024) (n : Fin 512), y = ix2 i n := ⟨y 0, y 1, (ix2_eta (n0 := 1024) (n1 := 512) y).symm⟩
  rw [emb5]
  by_cases h0 : t.val % 12 = 0
  · rw [Value.flushed5_A m c t h0, cut5, out_first]
    exact blk_apply m c t _ (fun k n => by rw [copy_apply, w_blk]) i n
  · rw [Value.flushed5_B m c t h0, cut5, out_later]
    refine blk_apply m c t _ (fun k n => ?_) i n
    refine (copy_holds m c (t.val - 1) _ k n).trans (congrArg (fun q => wArr m c (ix2 k q)) (Fin.ext ?_))
    show (t.val - 1) / 12 * 512 + n.val = t.val / 12 * 512 + n.val
    rw [show (t.val - 1) / 12 = t.val / 12 by omega]

/-- The result array after the run. -/
theorem final_o (c : Dev nD) : (dats m 0 c).arrAt 5 cfg0.N = result m c :=
  (dats m 0 c).arrAt_eq_of_cover 5 (result m c) (fun t _ => flushed_eq m c t) fun x =>
    (Value.covered_iff5 x).2 ⟨Nat.zero_le _, (x 0).isLt, Nat.zero_le _, (x 1).isLt⟩

/-- The kernel's run, its result named. -/
theorem run_kernel (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final_o m c), (h c).2⟩) (Value.run_blocks m ρ)

end Cert.MixOut

end
-- ==== Proof.MixOutRef.lean ====
/- The reference of the first layer's output product, read at an index. -/
module

public import proofs.«01_k».proof.Proof.JoinSpec
public import proofs.«01_k».proof.Proof.Gen.Reference10Ideal.Read

@[expose] public section
set_option maxRecDepth 16384

noncomputable section

namespace Cert.MixOut.Ref

open Idealize.ShloMosaic Cert.Reference10Ideal Cert.Reference10Ideal.Gen Cert.Reference10Ideal.Read
open ValueIdx (ix1 ix2 ix3)

/-- The mixed tokens: the scan's part on the left, the attention's on the right. -/
theorem left_apply (x0 x1 : S12288x1024.Idx → EReal) (r : Fin 12288) (k : Fin 1024) :
    val_main_v0 (F := Ideal) x0 x1 (ix2 r (Join.upper k)) = x0 (ix2 r k) :=
  concatenate_pair_apply_left (1 : Fin S12288x2048.rank) x0 x1 concatenates_S12288x1024_S12288x1024_S12288x2048_d1
    (ix2 r (Join.upper k)) rfl (ix2 r k) (fun b => by fin_cases b <;> rfl)

theorem right_apply (x0 x1 : S12288x1024.Idx → EReal) (r : Fin 12288) (k : Fin 1024) :
    val_main_v0 (F := Ideal) x0 x1 (ix2 r (Join.lower k)) = x1 (ix2 r k) := by
  refine concatenate_pair_apply_right (1 : Fin S12288x2048.rank) x0 x1 concatenates_S12288x1024_S12288x1024_S12288x2048_d1
    (ix2 r (Join.lower k)) rfl rfl (ix2 r k) (fun b hb => ?_) ?_
  · fin_cases b
    · rfl
    · exact absurd rfl hb
  · show k.val + 1024 = 1024 + k.val
    omega

/-- The mix: the product of the two parts side by side with the weights. -/
theorem mix_apply (x0 x1 : S12288x1024.Idx → EReal) (x4 : S2048x2048.Idx → EReal) (r : Fin 12288) (n : Fin 2048) :
    val_main_v2 (F := Ideal) x0 x1 x4 (ix2 r n) = Join.prod x0 x1 x4 r n := by
  rw [val_main_v2_apply]
  have hl : ∀ k : Fin 2048, lidx_main_v2 (ix2 r n) k = ix2 r k := fun k => funext fun a => by fin_cases a <;> rfl
  have hr : ∀ k : Fin 2048, ridx_main_v2 (ix2 r n) k = ix2 k n := fun k => funext fun a => by fin_cases a <;> rfl
  rw [Join.sum_halves]
  refine congrArg₂ (fun a b : EReal => a + b) (Finset.sum_congr rfl fun k _ => ?_) (Finset.sum_congr rfl fun k _ => ?_)
  · rw [hl, hr, ← left_apply x0 x1 r k]
    rfl
  · rw [hl, hr, ← right_apply x0 x1 r k]
    rfl

/-- The mixer's gates: row 2 of each conditioning. -/
theorem gates_apply (x3 : S3x8x2048.Idx → EReal) (q : Fin 3) (n : Fin 2048) :
    val_main_v4 (F := Ideal) x3 (ix2 q n) = x3 (ix3 q 2 n) := by
  rw [val_main_v4_apply, val_main_v3_apply]
  refine congrArg x3 (funext fun a => Fin.ext ?_)
  have := q.isLt
  have := n.isLt
  match a with
  | ⟨0, _⟩ => show (q.val * 2048 + n.val) / 2048 = q.val; omega
  | ⟨1, _⟩ => rfl
  | ⟨2, _⟩ => show (q.val * 2048 + n.val) % 2048 = n.val; omega

/-- The gate of a token: the comparisons of its number pick its conditioning. -/
theorem gate_apply (x3 : S3x8x2048.Idx → EReal) (r : Fin 12288) (n : Fin 2048) :
    val_main_v17 (F := Ideal) x3 (ix2 r n) = Gate.gate x3 r n := by
  have g0 : val_main_call1_v1 (F := Ideal) x3 (ix2 r n) = x3 (ix3 0 2 n) := by
    rw [val_main_call1_v1_apply, val_main_v9_apply, val_main_v8_apply, ← gates_apply x3 0 n]
    exact congrArg _ (funext fun a => Fin.ext (by fin_cases a <;> simp))
  have g1 : val_main_call0_v1 (F := Ideal) x3 (ix2 r n) = x3 (ix3 1 2 n) := by
    rw [val_main_call0_v1_apply, val_main_v13_apply, val_main_v12_apply, ← gates_apply x3 1 n]
    exact congrArg _ (funext fun a => Fin.ext (by fin_cases a <;> simp))
  have g2 : val_main_call0_v2 (F := Ideal) x3 (ix2 r n) = x3 (ix3 2 2 n) := by
    rw [val_main_call0_v2_apply, val_main_v15_apply, val_main_v14_apply, ← gates_apply x3 2 n]
    exact congrArg _ (funext fun a => Fin.ext (by fin_cases a <;> simp))
  have c1 : val_main_call1_v0 (F := Ideal) (ix2 r n) = if r.val < 8192 then 1#1 else 0#1 := by
    rw [val_main_call1_v0_apply, val_main_v7_apply, val_main_v5_apply, val_main_v6_apply, val_main_c_apply]
    exact Gate.below r.val r.isLt 8192 (by decide)
  have c0 : val_main_call0_v0 (F := Ideal) (ix2 r n) = if r.val < 10240 then 1#1 else 0#1 := by
    rw [val_main_call0_v0_apply, val_main_v11_apply, val_main_v5_apply, val_main_v10_apply, val_main_c_0_apply]
    exact Gate.below r.val r.isLt 10240 (by decide)
  rw [val_main_v17_apply, c1, g0, val_main_v16_apply, c0, g1, g2]
  unfold Gate.gate Gate.condOf
  by_cases h8 : r.val < 8192
  · rw [if_pos h8, if_pos h8]; rfl
  · rw [if_neg h8, if_neg h8]
    by_cases h10 : r.val < 10240
    · rw [if_pos h10, if_pos h10]; rfl
    · rw [if_neg h10, if_neg h10]; rfl

/-- The reference's result is the specification's array. -/
theorem out_eq (x0 x1 : S12288x1024.Idx → EReal) (x2 : S12288x2048.Idx → EReal) (x3 : S3x8x2048.Idx → EReal)
    (x4 : S2048x2048.Idx → EReal) :
    val_main_v19 (F := Ideal) x0 x1 x2 x3 x4 = Gate.add x2 x3 fun r n => Join.prod x0 x1 x4 r n := by
  funext y
  obtain ⟨r, n, rfl⟩ : ∃ (r : Fin 12288) (n : Fin 2048), y = ix2 r n := ⟨y 0, y 1, funext fun a => by fin_cases a <;> rfl⟩
  rw [val_main_v19_apply, val_main_v18_apply, gate_apply, mix_apply]
  rfl

end Cert.MixOut.Ref

end
-- ==== Proof.MixOutClaims.lean ====
/- The five claims of the first layer's output product. -/
module

public import proofs.«01_k».proof.Defs
public import proofs.«01_k».proof.Proof.MixOutKernel
public import proofs.«01_k».proof.Proof.MixOutRef
public import proofs.«01_k».proof.Proof.Gen.Kernel10.Frame
public import proofs.«01_k».proof.Proof.Gen.Reference10Ideal.Run
public import Idealize.ShloMosaic.Lib.Quiescent

@[expose] public section
set_option maxRecDepth 16384

noncomputable section

namespace Cert.Proof

open Idealize.ShloMosaic Idealize.SL.Sem

/-- The kernel returns and leaves its arguments and counters alone. -/
theorem mix_out_frame : Cert.quiescent_Kernel10 := fun m ρ _ => Cert.Kernel10.Gen.frame m ρ

/-- So does its idealization … -/
theorem mix_out_frame_ideal : Cert.quiescent_Kernel10Ideal := fun m ρ _ => Cert.Kernel10Ideal.Gen.frame m ρ

/-- … and the reference, which is host operations alone. -/
theorem mix_out_frame_ref : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- Over the extended reals the kernel's result is the reference's: both are the specification's array of the same
    arguments. -/
theorem mix_out_algebraic : Cert.algebraic_Kernel10Ideal_Reference10Ideal := by
  intro m ρ m' ρ' _ hagree
  refine ⟨fun c => MixOut.result m c, MixOut.run_kernel m ρ, ?_⟩
  refine (θ_run Cert.Reference10Ideal.defs _ _).mono (fun r h c => ⟨(h c).1.trans ?_, (h c).2⟩)
    (Cert.Reference10Ideal.Value.run (F := Ideal) m' ρ')
  obtain ⟨h0, h1, h2, h3, h4⟩ := hagree c
  rw [Cert.Reference10Ideal.Read.val_main_v19_eq, h0, h1, h2, h3, h4]
  exact MixOut.Ref.out_eq _ _ _ _ _

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_down_experts_in_range
public import proofs.«01_k».proof.Proof.AttnClaims
public import proofs.«01_k».proof.Proof.DownClaims
public import proofs.«01_k».proof.Proof.UpClaims
public import proofs.«01_k».proof.Proof.HyClaims
public import proofs.«01_k».proof.Proof.QkvClaims
public import proofs.«01_k».proof.Proof.NormPClaims
public import proofs.«01_k».proof.Proof.NormSClaims
public import proofs.«01_k».proof.Proof.SsdClaims
public import proofs.«01_k».proof.Proof.HyOutClaims
public import proofs.«01_k».proof.Proof.MixOutClaims
public import Idealize.ShloMosaic.Adequacy
public import Idealize.ShloMosaic.Init
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Pre_up_experts_in_range
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read

@[expose] public section

noncomputable section

namespace Cert.Proof

open Idealize.ShloMosaic Idealize.SL.Sem Cert.Kernel

/-- The certificate's claims, together. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Pre_down_experts_in_range.Gen.facts, Cert.Pre_up_experts_in_range.Gen.facts,
  attn_frame, attn_frame_ideal, attn_frame_ref, down_frame, down_frame_ideal, down_frame_ref,
  up_frame, up_frame_ideal, up_frame_ref, hy_frame, hy_frame_ideal, hy_frame_ref,
  qkv_frame, qkv_frame_ideal, qkv_frame_ref,
  norm_prompt_frame, norm_prompt_frame_ideal, norm_prompt_frame_ref,
  norm_sample_frame, norm_sample_frame_ideal, norm_sample_frame_ref,
  ssd_frame, ssd_frame_ideal, ssd_frame_ref, hy_out_frame, hy_out_frame_ideal, hy_out_frame_ref,
  mix_out_frame, mix_out_frame_ideal, mix_out_frame_ref,
  trivial, attn_algebraic, trivial, down_algebraic, trivial, up_algebraic, trivial, hy_algebraic,
  trivial, qkv_algebraic, trivial, norm_prompt_algebraic, trivial, norm_sample_algebraic, trivial, ssd_algebraic,
  trivial, hy_out_algebraic, trivial, mix_out_algebraic⟩

end Cert.Proof

end
